-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)) (v2 : (c : Dev Cert.Kernel2Ideal.nD) → Buf (Elt Ideal) ((c.tc : Thread Cert.Kernel2Ideal.nD Cert.Kernel2Ideal.τ).loc Cert.Kernel2Ideal.main_v9_2)) (v3 : (c : Dev Cert.Kernel2Ideal.nD) → Buf (Elt Ideal) ((c.tc : Thread Cert.Kernel2Ideal.nD Cert.Kernel2Ideal.τ).loc Cert.Kernel2Ideal.main_v9_3)) (v4 : (c : Dev Cert.Kernel2Ideal.nD) → Buf (Elt Ideal) ((c.tc : Thread Cert.Kernel2Ideal.nD Cert.Kernel2Ideal.τ).loc Cert.Kernel2Ideal.main_v9_4)) (v5 : (c : Dev Cert.Kernel2Ideal.nD) → Buf (Elt Ideal) ((c.tc : Thread Cert.Kernel2Ideal.nD Cert.Kernel2Ideal.τ).loc Cert.Kernel2Ideal.main_v9_5)) (v6 : (c : Dev Cert.Kernel2Ideal.nD) → Buf (Elt Ideal) ((c.tc : Thread Cert.Kernel2Ideal.nD Cert.Kernel2Ideal.τ).loc Cert.Kernel2Ideal.main_v9_6)) (v7 : (c : Dev Cert.Kernel2Ideal.nD) → Buf (Elt Ideal) ((c.tc : Thread Cert.Kernel2Ideal.nD Cert.Kernel2Ideal.τ).loc Cert.Kernel2Ideal.main_v9_7)) (v8 : (c : Dev Cert.Kernel2Ideal.nD) → Buf (Elt Ideal) ((c.tc : Thread Cert.Kernel2Ideal.nD Cert.Kernel2Ideal.τ).loc Cert.Kernel2Ideal.main_v9_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_v9_2) = v2 c
          ∧ r.2.mem ((c.tc : Thread Cert.Kernel2Ideal.nD Cert.Kernel2Ideal.τ).loc Cert.Kernel2Ideal.main_v9_3) = v3 c
          ∧ r.2.mem ((c.tc : Thread Cert.Kernel2Ideal.nD Cert.Kernel2Ideal.τ).loc Cert.Kernel2Ideal.main_v9_4) = v4 c
          ∧ r.2.mem ((c.tc : Thread Cert.Kernel2Ideal.nD Cert.Kernel2Ideal.τ).loc Cert.Kernel2Ideal.main_v9_5) = v5 c
          ∧ r.2.mem ((c.tc : Thread Cert.Kernel2Ideal.nD Cert.Kernel2Ideal.τ).loc Cert.Kernel2Ideal.main_v9_6) = v6 c
          ∧ r.2.mem ((c.tc : Thread Cert.Kernel2Ideal.nD Cert.Kernel2Ideal.τ).loc Cert.Kernel2Ideal.main_v9_7) = v7 c
          ∧ r.2.mem ((c.tc : Thread Cert.Kernel2Ideal.nD Cert.Kernel2Ideal.τ).loc Cert.Kernel2Ideal.main_v9_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_v41) = v2 c
          ∧ r.2.mem ((c.tc : Thread Cert.Reference2Ideal.nD Cert.Reference2Ideal.τ).loc Cert.Reference2Ideal.main_v42) = v3 c
          ∧ r.2.mem ((c.tc : Thread Cert.Reference2Ideal.nD Cert.Reference2Ideal.τ).loc Cert.Reference2Ideal.main_v44) = v4 c
          ∧ r.2.mem ((c.tc : Thread Cert.Reference2Ideal.nD Cert.Reference2Ideal.τ).loc Cert.Reference2Ideal.main_v46) = v5 c
          ∧ r.2.mem ((c.tc : Thread Cert.Reference2Ideal.nD Cert.Reference2Ideal.τ).loc Cert.Reference2Ideal.main_v48) = v6 c
          ∧ r.2.mem ((c.tc : Thread Cert.Reference2Ideal.nD Cert.Reference2Ideal.τ).loc Cert.Reference2Ideal.main_v50) = v7 c
          ∧ r.2.mem ((c.tc : Thread Cert.Reference2Ideal.nD Cert.Reference2Ideal.τ).loc Cert.Reference2Ideal.main_v52) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S8x2048x2048 : Shape := ⟨3, ![8, 2048, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S512x2048 : Shape := ⟨2, ![512, 2048]⟩
abbrev S2x512x2048 : Shape := ⟨3, ![2, 512, 2048]⟩
abbrev S2 : Shape := ⟨1, ![2]⟩
abbrev S2x2048x2048 : Shape := ⟨3, ![2, 2048, 2048]⟩
abbrev S1 : Shape := ⟨1, ![1]⟩
abbrev S_ : Shape := ⟨0, ![]⟩
abbrev S1x512x2048 : Shape := ⟨3, ![1, 512, 2048]⟩
abbrev S1x2048x2048 : Shape := ⟨3, ![1, 2048, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 7
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S1x2048, .f32⟩
  | .hbm, ⟨5, _⟩ => ⟨S16384x2048, .f32⟩
  | .hbm, ⟨6, _⟩ => ⟨S2048, .f32⟩
  | .hbm, ⟨7, _⟩ => ⟨S1x2048, .f32⟩
  | .hbm, ⟨8, _⟩ => ⟨S2048x8192, .f32⟩
  | .hbm, ⟨9, _⟩ => ⟨S2048x8192, .bf16⟩
  | .hbm, ⟨10, _⟩ => ⟨S8192x2048, .f32⟩
  | .hbm, ⟨11, _⟩ => ⟨S8192x2048, .bf16⟩
  | .hbm, ⟨12, _⟩ => ⟨S2048, .f32⟩
  | .hbm, ⟨13, _⟩ => ⟨S1x2048, .f32⟩
  | .hbm, ⟨14, _⟩ => ⟨S16384x2048, .f32⟩
  | .local _ .vmem, ⟨0, _⟩ => ⟨S1x2048, .f32⟩
  | .local _ .vmem, ⟨1, _⟩ => ⟨S1x2048, .f32⟩
  | .local _ .vmem, ⟨2, _⟩ => ⟨S512x2048, .bf16⟩
  | .local _ .vmem, ⟨3, _⟩ => ⟨S2x512x2048, .f32⟩
  | .local _ .vmem, ⟨4, _⟩ => ⟨S2x2048x2048, .bf16⟩
  | .local _ .vmem, ⟨5, _⟩ => ⟨S2x2048x2048, .bf16⟩
  | .local _ .vmem, ⟨6, _⟩ => ⟨S2x512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scoped0 : Ref sig .tc := ⟨.vmem, 3, rfl⟩
abbrev cc0_scoped2 : Ref sig .tc := ⟨.vmem, 4, rfl⟩
abbrev cc0_scoped4 : Ref sig .tc := ⟨.vmem, 5, rfl⟩
abbrev cc0_scoped6 : Ref sig .tc := ⟨.vmem, 6, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 : Fin 1 → Nat :=
  let c0_i32_30_r0 : BitVec 32 := 0#32
  let c2_i32_r0 : BitVec 32 := 2#32
  let v32_r0 : BitVec 32 := Scalar.remui c0_i32_30_r0 c2_i32_r0
  ![v32_r0.toNat]
def k0_off2 : Fin 3 → Nat :=
  let c0_i32_30_r0 : BitVec 32 := 0#32
  let c2_i32_r0 : BitVec 32 := 2#32
  let v32_r0 : BitVec 32 := Scalar.remui c0_i32_30_r0 c2_i32_r0
  let c0_i32_31_r0 : BitVec 32 := 0#32
  let c0_i32_32_r0 : BitVec 32 := 0#32
  ![v32_r0.toNat, 0, 0]
def k0_off3 : Fin 2 → Nat :=
  let c512_i32_r0 : BitVec 32 := 512#32
  let c0_i32_26_r0 : BitVec 32 := 0#32
  let c0_i32_27_r0 : BitVec 32 := 0#32
  let v30_r0 : BitVec 32 := Scalar.addi c0_i32_26_r0 c0_i32_27_r0
  let v33_r0 : BitVec 32 := Scalar.muli c512_i32_r0 v30_r0
  let c0_i32_33_r0 : BitVec 32 := 0#32
  ![v33_r0.toNat, 0]
def k0_off4 : Fin 3 → Nat :=
  let c0_i32_36_r0 : BitVec 32 := 0#32
  let c2_i32_37_r0 : BitVec 32 := 2#32
  let v40_r0 : BitVec 32 := Scalar.remui c0_i32_36_r0 c2_i32_37_r0
  let c0_i32_38_r0 : BitVec 32 := 0#32
  let c0_i32_39_r0 : BitVec 32 := 0#32
  ![v40_r0.toNat, 0, 0]
@[reducible] def k0_t1_loop : Scf.Loop 32 :=
  let c0_i32_61_r0 : BitVec 32 := 0#32
  let c128_i32_r0 : BitVec 32 := 128#32
  let v54_r0 : BitVec 32 := Scalar.addi c0_i32_61_r0 c128_i32_r0
  let c1_i32_62_r0 : BitVec 32 := 1#32
  ⟨c0_i32_61_r0, v54_r0, c1_i32_62_r0⟩
def k0_off5 (arg24_r0 : BitVec 32) : Fin 1 → Nat :=
  let c2_i32_221_r0 : BitVec 32 := 2#32
  let v297_r0 : BitVec 32 := Scalar.remui arg24_r0 c2_i32_221_r0
  ![v297_r0.toNat]
def k0_cond1 (arg20_r0 : BitVec 32) (arg22_r0 : BitVec 32) : BitVec 1 :=
  let c0_i32_209_r0 : BitVec 32 := 0#32
  let v281_r0 : BitVec 32 := Scalar.addi arg20_r0 c0_i32_209_r0
  let c0_i32_211_r0 : BitVec 32 := 0#32
  let v283_r0 : BitVec 32 := Scalar.addi arg22_r0 c0_i32_211_r0
  let v285_r0 : BitVec 1 := Scalar.cmpi .ne v281_r0 v283_r0
  let v286_r0 : BitVec 32 := Scalar.extui v285_r0
  let c0_i32_213_r0 : BitVec 32 := 0#32
  let v287_r0 : BitVec 1 := Scalar.cmpi .ne v286_r0 c0_i32_213_r0
  v287_r0

def k0_off6 (arg24_r0 : BitVec 32) : Fin 3 → Nat :=
  let c2_i32_221_r0 : BitVec 32 := 2#32
  let v297_r0 : BitVec 32 := Scalar.remui arg24_r0 c2_i32_221_r0
  let c0_i32_223_r0 : BitVec 32 := 0#32
  let c0_i32_224_r0 : BitVec 32 := 0#32
  ![v297_r0.toNat, 0, 0]

def k0_chk1 (arg20_r0 : BitVec 32) (arg22_r0 : BitVec 32) (arg24_r0 : BitVec 32) : Prop :=
  (∀ (k0_h1 : k0_cond1 arg20_r0 arg22_r0 = 1#1), ∀ a, (k0_off5 arg24_r0) a + S1.size a ≤ S2.size a) ∧
  (∀ (k0_h1 : k0_cond1 arg20_r0 arg22_r0 = 1#1), ∀ a, (k0_off6 arg24_r0) a + S1x512x2048.size a ≤ S2x512x2048.size a)
theorem k0_off5_inb : ∀ (arg20_r0 : BitVec 32) (arg22_r0 : BitVec 32) (arg24_r0 : BitVec 32) (k0_hw1 : k0_chk1 arg20_r0 arg22_r0 arg24_r0), ∀ (k0_h1 : k0_cond1 arg20_r0 arg22_r0 = 1#1), ∀ a, (k0_off5 arg24_r0) a + S1.size a ≤ S2.size a := fun arg20_r0 arg22_r0 arg24_r0 k0_hw1 k0_h1 => k0_hw1.1 k0_h1
theorem k0_off6_inb : ∀ (arg20_r0 : BitVec 32) (arg22_r0 : BitVec 32) (arg24_r0 : BitVec 32) (k0_hw1 : k0_chk1 arg20_r0 arg22_r0 arg24_r0), ∀ (k0_h1 : k0_cond1 arg20_r0 arg22_r0 = 1#1), ∀ a, (k0_off6 arg24_r0) a + S1x512x2048.size a ≤ S2x512x2048.size a := fun arg20_r0 arg22_r0 arg24_r0 k0_hw1 k0_h1 => k0_hw1.2 k0_h1

def k0_off7 (arg22_r0 : BitVec 32) : Fin 2 → Nat :=
  let c512_i32_222_r0 : BitVec 32 := 512#32
  let c0_i32_211_r0 : BitVec 32 := 0#32
  let v283_r0 : BitVec 32 := Scalar.addi arg22_r0 c0_i32_211_r0
  let v298_r0 : BitVec 32 := Scalar.muli c512_i32_222_r0 v283_r0
  let c0_i32_225_r0 : BitVec 32 := 0#32
  ![v298_r0.toNat, 0]

def k0_chk2 (arg20_r0 : BitVec 32) (arg22_r0 : BitVec 32) : Prop :=
  (∀ (k0_h1 : k0_cond1 arg20_r0 arg22_r0 = 1#1), ∀ a, (k0_off7 arg22_r0) a + S512x2048.size a ≤ S16384x2048.size a)
theorem k0_off7_inb : ∀ (arg20_r0 : BitVec 32) (arg22_r0 : BitVec 32) (k0_hw2 : k0_chk2 arg20_r0 arg22_r0), ∀ (k0_h1 : k0_cond1 arg20_r0 arg22_r0 = 1#1), ∀ a, (k0_off7 arg22_r0) a + S512x2048.size a ≤ S16384x2048.size a := fun arg20_r0 arg22_r0 k0_hw2 k0_h1 => k0_hw2 k0_h1

def k0_off8 (arg12_r0 : BitVec 32) : Fin 1 → Nat :=
  let c2_i32_209_r0 : BitVec 32 := 2#32
  let v281_r0 : BitVec 32 := Scalar.remui arg12_r0 c2_i32_209_r0
  ![v281_r0.toNat]
def k0_cond2 (k0_t1 : Fin k0_t1_loop.trips) (arg19_r0 : BitVec 32) : BitVec 1 :=
  let c0_i32_107_r0 : BitVec 32 := 0#32
  let v106_r0 : BitVec 32 := Scalar.addi arg19_r0 c0_i32_107_r0
  let true_118_r0 : BitVec 1 := 1#1
  let c1_i32_117_r0 : BitVec 32 := 1#32
  let v117_r0 : BitVec 32 := Scalar.addi arg19_r0 c1_i32_117_r0
  let v118_r0 : BitVec 32 := Scalar.select true_118_r0 v117_r0 arg19_r0
  let c4_i32_119_r0 : BitVec 32 := 4#32
  let v119_r0 : BitVec 1 := Scalar.cmpi .eq v118_r0 c4_i32_119_r0
  let c0_i32_120_r0 : BitVec 32 := 0#32
  let v120_r0 : BitVec 32 := Scalar.select v119_r0 c0_i32_120_r0 v118_r0
  let c0_i32_125_r0 : BitVec 32 := 0#32
  let v126_r0 : BitVec 32 := Scalar.addi v120_r0 c0_i32_125_r0
  let v150_r0 : BitVec 1 := Scalar.cmpi .ne v106_r0 v126_r0
  let c0_i32_61_r0 : BitVec 32 := 0#32
  let c1_i32_62_r0 : BitVec 32 := 1#32
  let arg7_r0 : BitVec 32 := Scf.iv c0_i32_61_r0 c1_i32_62_r0 k0_t1
  let c127_i32_144_r0 : BitVec 32 := 127#32
  let v151_r0 : BitVec 1 := Scalar.cmpi .sge arg7_r0 c127_i32_144_r0
  let true_145_r0 : BitVec 1 := 1#1
  let v152_r0 : BitVec 1 := Scalar.xori v151_r0 true_145_r0
  let v153_r0 : BitVec 1 := Scalar.andi v150_r0 v152_r0
  let true_146_r0 : BitVec 1 := 1#1
  let v154_r0 : BitVec 1 := Scalar.andi v153_r0 true_146_r0
  let v155_r0 : BitVec 32 := Scalar.extui v154_r0
  let c0_i32_147_r0 : BitVec 32 := 0#32
  let v156_r0 : BitVec 1 := Scalar.cmpi .ne v155_r0 c0_i32_147_r0
  v156_r0

def k0_off9 (arg12_r0 : BitVec 32) : Fin 3 → Nat :=
  let c2_i32_209_r0 : BitVec 32 := 2#32
  let v281_r0 : BitVec 32 := Scalar.remui arg12_r0 c2_i32_209_r0
  let c0_i32_210_r0 : BitVec 32 := 0#32
  let c0_i32_211_r0 : BitVec 32 := 0#32
  ![v281_r0.toNat, 0, 0]
def k0_off10 (arg19_r0 : BitVec 32) : Fin 2 → Nat :=
  let c0_i32_212_r0 : BitVec 32 := 0#32
  let c2048_i32_r0 : BitVec 32 := 2048#32
  let true_118_r0 : BitVec 1 := 1#1
  let c1_i32_117_r0 : BitVec 32 := 1#32
  let v117_r0 : BitVec 32 := Scalar.addi arg19_r0 c1_i32_117_r0
  let v118_r0 : BitVec 32 := Scalar.select true_118_r0 v117_r0 arg19_r0
  let c4_i32_119_r0 : BitVec 32 := 4#32
  let v119_r0 : BitVec 1 := Scalar.cmpi .eq v118_r0 c4_i32_119_r0
  let c0_i32_120_r0 : BitVec 32 := 0#32
  let v120_r0 : BitVec 32 := Scalar.select v119_r0 c0_i32_120_r0 v118_r0
  let c0_i32_125_r0 : BitVec 32 := 0#32
  let v126_r0 : BitVec 32 := Scalar.addi v120_r0 c0_i32_125_r0
  let v282_r0 : BitVec 32 := Scalar.muli c2048_i32_r0 v126_r0
  ![0, v282_r0.toNat]
def k0_off11 (arg14_r0 : BitVec 32) : Fin 1 → Nat :=
  let c2_i32_209_r0 : BitVec 32 := 2#32
  let v281_r0 : BitVec 32 := Scalar.remui arg14_r0 c2_i32_209_r0
  ![v281_r0.toNat]
def k0_cond3 (k0_t1 : Fin k0_t1_loop.trips) (arg19_r0 : BitVec 32) : BitVec 1 :=
  let c0_i32_107_r0 : BitVec 32 := 0#32
  let v106_r0 : BitVec 32 := Scalar.addi arg19_r0 c0_i32_107_r0
  let true_118_r0 : BitVec 1 := 1#1
  let c1_i32_117_r0 : BitVec 32 := 1#32
  let v117_r0 : BitVec 32 := Scalar.addi arg19_r0 c1_i32_117_r0
  let v118_r0 : BitVec 32 := Scalar.select true_118_r0 v117_r0 arg19_r0
  let c4_i32_119_r0 : BitVec 32 := 4#32
  let v119_r0 : BitVec 1 := Scalar.cmpi .eq v118_r0 c4_i32_119_r0
  let c0_i32_120_r0 : BitVec 32 := 0#32
  let v120_r0 : BitVec 32 := Scalar.select v119_r0 c0_i32_120_r0 v118_r0
  let c0_i32_125_r0 : BitVec 32 := 0#32
  let v126_r0 : BitVec 32 := Scalar.addi v120_r0 c0_i32_125_r0
  let v160_r0 : BitVec 1 := Scalar.cmpi .ne v106_r0 v126_r0
  let c0_i32_61_r0 : BitVec 32 := 0#32
  let c1_i32_62_r0 : BitVec 32 := 1#32
  let arg7_r0 : BitVec 32 := Scf.iv c0_i32_61_r0 c1_i32_62_r0 k0_t1
  let c127_i32_150_r0 : BitVec 32 := 127#32
  let v161_r0 : BitVec 1 := Scalar.cmpi .sge arg7_r0 c127_i32_150_r0
  let true_151_r0 : BitVec 1 := 1#1
  let v162_r0 : BitVec 1 := Scalar.xori v161_r0 true_151_r0
  let v163_r0 : BitVec 1 := Scalar.andi v160_r0 v162_r0
  let true_152_r0 : BitVec 1 := 1#1
  let v164_r0 : BitVec 1 := Scalar.andi v163_r0 true_152_r0
  let v165_r0 : BitVec 32 := Scalar.extui v164_r0
  let c0_i32_153_r0 : BitVec 32 := 0#32
  let v166_r0 : BitVec 1 := Scalar.cmpi .ne v165_r0 c0_i32_153_r0
  v166_r0

def k0_off12 (arg14_r0 : BitVec 32) : Fin 3 → Nat :=
  let c2_i32_209_r0 : BitVec 32 := 2#32
  let v281_r0 : BitVec 32 := Scalar.remui arg14_r0 c2_i32_209_r0
  let c0_i32_210_r0 : BitVec 32 := 0#32
  let c0_i32_211_r0 : BitVec 32 := 0#32
  ![v281_r0.toNat, 0, 0]
def k0_off13 (arg19_r0 : BitVec 32) : Fin 2 → Nat :=
  let c2048_i32_r0 : BitVec 32 := 2048#32
  let true_118_r0 : BitVec 1 := 1#1
  let c1_i32_117_r0 : BitVec 32 := 1#32
  let v117_r0 : BitVec 32 := Scalar.addi arg19_r0 c1_i32_117_r0
  let v118_r0 : BitVec 32 := Scalar.select true_118_r0 v117_r0 arg19_r0
  let c4_i32_119_r0 : BitVec 32 := 4#32
  let v119_r0 : BitVec 1 := Scalar.cmpi .eq v118_r0 c4_i32_119_r0
  let c0_i32_120_r0 : BitVec 32 := 0#32
  let v120_r0 : BitVec 32 := Scalar.select v119_r0 c0_i32_120_r0 v118_r0
  let c0_i32_125_r0 : BitVec 32 := 0#32
  let v126_r0 : BitVec 32 := Scalar.addi v120_r0 c0_i32_125_r0
  let v282_r0 : BitVec 32 := Scalar.muli c2048_i32_r0 v126_r0
  let c0_i32_212_r0 : BitVec 32 := 0#32
  ![v282_r0.toNat, 0]
def k0_off14 (arg9_r0 : BitVec 32) : Fin 1 → Nat :=
  let c2_i32_210_r0 : BitVec 32 := 2#32
  let v282_r0 : BitVec 32 := Scalar.remui arg9_r0 c2_i32_210_r0
  ![v282_r0.toNat]
def k0_cond4 (k0_t1 : Fin k0_t1_loop.trips) (arg18_r0 : BitVec 32) (arg19_r0 : BitVec 32) : BitVec 1 :=
  let c0_i32_106_r0 : BitVec 32 := 0#32
  let v105_r0 : BitVec 32 := Scalar.addi arg18_r0 c0_i32_106_r0
  let true_109_r0 : BitVec 1 := 1#1
  let c1_i32_108_r0 : BitVec 32 := 1#32
  let v107_r0 : BitVec 32 := Scalar.subi arg19_r0 c1_i32_108_r0
  let v108_r0 : BitVec 32 := Scalar.select true_109_r0 v107_r0 arg19_r0
  let c_m1_i32_110_r0 : BitVec 32 := 4294967295#32
  let v109_r0 : BitVec 1 := Scalar.cmpi .eq v108_r0 c_m1_i32_110_r0
  let c1_i32_112_r0 : BitVec 32 := 1#32
  let v111_r0 : BitVec 32 := Scalar.subi arg18_r0 c1_i32_112_r0
  let v112_r0 : BitVec 32 := Scalar.select v109_r0 v111_r0 arg18_r0
  let c_m1_i32_113_r0 : BitVec 32 := 4294967295#32
  let v113_r0 : BitVec 1 := Scalar.cmpi .eq v112_r0 c_m1_i32_113_r0
  let c31_i32_114_r0 : BitVec 32 := 31#32
  let v114_r0 : BitVec 32 := Scalar.select v113_r0 c31_i32_114_r0 v112_r0
  let c0_i32_115_r0 : BitVec 32 := 0#32
  let v115_r0 : BitVec 32 := Scalar.addi v114_r0 c0_i32_115_r0
  let v174_r0 : BitVec 1 := Scalar.cmpi .ne v105_r0 v115_r0
  let c0_i32_61_r0 : BitVec 32 := 0#32
  let c1_i32_62_r0 : BitVec 32 := 1#32
  let arg7_r0 : BitVec 32 := Scf.iv c0_i32_61_r0 c1_i32_62_r0 k0_t1
  let c0_i32_105_r0 : BitVec 32 := 0#32
  let v103_r0 : BitVec 1 := Scalar.cmpi .eq arg7_r0 c0_i32_105_r0
  let v175_r0 : BitVec 1 := Scalar.ori v174_r0 v103_r0
  let c0_i32_158_r0 : BitVec 32 := 0#32
  let v176_r0 : BitVec 1 := Scalar.cmpi .sge arg7_r0 c0_i32_158_r0
  let v177_r0 : BitVec 1 := Scalar.andi v175_r0 v176_r0
  let v178_r0 : BitVec 32 := Scalar.extui v177_r0
  let c0_i32_159_r0 : BitVec 32 := 0#32
  let v179_r0 : BitVec 1 := Scalar.cmpi .ne v178_r0 c0_i32_159_r0
  v179_r0

def k0_off15 (arg9_r0 : BitVec 32) : Fin 3 → Nat :=
  let c2_i32_210_r0 : BitVec 32 := 2#32
  let v282_r0 : BitVec 32 := Scalar.remui arg9_r0 c2_i32_210_r0
  let c0_i32_211_r0 : BitVec 32 := 0#32
  let c0_i32_212_r0 : BitVec 32 := 0#32
  ![v282_r0.toNat, 0, 0]
def k0_off16 (arg18_r0 : BitVec 32) : Fin 2 → Nat :=
  let c512_i32_209_r0 : BitVec 32 := 512#32
  let c0_i32_106_r0 : BitVec 32 := 0#32
  let v105_r0 : BitVec 32 := Scalar.addi arg18_r0 c0_i32_106_r0
  let v281_r0 : BitVec 32 := Scalar.muli c512_i32_209_r0 v105_r0
  let c0_i32_213_r0 : BitVec 32 := 0#32
  ![v281_r0.toNat, 0]
def k0_off17 (arg13_r0 : BitVec 32) : Fin 1 → Nat :=
  let c2_i32_209_r0 : BitVec 32 := 2#32
  let v282_r0 : BitVec 32 := Scalar.remui arg13_r0 c2_i32_209_r0
  ![v282_r0.toNat]
def k0_cond5 (k0_t1 : Fin k0_t1_loop.trips) (arg19_r0 : BitVec 32) : BitVec 1 :=
  let c0_i32_107_r0 : BitVec 32 := 0#32
  let v106_r0 : BitVec 32 := Scalar.addi arg19_r0 c0_i32_107_r0
  let true_109_r0 : BitVec 1 := 1#1
  let c1_i32_108_r0 : BitVec 32 := 1#32
  let v107_r0 : BitVec 32 := Scalar.subi arg19_r0 c1_i32_108_r0
  let v108_r0 : BitVec 32 := Scalar.select true_109_r0 v107_r0 arg19_r0
  let c_m1_i32_110_r0 : BitVec 32 := 4294967295#32
  let v109_r0 : BitVec 1 := Scalar.cmpi .eq v108_r0 c_m1_i32_110_r0
  let c3_i32_111_r0 : BitVec 32 := 3#32
  let v110_r0 : BitVec 32 := Scalar.select v109_r0 c3_i32_111_r0 v108_r0
  let c0_i32_116_r0 : BitVec 32 := 0#32
  let v116_r0 : BitVec 32 := Scalar.addi v110_r0 c0_i32_116_r0
  let v180_r0 : BitVec 1 := Scalar.cmpi .ne v106_r0 v116_r0
  let c0_i32_61_r0 : BitVec 32 := 0#32
  let c1_i32_62_r0 : BitVec 32 := 1#32
  let arg7_r0 : BitVec 32 := Scf.iv c0_i32_61_r0 c1_i32_62_r0 k0_t1
  let c0_i32_105_r0 : BitVec 32 := 0#32
  let v103_r0 : BitVec 1 := Scalar.cmpi .eq arg7_r0 c0_i32_105_r0
  let v181_r0 : BitVec 1 := Scalar.ori v180_r0 v103_r0
  let c0_i32_160_r0 : BitVec 32 := 0#32
  let v182_r0 : BitVec 1 := Scalar.cmpi .sge arg7_r0 c0_i32_160_r0
  let v183_r0 : BitVec 1 := Scalar.andi v181_r0 v182_r0
  let v184_r0 : BitVec 32 := Scalar.extui v183_r0
  let c0_i32_161_r0 : BitVec 32 := 0#32
  let v185_r0 : BitVec 1 := Scalar.cmpi .ne v184_r0 c0_i32_161_r0
  v185_r0

def k0_off18 (arg13_r0 : BitVec 32) : Fin 3 → Nat :=
  let c2_i32_209_r0 : BitVec 32 := 2#32
  let v282_r0 : BitVec 32 := Scalar.remui arg13_r0 c2_i32_209_r0
  let c0_i32_210_r0 : BitVec 32 := 0#32
  let c0_i32_211_r0 : BitVec 32 := 0#32
  ![v282_r0.toNat, 0, 0]
def k0_off19 (arg19_r0 : BitVec 32) : Fin 2 → Nat :=
  let c0_i32_212_r0 : BitVec 32 := 0#32
  let c2048_i32_r0 : BitVec 32 := 2048#32
  let c0_i32_107_r0 : BitVec 32 := 0#32
  let v106_r0 : BitVec 32 := Scalar.addi arg19_r0 c0_i32_107_r0
  let v281_r0 : BitVec 32 := Scalar.muli c2048_i32_r0 v106_r0
  ![0, v281_r0.toNat]
def k0_off20 (arg15_r0 : BitVec 32) : Fin 1 → Nat :=
  let c2_i32_209_r0 : BitVec 32 := 2#32
  let v282_r0 : BitVec 32 := Scalar.remui arg15_r0 c2_i32_209_r0
  ![v282_r0.toNat]
def k0_cond6 (k0_t1 : Fin k0_t1_loop.trips) (arg19_r0 : BitVec 32) : BitVec 1 :=
  let c0_i32_107_r0 : BitVec 32 := 0#32
  let v106_r0 : BitVec 32 := Scalar.addi arg19_r0 c0_i32_107_r0
  let true_109_r0 : BitVec 1 := 1#1
  let c1_i32_108_r0 : BitVec 32 := 1#32
  let v107_r0 : BitVec 32 := Scalar.subi arg19_r0 c1_i32_108_r0
  let v108_r0 : BitVec 32 := Scalar.select true_109_r0 v107_r0 arg19_r0
  let c_m1_i32_110_r0 : BitVec 32 := 4294967295#32
  let v109_r0 : BitVec 1 := Scalar.cmpi .eq v108_r0 c_m1_i32_110_r0
  let c3_i32_111_r0 : BitVec 32 := 3#32
  let v110_r0 : BitVec 32 := Scalar.select v109_r0 c3_i32_111_r0 v108_r0
  let c0_i32_116_r0 : BitVec 32 := 0#32
  let v116_r0 : BitVec 32 := Scalar.addi v110_r0 c0_i32_116_r0
  let v186_r0 : BitVec 1 := Scalar.cmpi .ne v106_r0 v116_r0
  let c0_i32_61_r0 : BitVec 32 := 0#32
  let c1_i32_62_r0 : BitVec 32 := 1#32
  let arg7_r0 : BitVec 32 := Scf.iv c0_i32_61_r0 c1_i32_62_r0 k0_t1
  let c0_i32_105_r0 : BitVec 32 := 0#32
  let v103_r0 : BitVec 1 := Scalar.cmpi .eq arg7_r0 c0_i32_105_r0
  let v187_r0 : BitVec 1 := Scalar.ori v186_r0 v103_r0
  let c0_i32_162_r0 : BitVec 32 := 0#32
  let v188_r0 : BitVec 1 := Scalar.cmpi .sge arg7_r0 c0_i32_162_r0
  let v189_r0 : BitVec 1 := Scalar.andi v187_r0 v188_r0
  let v190_r0 : BitVec 32 := Scalar.extui v189_r0
  let c0_i32_163_r0 : BitVec 32 := 0#32
  let v191_r0 : BitVec 1 := Scalar.cmpi .ne v190_r0 c0_i32_163_r0
  v191_r0

def k0_off21 (arg15_r0 : BitVec 32) : Fin 3 → Nat :=
  let c2_i32_209_r0 : BitVec 32 := 2#32
  let v282_r0 : BitVec 32 := Scalar.remui arg15_r0 c2_i32_209_r0
  let c0_i32_210_r0 : BitVec 32 := 0#32
  let c0_i32_211_r0 : BitVec 32 := 0#32
  ![v282_r0.toNat, 0, 0]
def k0_off22 (arg19_r0 : BitVec 32) : Fin 2 → Nat :=
  let c2048_i32_r0 : BitVec 32 := 2048#32
  let c0_i32_107_r0 : BitVec 32 := 0#32
  let v106_r0 : BitVec 32 := Scalar.addi arg19_r0 c0_i32_107_r0
  let v281_r0 : BitVec 32 := Scalar.muli c2048_i32_r0 v106_r0
  let c0_i32_212_r0 : BitVec 32 := 0#32
  ![v281_r0.toNat, 0]
def k0_off23 (arg9_r0 : BitVec 32) : Fin 3 → Nat :=
  let c2_i32_166_r0 : BitVec 32 := 2#32
  let v198_r0 : BitVec 32 := Scalar.remui arg9_r0 c2_i32_166_r0
  let c0_i32_209_r0 : BitVec 32 := 0#32
  let c0_i32_210_r0 : BitVec 32 := 0#32
  ![v198_r0.toNat, 0, 0]
def k0_cond8 (arg19_r0 : BitVec 32) : BitVec 1 :=
  let c0_i32_107_r0 : BitVec 32 := 0#32
  let v106_r0 : BitVec 32 := Scalar.addi arg19_r0 c0_i32_107_r0
  let c0_i32_170_r0 : BitVec 32 := 0#32
  let v202_r0 : BitVec 1 := Scalar.cmpi .eq v106_r0 c0_i32_170_r0
  let v203_r0 : BitVec 32 := Scalar.extui v202_r0
  let c0_i32_171_r0 : BitVec 32 := 0#32
  let v204_r0 : BitVec 1 := Scalar.cmpi .ne v203_r0 c0_i32_171_r0
  v204_r0

def k0_off24 (arg13_r0 : BitVec 32) : Fin 3 → Nat :=
  let c2_i32_167_r0 : BitVec 32 := 2#32
  let v199_r0 : BitVec 32 := Scalar.remui arg13_r0 c2_i32_167_r0
  let v326_r0 : Index := Scalar.indexCast v199_r0
  let c0_230_r0 : Index := 0#32
  let c0_231_r0 : Index := 0#32
  ![v326_r0.toNat, 0, 0]
def k0_off25 (arg15_r0 : BitVec 32) : Fin 3 → Nat :=
  let c2_i32_168_r0 : BitVec 32 := 2#32
  let v200_r0 : BitVec 32 := Scalar.remui arg15_r0 c2_i32_168_r0
  let v334_r0 : Index := Scalar.indexCast v200_r0
  let c0_234_r0 : Index := 0#32
  let c0_235_r0 : Index := 0#32
  ![v334_r0.toNat, 0, 0]
def k0_off26 (arg16_r0 : BitVec 32) : Fin 3 → Nat :=
  let c2_i32_169_r0 : BitVec 32 := 2#32
  let v201_r0 : BitVec 32 := Scalar.remui arg16_r0 c2_i32_169_r0
  let c0_i32_237_r0 : BitVec 32 := 0#32
  let c0_i32_238_r0 : BitVec 32 := 0#32
  ![v201_r0.toNat, 0, 0]
def k0_off27 (arg13_r0 : BitVec 32) : Fin 3 → Nat :=
  let c2_i32_167_r0 : BitVec 32 := 2#32
  let v199_r0 : BitVec 32 := Scalar.remui arg13_r0 c2_i32_167_r0
  let v342_r0 : Index := Scalar.indexCast v199_r0
  let c0_243_r0 : Index := 0#32
  let c0_244_r0 : Index := 0#32
  ![v342_r0.toNat, 0, 0]
def k0_off28 (arg15_r0 : BitVec 32) : Fin 3 → Nat :=
  let c2_i32_168_r0 : BitVec 32 := 2#32
  let v200_r0 : BitVec 32 := Scalar.remui arg15_r0 c2_i32_168_r0
  let v350_r0 : Index := Scalar.indexCast v200_r0
  let c0_247_r0 : Index := 0#32
  let c0_248_r0 : Index := 0#32
  ![v350_r0.toNat, 0, 0]
def k0_off29 (arg16_r0 : BitVec 32) : Fin 3 → Nat :=
  let c2_i32_169_r0 : BitVec 32 := 2#32
  let v201_r0 : BitVec 32 := Scalar.remui arg16_r0 c2_i32_169_r0
  let v281_r0 : Index := Scalar.indexCast v201_r0
  let c0_r0 : Index := 0#32
  let c0_209_r0 : Index := 0#32
  ![v281_r0.toNat, 0, 0]
def k0_cond9 (arg19_r0 : BitVec 32) : BitVec 1 :=
  let c0_i32_107_r0 : BitVec 32 := 0#32
  let v106_r0 : BitVec 32 := Scalar.addi arg19_r0 c0_i32_107_r0
  let c0_i32_172_r0 : BitVec 32 := 0#32
  let v205_r0 : BitVec 1 := Scalar.cmpi .sgt v106_r0 c0_i32_172_r0
  let c3_i32_173_r0 : BitVec 32 := 3#32
  let v206_r0 : BitVec 1 := Scalar.cmpi .slt v106_r0 c3_i32_173_r0
  let v207_r0 : BitVec 1 := Scalar.andi v205_r0 v206_r0
  let v208_r0 : BitVec 32 := Scalar.extui v207_r0
  let c0_i32_174_r0 : BitVec 32 := 0#32
  let v209_r0 : BitVec 1 := Scalar.cmpi .ne v208_r0 c0_i32_174_r0
  v209_r0

def k0_off30 (arg13_r0 : BitVec 32) : Fin 3 → Nat :=
  let c2_i32_167_r0 : BitVec 32 := 2#32
  let v199_r0 : BitVec 32 := Scalar.remui arg13_r0 c2_i32_167_r0
  let v285_r0 : Index := Scalar.indexCast v199_r0
  let c0_212_r0 : Index := 0#32
  let c0_213_r0 : Index := 0#32
  ![v285_r0.toNat, 0, 0]
def k0_off31 (arg15_r0 : BitVec 32) : Fin 3 → Nat :=
  let c2_i32_168_r0 : BitVec 32 := 2#32
  let v200_r0 : BitVec 32 := Scalar.remui arg15_r0 c2_i32_168_r0
  let v293_r0 : Index := Scalar.indexCast v200_r0
  let c0_215_r0 : Index := 0#32
  let c0_216_r0 : Index := 0#32
  ![v293_r0.toNat, 0, 0]
def k0_off32 (arg16_r0 : BitVec 32) : Fin 3 → Nat :=
  let c2_i32_169_r0 : BitVec 32 := 2#32
  let v201_r0 : BitVec 32 := Scalar.remui arg16_r0 c2_i32_169_r0
  let c0_i32_209_r0 : BitVec 32 := 0#32
  let c0_i32_210_r0 : BitVec 32 := 0#32
  ![v201_r0.toNat, 0, 0]
def k0_cond10 (arg19_r0 : BitVec 32) : BitVec 1 :=
  let c0_i32_107_r0 : BitVec 32 := 0#32
  let v106_r0 : BitVec 32 := Scalar.addi arg19_r0 c0_i32_107_r0
  let c3_i32_175_r0 : BitVec 32 := 3#32
  let v210_r0 : BitVec 1 := Scalar.cmpi .eq v106_r0 c3_i32_175_r0
  let v211_r0 : BitVec 32 := Scalar.extui v210_r0
  let c0_i32_176_r0 : BitVec 32 := 0#32
  let v212_r0 : BitVec 1 := Scalar.cmpi .ne v211_r0 c0_i32_176_r0
  v212_r0

def k0_off33 (arg13_r0 : BitVec 32) : Fin 3 → Nat :=
  let c2_i32_167_r0 : BitVec 32 := 2#32
  let v199_r0 : BitVec 32 := Scalar.remui arg13_r0 c2_i32_167_r0
  let v286_r0 : Index := Scalar.indexCast v199_r0
  let c0_214_r0 : Index := 0#32
  let c0_215_r0 : Index := 0#32
  ![v286_r0.toNat, 0, 0]
def k0_off34 (arg15_r0 : BitVec 32) : Fin 3 → Nat :=
  let c2_i32_168_r0 : BitVec 32 := 2#32
  let v200_r0 : BitVec 32 := Scalar.remui arg15_r0 c2_i32_168_r0
  let v294_r0 : Index := Scalar.indexCast v200_r0
  let c0_217_r0 : Index := 0#32
  let c0_218_r0 : Index := 0#32
  ![v294_r0.toNat, 0, 0]
def k0_off35 (arg9_r0 : BitVec 32) : Fin 3 → Nat :=
  let c2_i32_166_r0 : BitVec 32 := 2#32
  let v198_r0 : BitVec 32 := Scalar.remui arg9_r0 c2_i32_166_r0
  let c0_i32_220_r0 : BitVec 32 := 0#32
  let c0_i32_221_r0 : BitVec 32 := 0#32
  ![v198_r0.toNat, 0, 0]
def k0_off36 (arg16_r0 : BitVec 32) : Fin 1 → Nat :=
  let c2_i32_209_r0 : BitVec 32 := 2#32
  let v281_r0 : BitVec 32 := Scalar.remui arg16_r0 c2_i32_209_r0
  ![v281_r0.toNat]
def k0_cond14 (k0_t1 : Fin k0_t1_loop.trips) (arg18_r0 : BitVec 32) (arg19_r0 : BitVec 32) : BitVec 1 :=
  let c0_i32_106_r0 : BitVec 32 := 0#32
  let v105_r0 : BitVec 32 := Scalar.addi arg18_r0 c0_i32_106_r0
  let true_118_r0 : BitVec 1 := 1#1
  let c1_i32_117_r0 : BitVec 32 := 1#32
  let v117_r0 : BitVec 32 := Scalar.addi arg19_r0 c1_i32_117_r0
  let v118_r0 : BitVec 32 := Scalar.select true_118_r0 v117_r0 arg19_r0
  let c4_i32_119_r0 : BitVec 32 := 4#32
  let v119_r0 : BitVec 1 := Scalar.cmpi .eq v118_r0 c4_i32_119_r0
  let c1_i32_121_r0 : BitVec 32 := 1#32
  let v121_r0 : BitVec 32 := Scalar.addi arg18_r0 c1_i32_121_r0
  let v122_r0 : BitVec 32 := Scalar.select v119_r0 v121_r0 arg18_r0
  let c32_i32_122_r0 : BitVec 32 := 32#32
  let v123_r0 : BitVec 1 := Scalar.cmpi .eq v122_r0 c32_i32_122_r0
  let c0_i32_123_r0 : BitVec 32 := 0#32
  let v124_r0 : BitVec 32 := Scalar.select v123_r0 c0_i32_123_r0 v122_r0
  let c0_i32_124_r0 : BitVec 32 := 0#32
  let v125_r0 : BitVec 32 := Scalar.addi v124_r0 c0_i32_124_r0
  let v228_r0 : BitVec 1 := Scalar.cmpi .ne v105_r0 v125_r0
  let c0_i32_61_r0 : BitVec 32 := 0#32
  let c1_i32_62_r0 : BitVec 32 := 1#32
  let arg7_r0 : BitVec 32 := Scf.iv c0_i32_61_r0 c1_i32_62_r0 k0_t1
  let c127_i32_r0 : BitVec 32 := 127#32
  let v104_r0 : BitVec 1 := Scalar.cmpi .eq arg7_r0 c127_i32_r0
  let v229_r0 : BitVec 1 := Scalar.ori v228_r0 v104_r0
  let v230_r0 : BitVec 32 := Scalar.extui v229_r0
  let c0_i32_183_r0 : BitVec 32 := 0#32
  let v231_r0 : BitVec 1 := Scalar.cmpi .ne v230_r0 c0_i32_183_r0
  v231_r0

def k0_off37 (arg18_r0 : BitVec 32) : Fin 2 → Nat :=
  let c512_i32_210_r0 : BitVec 32 := 512#32
  let c0_i32_106_r0 : BitVec 32 := 0#32
  let v105_r0 : BitVec 32 := Scalar.addi arg18_r0 c0_i32_106_r0
  let v282_r0 : BitVec 32 := Scalar.muli c512_i32_210_r0 v105_r0
  let c0_i32_211_r0 : BitVec 32 := 0#32
  ![v282_r0.toNat, 0]
def k0_off38 (arg16_r0 : BitVec 32) : Fin 3 → Nat :=
  let c2_i32_209_r0 : BitVec 32 := 2#32
  let v281_r0 : BitVec 32 := Scalar.remui arg16_r0 c2_i32_209_r0
  let c0_i32_212_r0 : BitVec 32 := 0#32
  let c0_i32_213_r0 : BitVec 32 := 0#32
  ![v281_r0.toNat, 0, 0]
def k0_off39 (arg17_r0 : BitVec 32) : Fin 1 → Nat :=
  let c2_i32_209_r0 : BitVec 32 := 2#32
  let v281_r0 : BitVec 32 := Scalar.remui arg17_r0 c2_i32_209_r0
  ![v281_r0.toNat]
def k0_cond18 (k0_t1 : Fin k0_t1_loop.trips) (arg18_r0 : BitVec 32) (arg19_r0 : BitVec 32) : BitVec 1 :=
  let c0_i32_106_r0 : BitVec 32 := 0#32
  let v105_r0 : BitVec 32 := Scalar.addi arg18_r0 c0_i32_106_r0
  let true_109_r0 : BitVec 1 := 1#1
  let c1_i32_108_r0 : BitVec 32 := 1#32
  let v107_r0 : BitVec 32 := Scalar.subi arg19_r0 c1_i32_108_r0
  let v108_r0 : BitVec 32 := Scalar.select true_109_r0 v107_r0 arg19_r0
  let c_m1_i32_110_r0 : BitVec 32 := 4294967295#32
  let v109_r0 : BitVec 1 := Scalar.cmpi .eq v108_r0 c_m1_i32_110_r0
  let c1_i32_112_r0 : BitVec 32 := 1#32
  let v111_r0 : BitVec 32 := Scalar.subi arg18_r0 c1_i32_112_r0
  let v112_r0 : BitVec 32 := Scalar.select v109_r0 v111_r0 arg18_r0
  let c_m1_i32_113_r0 : BitVec 32 := 4294967295#32
  let v113_r0 : BitVec 1 := Scalar.cmpi .eq v112_r0 c_m1_i32_113_r0
  let c31_i32_114_r0 : BitVec 32 := 31#32
  let v114_r0 : BitVec 32 := Scalar.select v113_r0 c31_i32_114_r0 v112_r0
  let c0_i32_115_r0 : BitVec 32 := 0#32
  let v115_r0 : BitVec 32 := Scalar.addi v114_r0 c0_i32_115_r0
  let v253_r0 : BitVec 1 := Scalar.cmpi .ne v105_r0 v115_r0
  let c0_i32_61_r0 : BitVec 32 := 0#32
  let c1_i32_62_r0 : BitVec 32 := 1#32
  let arg7_r0 : BitVec 32 := Scf.iv c0_i32_61_r0 c1_i32_62_r0 k0_t1
  let c0_i32_105_r0 : BitVec 32 := 0#32
  let v103_r0 : BitVec 1 := Scalar.cmpi .eq arg7_r0 c0_i32_105_r0
  let true_195_r0 : BitVec 1 := 1#1
  let v254_r0 : BitVec 1 := Scalar.xori v103_r0 true_195_r0
  let v255_r0 : BitVec 1 := Scalar.andi v253_r0 v254_r0
  let v256_r0 : BitVec 32 := Scalar.extui v255_r0
  let c0_i32_196_r0 : BitVec 32 := 0#32
  let v257_r0 : BitVec 1 := Scalar.cmpi .ne v256_r0 c0_i32_196_r0
  v257_r0

def k0_off40 (arg18_r0 : BitVec 32) (arg19_r0 : BitVec 32) : Fin 2 → Nat :=
  let c512_i32_210_r0 : BitVec 32 := 512#32
  let true_109_r0 : BitVec 1 := 1#1
  let c1_i32_108_r0 : BitVec 32 := 1#32
  let v107_r0 : BitVec 32 := Scalar.subi arg19_r0 c1_i32_108_r0
  let v108_r0 : BitVec 32 := Scalar.select true_109_r0 v107_r0 arg19_r0
  let c_m1_i32_110_r0 : BitVec 32 := 4294967295#32
  let v109_r0 : BitVec 1 := Scalar.cmpi .eq v108_r0 c_m1_i32_110_r0
  let c1_i32_112_r0 : BitVec 32 := 1#32
  let v111_r0 : BitVec 32 := Scalar.subi arg18_r0 c1_i32_112_r0
  let v112_r0 : BitVec 32 := Scalar.select v109_r0 v111_r0 arg18_r0
  let c_m1_i32_113_r0 : BitVec 32 := 4294967295#32
  let v113_r0 : BitVec 1 := Scalar.cmpi .eq v112_r0 c_m1_i32_113_r0
  let c31_i32_114_r0 : BitVec 32 := 31#32
  let v114_r0 : BitVec 32 := Scalar.select v113_r0 c31_i32_114_r0 v112_r0
  let c0_i32_115_r0 : BitVec 32 := 0#32
  let v115_r0 : BitVec 32 := Scalar.addi v114_r0 c0_i32_115_r0
  let v282_r0 : BitVec 32 := Scalar.muli c512_i32_210_r0 v115_r0
  let c0_i32_211_r0 : BitVec 32 := 0#32
  ![v282_r0.toNat, 0]
def k0_off41 (arg17_r0 : BitVec 32) : Fin 3 → Nat :=
  let c2_i32_209_r0 : BitVec 32 := 2#32
  let v281_r0 : BitVec 32 := Scalar.remui arg17_r0 c2_i32_209_r0
  let c0_i32_212_r0 : BitVec 32 := 0#32
  let c0_i32_213_r0 : BitVec 32 := 0#32
  ![v281_r0.toNat, 0, 0]

def k0_chk3_0 (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) : Prop :=
  (∀ (k0_h2 : k0_cond2 k0_t1 arg19_r0 = 1#1), ∀ a, (k0_off8 arg12_r0) a + S1.size a ≤ S2.size a) ∧
  (∀ (k0_h2 : k0_cond2 k0_t1 arg19_r0 = 1#1), ∀ a, (k0_off9 arg12_r0) a + S1x2048x2048.size a ≤ S2x2048x2048.size a) ∧
  (∀ (k0_h2 : k0_cond2 k0_t1 arg19_r0 = 1#1), ∀ a, (k0_off10 arg19_r0) a + S2048x2048.size a ≤ S2048x8192.size a) ∧
  (∀ (k0_h2 : k0_cond2 k0_t1 arg19_r0 = 1#1), ∀ (hinb : ∀ a, (k0_off10 arg19_r0) a + S2048x2048.size a ≤ S2048x8192.size a), (Rect.unit (s := S2048x8192) (k0_off10 arg19_r0) S2048x2048.size hinb).WholeWords (EltTy.packing .bf16)) ∧
  (∀ (k0_h2 : k0_cond2 k0_t1 arg19_r0 = 1#1), ∀ (hinb : ∀ a, (k0_off9 arg12_r0) a + S1x2048x2048.size a ≤ S2x2048x2048.size a), (Rect.unit (s := S2x2048x2048) (k0_off9 arg12_r0) S1x2048x2048.size hinb).WholeWords (EltTy.packing .bf16)) ∧
  (∀ (k0_h3 : k0_cond3 k0_t1 arg19_r0 = 1#1), ∀ a, (k0_off11 arg14_r0) a + S1.size a ≤ S2.size a) ∧
  (∀ (k0_h3 : k0_cond3 k0_t1 arg19_r0 = 1#1), ∀ a, (k0_off12 arg14_r0) a + S1x2048x2048.size a ≤ S2x2048x2048.size a) ∧
  (∀ (k0_h3 : k0_cond3 k0_t1 arg19_r0 = 1#1), ∀ a, (k0_off13 arg19_r0) a + S2048x2048.size a ≤ S8192x2048.size a) ∧
  (∀ (k0_h3 : k0_cond3 k0_t1 arg19_r0 = 1#1), ∀ (hinb : ∀ a, (k0_off13 arg19_r0) a + S2048x2048.size a ≤ S8192x2048.size a), (Rect.unit (s := S8192x2048) (k0_off13 arg19_r0) S2048x2048.size hinb).WholeWords (EltTy.packing .bf16)) ∧
  (∀ (k0_h3 : k0_cond3 k0_t1 arg19_r0 = 1#1), ∀ (hinb : ∀ a, (k0_off12 arg14_r0) a + S1x2048x2048.size a ≤ S2x2048x2048.size a), (Rect.unit (s := S2x2048x2048) (k0_off12 arg14_r0) S1x2048x2048.size hinb).WholeWords (EltTy.packing .bf16)) ∧
  (∀ (k0_h4 : k0_cond4 k0_t1 arg18_r0 arg19_r0 = 1#1), ∀ a, (k0_off14 arg9_r0) a + S1.size a ≤ S2.size a) ∧
  (∀ (k0_h4 : k0_cond4 k0_t1 arg18_r0 arg19_r0 = 1#1), ∀ a, (k0_off15 arg9_r0) a + S1x512x2048.size a ≤ S2x512x2048.size a) ∧
  (∀ (k0_h4 : k0_cond4 k0_t1 arg18_r0 arg19_r0 = 1#1), ∀ a, (k0_off16 arg18_r0) a + S512x2048.size a ≤ S16384x2048.size a) ∧
  (∀ (k0_h5 : k0_cond5 k0_t1 arg19_r0 = 1#1), ∀ a, (k0_off17 arg13_r0) a + S1.size a ≤ S2.size a) ∧
  (∀ (k0_h5 : k0_cond5 k0_t1 arg19_r0 = 1#1), ∀ a, (k0_off18 arg13_r0) a + S1x2048x2048.size a ≤ S2x2048x2048.size a) ∧
  (∀ (k0_h5 : k0_cond5 k0_t1 arg19_r0 = 1#1), ∀ a, (k0_off19 arg19_r0) a + S2048x2048.size a ≤ S2048x8192.size a) ∧
  (∀ (k0_h5 : k0_cond5 k0_t1 arg19_r0 = 1#1), ∀ (hinb : ∀ a, (k0_off19 arg19_r0) a + S2048x2048.size a ≤ S2048x8192.size a), (Rect.unit (s := S2048x8192) (k0_off19 arg19_r0) S2048x2048.size hinb).WholeWords (EltTy.packing .bf16)) ∧
  (∀ (k0_h5 : k0_cond5 k0_t1 arg19_r0 = 1#1), ∀ (hinb : ∀ a, (k0_off18 arg13_r0) a + S1x2048x2048.size a ≤ S2x2048x2048.size a), (Rect.unit (s := S2x2048x2048) (k0_off18 arg13_r0) S1x2048x2048.size hinb).WholeWords (EltTy.packing .bf16)) ∧
  (∀ (k0_h6 : k0_cond6 k0_t1 arg19_r0 = 1#1), ∀ a, (k0_off20 arg15_r0) a + S1.size a ≤ S2.size a) ∧
  (∀ (k0_h6 : k0_cond6 k0_t1 arg19_r0 = 1#1), ∀ a, (k0_off21 arg15_r0) a + S1x2048x2048.size a ≤ S2x2048x2048.size a) ∧
  (∀ (k0_h6 : k0_cond6 k0_t1 arg19_r0 = 1#1), ∀ a, (k0_off22 arg19_r0) a + S2048x2048.size a ≤ S8192x2048.size a) ∧
  (∀ (k0_h6 : k0_cond6 k0_t1 arg19_r0 = 1#1), ∀ (hinb : ∀ a, (k0_off22 arg19_r0) a + S2048x2048.size a ≤ S8192x2048.size a), (Rect.unit (s := S8192x2048) (k0_off22 arg19_r0) S2048x2048.size hinb).WholeWords (EltTy.packing .bf16)) ∧
  (∀ (k0_h6 : k0_cond6 k0_t1 arg19_r0 = 1#1), ∀ (hinb : ∀ a, (k0_off21 arg15_r0) a + S1x2048x2048.size a ≤ S2x2048x2048.size a), (Rect.unit (s := S2x2048x2048) (k0_off21 arg15_r0) S1x2048x2048.size hinb).WholeWords (EltTy.packing .bf16)) ∧
  (∀ (k0_h8 : k0_cond8 arg19_r0 = 1#1), ∀ a, (k0_off23 arg9_r0) a + S1x512x2048.size a ≤ S2x512x2048.size a) ∧
  (∀ (k0_h8 : k0_cond8 arg19_r0 = 1#1), ∀ a, (k0_off24 arg13_r0) a + S1x2048x2048.size a ≤ S2x2048x2048.size a) ∧
  (∀ (k0_h8 : k0_cond8 arg19_r0 = 1#1), ∀ a, (k0_off25 arg15_r0) a + S1x2048x2048.size a ≤ S2x2048x2048.size a) ∧
  (∀ (k0_h8 : k0_cond8 arg19_r0 = 1#1), ∀ a, (k0_off26 arg16_r0) a + S1x512x2048.size a ≤ S2x512x2048.size a) ∧
  (∀ (k0_h8 : k0_cond8 arg19_r0 = 1#1), ∀ a, (k0_off27 arg13_r0) a + S1x2048x2048.size a ≤ S2x2048x2048.size a) ∧
  (∀ (k0_h8 : k0_cond8 arg19_r0 = 1#1), ∀ a, (k0_off28 arg15_r0) a + S1x2048x2048.size a ≤ S2x2048x2048.size a) ∧
  (∀ (k0_h9 : k0_cond9 arg19_r0 = 1#1), ∀ a, (k0_off29 arg16_r0) a + S1x512x2048.size a ≤ S2x512x2048.size a) ∧
  (∀ (k0_h9 : k0_cond9 arg19_r0 = 1#1), ∀ a, (k0_off30 arg13_r0) a + S1x2048x2048.size a ≤ S2x2048x2048.size a) ∧
  (∀ (k0_h9 : k0_cond9 arg19_r0 = 1#1), ∀ a, (k0_off31 arg15_r0) a + S1x2048x2048.size a ≤ S2x2048x2048.size a)
def k0_chk3_1 (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) : Prop :=
  (∀ (k0_h10 : k0_cond10 arg19_r0 = 1#1), ∀ a, (k0_off32 arg16_r0) a + S1x512x2048.size a ≤ S2x512x2048.size a) ∧
  (∀ (k0_h10 : k0_cond10 arg19_r0 = 1#1), ∀ a, (k0_off33 arg13_r0) a + S1x2048x2048.size a ≤ S2x2048x2048.size a) ∧
  (∀ (k0_h10 : k0_cond10 arg19_r0 = 1#1), ∀ a, (k0_off34 arg15_r0) a + S1x2048x2048.size a ≤ S2x2048x2048.size a) ∧
  (∀ (k0_h10 : k0_cond10 arg19_r0 = 1#1), ∀ a, (k0_off35 arg9_r0) a + S1x512x2048.size a ≤ S2x512x2048.size a) ∧
  (∀ (k0_h14 : k0_cond14 k0_t1 arg18_r0 arg19_r0 = 1#1), ∀ a, (k0_off36 arg16_r0) a + S1.size a ≤ S2.size a) ∧
  (∀ (k0_h14 : k0_cond14 k0_t1 arg18_r0 arg19_r0 = 1#1), ∀ a, (k0_off37 arg18_r0) a + S512x2048.size a ≤ S16384x2048.size a) ∧
  (∀ (k0_h14 : k0_cond14 k0_t1 arg18_r0 arg19_r0 = 1#1), ∀ a, (k0_off38 arg16_r0) a + S1x512x2048.size a ≤ S2x512x2048.size a) ∧
  (∀ (k0_h18 : k0_cond18 k0_t1 arg18_r0 arg19_r0 = 1#1), ∀ a, (k0_off39 arg17_r0) a + S1.size a ≤ S2.size a) ∧
  (∀ (k0_h18 : k0_cond18 k0_t1 arg18_r0 arg19_r0 = 1#1), ∀ a, (k0_off40 arg18_r0 arg19_r0) a + S512x2048.size a ≤ S16384x2048.size a) ∧
  (∀ (k0_h18 : k0_cond18 k0_t1 arg18_r0 arg19_r0 = 1#1), ∀ a, (k0_off41 arg17_r0) a + S1x512x2048.size a ≤ S2x512x2048.size a)
def k0_chk3 (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) : Prop :=
  k0_chk3_0 k0_t1 arg9_r0 arg12_r0 arg13_r0 arg14_r0 arg15_r0 arg16_r0 arg17_r0 arg18_r0 arg19_r0 ∧
  k0_chk3_1 k0_t1 arg9_r0 arg12_r0 arg13_r0 arg14_r0 arg15_r0 arg16_r0 arg17_r0 arg18_r0 arg19_r0
theorem k0_off8_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h2 : k0_cond2 k0_t1 arg19_r0 = 1#1), ∀ a, (k0_off8 arg12_r0) a + S1.size a ≤ S2.size a := fun k0_t1 arg9_r0 arg12_r0 arg13_r0 arg14_r0 arg15_r0 arg16_r0 arg17_r0 arg18_r0 arg19_r0 k0_hw3 k0_h2 => k0_hw3.1.1 k0_h2
theorem k0_off9_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h2 : k0_cond2 k0_t1 arg19_r0 = 1#1), ∀ a, (k0_off9 arg12_r0) a + S1x2048x2048.size a ≤ S2x2048x2048.size a := fun k0_t1 arg9_r0 arg12_r0 arg13_r0 arg14_r0 arg15_r0 arg16_r0 arg17_r0 arg18_r0 arg19_r0 k0_hw3 k0_h2 => k0_hw3.1.2.1 k0_h2
theorem k0_off10_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h2 : k0_cond2 k0_t1 arg19_r0 = 1#1), ∀ a, (k0_off10 arg19_r0) a + S2048x2048.size a ≤ S2048x8192.size a := fun k0_t1 arg9_r0 arg12_r0 arg13_r0 arg14_r0 arg15_r0 arg16_r0 arg17_r0 arg18_r0 arg19_r0 k0_hw3 k0_h2 => k0_hw3.1.2.2.1 k0_h2
theorem k0_off10_wordsbf16 : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h2 : k0_cond2 k0_t1 arg19_r0 = 1#1), (Rect.unit (s := S2048x8192) (k0_off10 arg19_r0) S2048x2048.size (k0_off10_inb k0_t1 arg9_r0 arg12_r0 arg13_r0 arg14_r0 arg15_r0 arg16_r0 arg17_r0 arg18_r0 arg19_r0 k0_hw3 k0_h2)).WholeWords (EltTy.packing .bf16) := fun k0_t1 arg9_r0 arg12_r0 arg13_r0 arg14_r0 arg15_r0 arg16_r0 arg17_r0 arg18_r0 arg19_r0 k0_hw3 k0_h2 => k0_hw3.1.2.2.2.1 k0_h2 (k0_off10_inb k0_t1 arg9_r0 arg12_r0 arg13_r0 arg14_r0 arg15_r0 arg16_r0 arg17_r0 arg18_r0 arg19_r0 k0_hw3 k0_h2)
theorem k0_off9_wordsbf16 : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h2 : k0_cond2 k0_t1 arg19_r0 = 1#1), (Rect.unit (s := S2x2048x2048) (k0_off9 arg12_r0) S1x2048x2048.size (k0_off9_inb k0_t1 arg9_r0 arg12_r0 arg13_r0 arg14_r0 arg15_r0 arg16_r0 arg17_r0 arg18_r0 arg19_r0 k0_hw3 k0_h2)).WholeWords (EltTy.packing .bf16) := fun k0_t1 arg9_r0 arg12_r0 arg13_r0 arg14_r0 arg15_r0 arg16_r0 arg17_r0 arg18_r0 arg19_r0 k0_hw3 k0_h2 => k0_hw3.1.2.2.2.2.1 k0_h2 (k0_off9_inb k0_t1 arg9_r0 arg12_r0 arg13_r0 arg14_r0 arg15_r0 arg16_r0 arg17_r0 arg18_r0 arg19_r0 k0_hw3 k0_h2)
theorem k0_off11_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h3 : k0_cond3 k0_t1 arg19_r0 = 1#1), ∀ a, (k0_off11 arg14_r0) a + S1.size a ≤ S2.size a := fun k0_t1 arg9_r0 arg12_r0 arg13_r0 arg14_r0 arg15_r0 arg16_r0 arg17_r0 arg18_r0 arg19_r0 k0_hw3 k0_h3 => k0_hw3.1.2.2.2.2.2.1 k0_h3
theorem k0_off12_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h3 : k0_cond3 k0_t1 arg19_r0 = 1#1), ∀ a, (k0_off12 arg14_r0) a + S1x2048x2048.size a ≤ S2x2048x2048.size a := fun k0_t1 arg9_r0 arg12_r0 arg13_r0 arg14_r0 arg15_r0 arg16_r0 arg17_r0 arg18_r0 arg19_r0 k0_hw3 k0_h3 => k0_hw3.1.2.2.2.2.2.2.1 k0_h3
theorem k0_off13_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h3 : k0_cond3 k0_t1 arg19_r0 = 1#1), ∀ a, (k0_off13 arg19_r0) a + S2048x2048.size a ≤ S8192x2048.size a := fun k0_t1 arg9_r0 arg12_r0 arg13_r0 arg14_r0 arg15_r0 arg16_r0 arg17_r0 arg18_r0 arg19_r0 k0_hw3 k0_h3 => k0_hw3.1.2.2.2.2.2.2.2.1 k0_h3
theorem k0_off13_wordsbf16 : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h3 : k0_cond3 k0_t1 arg19_r0 = 1#1), (Rect.unit (s := S8192x2048) (k0_off13 arg19_r0) S2048x2048.size (k0_off13_inb k0_t1 arg9_r0 arg12_r0 arg13_r0 arg14_r0 arg15_r0 arg16_r0 arg17_r0 arg18_r0 arg19_r0 k0_hw3 k0_h3)).WholeWords (EltTy.packing .bf16) := fun k0_t1 arg9_r0 arg12_r0 arg13_r0 arg14_r0 arg15_r0 arg16_r0 arg17_r0 arg18_r0 arg19_r0 k0_hw3 k0_h3 => k0_hw3.1.2.2.2.2.2.2.2.2.1 k0_h3 (k0_off13_inb k0_t1 arg9_r0 arg12_r0 arg13_r0 arg14_r0 arg15_r0 arg16_r0 arg17_r0 arg18_r0 arg19_r0 k0_hw3 k0_h3)
theorem k0_off12_wordsbf16 : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h3 : k0_cond3 k0_t1 arg19_r0 = 1#1), (Rect.unit (s := S2x2048x2048) (k0_off12 arg14_r0) S1x2048x2048.size (k0_off12_inb k0_t1 arg9_r0 arg12_r0 arg13_r0 arg14_r0 arg15_r0 arg16_r0 arg17_r0 arg18_r0 arg19_r0 k0_hw3 k0_h3)).WholeWords (EltTy.packing .bf16) := fun k0_t1 arg9_r0 arg12_r0 arg13_r0 arg14_r0 arg15_r0 arg16_r0 arg17_r0 arg18_r0 arg19_r0 k0_hw3 k0_h3 => k0_hw3.1.2.2.2.2.2.2.2.2.2.1 k0_h3 (k0_off12_inb k0_t1 arg9_r0 arg12_r0 arg13_r0 arg14_r0 arg15_r0 arg16_r0 arg17_r0 arg18_r0 arg19_r0 k0_hw3 k0_h3)
theorem k0_off14_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h4 : k0_cond4 k0_t1 arg18_r0 arg19_r0 = 1#1), ∀ a, (k0_off14 arg9_r0) a + S1.size a ≤ S2.size a := fun k0_t1 arg9_r0 arg12_r0 arg13_r0 arg14_r0 arg15_r0 arg16_r0 arg17_r0 arg18_r0 arg19_r0 k0_hw3 k0_h4 => k0_hw3.1.2.2.2.2.2.2.2.2.2.2.1 k0_h4
theorem k0_off15_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h4 : k0_cond4 k0_t1 arg18_r0 arg19_r0 = 1#1), ∀ a, (k0_off15 arg9_r0) a + S1x512x2048.size a ≤ S2x512x2048.size a := fun k0_t1 arg9_r0 arg12_r0 arg13_r0 arg14_r0 arg15_r0 arg16_r0 arg17_r0 arg18_r0 arg19_r0 k0_hw3 k0_h4 => k0_hw3.1.2.2.2.2.2.2.2.2.2.2.2.1 k0_h4
theorem k0_off16_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h4 : k0_cond4 k0_t1 arg18_r0 arg19_r0 = 1#1), ∀ a, (k0_off16 arg18_r0) a + S512x2048.size a ≤ S16384x2048.size a := fun k0_t1 arg9_r0 arg12_r0 arg13_r0 arg14_r0 arg15_r0 arg16_r0 arg17_r0 arg18_r0 arg19_r0 k0_hw3 k0_h4 => k0_hw3.1.2.2.2.2.2.2.2.2.2.2.2.2.1 k0_h4
theorem k0_off17_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h5 : k0_cond5 k0_t1 arg19_r0 = 1#1), ∀ a, (k0_off17 arg13_r0) a + S1.size a ≤ S2.size a := fun k0_t1 arg9_r0 arg12_r0 arg13_r0 arg14_r0 arg15_r0 arg16_r0 arg17_r0 arg18_r0 arg19_r0 k0_hw3 k0_h5 => k0_hw3.1.2.2.2.2.2.2.2.2.2.2.2.2.2.1 k0_h5
theorem k0_off18_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h5 : k0_cond5 k0_t1 arg19_r0 = 1#1), ∀ a, (k0_off18 arg13_r0) a + S1x2048x2048.size a ≤ S2x2048x2048.size a := fun k0_t1 arg9_r0 arg12_r0 arg13_r0 arg14_r0 arg15_r0 arg16_r0 arg17_r0 arg18_r0 arg19_r0 k0_hw3 k0_h5 => k0_hw3.1.2.2.2.2.2.2.2.2.2.2.2.2.2.2.1 k0_h5
theorem k0_off19_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h5 : k0_cond5 k0_t1 arg19_r0 = 1#1), ∀ a, (k0_off19 arg19_r0) a + S2048x2048.size a ≤ S2048x8192.size a := fun k0_t1 arg9_r0 arg12_r0 arg13_r0 arg14_r0 arg15_r0 arg16_r0 arg17_r0 arg18_r0 arg19_r0 k0_hw3 k0_h5 => k0_hw3.1.2.2.2.2.2.2.2.2.2.2.2.2.2.2.2.1 k0_h5
theorem k0_off19_wordsbf16 : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h5 : k0_cond5 k0_t1 arg19_r0 = 1#1), (Rect.unit (s := S2048x8192) (k0_off19 arg19_r0) S2048x2048.size (k0_off19_inb k0_t1 arg9_r0 arg12_r0 arg13_r0 arg14_r0 arg15_r0 arg16_r0 arg17_r0 arg18_r0 arg19_r0 k0_hw3 k0_h5)).WholeWords (EltTy.packing .bf16) := fun k0_t1 arg9_r0 arg12_r0 arg13_r0 arg14_r0 arg15_r0 arg16_r0 arg17_r0 arg18_r0 arg19_r0 k0_hw3 k0_h5 => k0_hw3.1.2.2.2.2.2.2.2.2.2.2.2.2.2.2.2.2.1 k0_h5 (k0_off19_inb k0_t1 arg9_r0 arg12_r0 arg13_r0 arg14_r0 arg15_r0 arg16_r0 arg17_r0 arg18_r0 arg19_r0 k0_hw3 k0_h5)
theorem k0_off18_wordsbf16 : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h5 : k0_cond5 k0_t1 arg19_r0 = 1#1), (Rect.unit (s := S2x2048x2048) (k0_off18 arg13_r0) S1x2048x2048.size (k0_off18_inb k0_t1 arg9_r0 arg12_r0 arg13_r0 arg14_r0 arg15_r0 arg16_r0 arg17_r0 arg18_r0 arg19_r0 k0_hw3 k0_h5)).WholeWords (EltTy.packing .bf16) := fun k0_t1 arg9_r0 arg12_r0 arg13_r0 arg14_r0 arg15_r0 arg16_r0 arg17_r0 arg18_r0 arg19_r0 k0_hw3 k0_h5 => k0_hw3.1.2.2.2.2.2.2.2.2.2.2.2.2.2.2.2.2.2.1 k0_h5 (k0_off18_inb k0_t1 arg9_r0 arg12_r0 arg13_r0 arg14_r0 arg15_r0 arg16_r0 arg17_r0 arg18_r0 arg19_r0 k0_hw3 k0_h5)
theorem k0_off20_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h6 : k0_cond6 k0_t1 arg19_r0 = 1#1), ∀ a, (k0_off20 arg15_r0) a + S1.size a ≤ S2.size a := fun k0_t1 arg9_r0 arg12_r0 arg13_r0 arg14_r0 arg15_r0 arg16_r0 arg17_r0 arg18_r0 arg19_r0 k0_hw3 k0_h6 => k0_hw3.1.2.2.2.2.2.2.2.2.2.2.2.2.2.2.2.2.2.2.1 k0_h6
theorem k0_off21_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h6 : k0_cond6 k0_t1 arg19_r0 = 1#1), ∀ a, (k0_off21 arg15_r0) a + S1x2048x2048.size a ≤ S2x2048x2048.size a := fun k0_t1 arg9_r0 arg12_r0 arg13_r0 arg14_r0 arg15_r0 arg16_r0 arg17_r0 arg18_r0 arg19_r0 k0_hw3 k0_h6 => k0_hw3.1.2.2.2.2.2.2.2.2.2.2.2.2.2.2.2.2.2.2.2.1 k0_h6
theorem k0_off22_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h6 : k0_cond6 k0_t1 arg19_r0 = 1#1), ∀ a, (k0_off22 arg19_r0) a + S2048x2048.size a ≤ S8192x2048.size a := fun k0_t1 arg9_r0 arg12_r0 arg13_r0 arg14_r0 arg15_r0 arg16_r0 arg17_r0 arg18_r0 arg19_r0 k0_hw3 k0_h6 => k0_hw3.1.2.2.2.2.2.2.2.2.2.2.2.2.2.2.2.2.2.2.2.2.1 k0_h6
theorem k0_off22_wordsbf16 : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h6 : k0_cond6 k0_t1 arg19_r0 = 1#1), (Rect.unit (s := S8192x2048) (k0_off22 arg19_r0) S2048x2048.size (k0_off22_inb k0_t1 arg9_r0 arg12_r0 arg13_r0 arg14_r0 arg15_r0 arg16_r0 arg17_r0 arg18_r0 arg19_r0 k0_hw3 k0_h6)).WholeWords (EltTy.packing .bf16) := fun k0_t1 arg9_r0 arg12_r0 arg13_r0 arg14_r0 arg15_r0 arg16_r0 arg17_r0 arg18_r0 arg19_r0 k0_hw3 k0_h6 => k0_hw3.1.2.2.2.2.2.2.2.2.2.2.2.2.2.2.2.2.2.2.2.2.2.1 k0_h6 (k0_off22_inb k0_t1 arg9_r0 arg12_r0 arg13_r0 arg14_r0 arg15_r0 arg16_r0 arg17_r0 arg18_r0 arg19_r0 k0_hw3 k0_h6)
theorem k0_off21_wordsbf16 : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h6 : k0_cond6 k0_t1 arg19_r0 = 1#1), (Rect.unit (s := S2x2048x2048) (k0_off21 arg15_r0) S1x2048x2048.size (k0_off21_inb k0_t1 arg9_r0 arg12_r0 arg13_r0 arg14_r0 arg15_r0 arg16_r0 arg17_r0 arg18_r0 arg19_r0 k0_hw3 k0_h6)).WholeWords (EltTy.packing .bf16) := fun k0_t1 arg9_r0 arg12_r0 arg13_r0 arg14_r0 arg15_r0 arg16_r0 arg17_r0 arg18_r0 arg19_r0 k0_hw3 k0_h6 => k0_hw3.1.2.2.2.2.2.2.2.2.2.2.2.2.2.2.2.2.2.2.2.2.2.2.1 k0_h6 (k0_off21_inb k0_t1 arg9_r0 arg12_r0 arg13_r0 arg14_r0 arg15_r0 arg16_r0 arg17_r0 arg18_r0 arg19_r0 k0_hw3 k0_h6)
theorem k0_off23_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h8 : k0_cond8 arg19_r0 = 1#1), ∀ a, (k0_off23 arg9_r0) a + S1x512x2048.size a ≤ S2x512x2048.size a := fun k0_t1 arg9_r0 arg12_r0 arg13_r0 arg14_r0 arg15_r0 arg16_r0 arg17_r0 arg18_r0 arg19_r0 k0_hw3 k0_h8 => k0_hw3.1.2.2.2.2.2.2.2.2.2.2.2.2.2.2.2.2.2.2.2.2.2.2.2.1 k0_h8
theorem k0_off24_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h8 : k0_cond8 arg19_r0 = 1#1), ∀ a, (k0_off24 arg13_r0) a + S1x2048x2048.size a ≤ S2x2048x2048.size a := fun k0_t1 arg9_r0 arg12_r0 arg13_r0 arg14_r0 arg15_r0 arg16_r0 arg17_r0 arg18_r0 arg19_r0 k0_hw3 k0_h8 => k0_hw3.1.2.2.2.2.2.2.2.2.2.2.2.2.2.2.2.2.2.2.2.2.2.2.2.2.1 k0_h8
theorem k0_off25_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h8 : k0_cond8 arg19_r0 = 1#1), ∀ a, (k0_off25 arg15_r0) a + S1x2048x2048.size a ≤ S2x2048x2048.size a := fun k0_t1 arg9_r0 arg12_r0 arg13_r0 arg14_r0 arg15_r0 arg16_r0 arg17_r0 arg18_r0 arg19_r0 k0_hw3 k0_h8 => k0_hw3.1.2.2.2.2.2.2.2.2.2.2.2.2.2.2.2.2.2.2.2.2.2.2.2.2.2.1 k0_h8
theorem k0_off26_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h8 : k0_cond8 arg19_r0 = 1#1), ∀ a, (k0_off26 arg16_r0) a + S1x512x2048.size a ≤ S2x512x2048.size a := fun k0_t1 arg9_r0 arg12_r0 arg13_r0 arg14_r0 arg15_r0 arg16_r0 arg17_r0 arg18_r0 arg19_r0 k0_hw3 k0_h8 => k0_hw3.1.2.2.2.2.2.2.2.2.2.2.2.2.2.2.2.2.2.2.2.2.2.2.2.2.2.2.1 k0_h8
theorem k0_off27_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h8 : k0_cond8 arg19_r0 = 1#1), ∀ a, (k0_off27 arg13_r0) a + S1x2048x2048.size a ≤ S2x2048x2048.size a := fun k0_t1 arg9_r0 arg12_r0 arg13_r0 arg14_r0 arg15_r0 arg16_r0 arg17_r0 arg18_r0 arg19_r0 k0_hw3 k0_h8 => k0_hw3.1.2.2.2.2.2.2.2.2.2.2.2.2.2.2.2.2.2.2.2.2.2.2.2.2.2.2.2.1 k0_h8
theorem k0_off28_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h8 : k0_cond8 arg19_r0 = 1#1), ∀ a, (k0_off28 arg15_r0) a + S1x2048x2048.size a ≤ S2x2048x2048.size a := fun k0_t1 arg9_r0 arg12_r0 arg13_r0 arg14_r0 arg15_r0 arg16_r0 arg17_r0 arg18_r0 arg19_r0 k0_hw3 k0_h8 => k0_hw3.1.2.2.2.2.2.2.2.2.2.2.2.2.2.2.2.2.2.2.2.2.2.2.2.2.2.2.2.2.1 k0_h8
theorem k0_off29_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h9 : k0_cond9 arg19_r0 = 1#1), ∀ a, (k0_off29 arg16_r0) a + S1x512x2048.size a ≤ S2x512x2048.size a := fun k0_t1 arg9_r0 arg12_r0 arg13_r0 arg14_r0 arg15_r0 arg16_r0 arg17_r0 arg18_r0 arg19_r0 k0_hw3 k0_h9 => k0_hw3.1.2.2.2.2.2.2.2.2.2.2.2.2.2.2.2.2.2.2.2.2.2.2.2.2.2.2.2.2.2.1 k0_h9
theorem k0_off30_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h9 : k0_cond9 arg19_r0 = 1#1), ∀ a, (k0_off30 arg13_r0) a + S1x2048x2048.size a ≤ S2x2048x2048.size a := fun k0_t1 arg9_r0 arg12_r0 arg13_r0 arg14_r0 arg15_r0 arg16_r0 arg17_r0 arg18_r0 arg19_r0 k0_hw3 k0_h9 => k0_hw3.1.2.2.2.2.2.2.2.2.2.2.2.2.2.2.2.2.2.2.2.2.2.2.2.2.2.2.2.2.2.2.1 k0_h9
theorem k0_off31_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h9 : k0_cond9 arg19_r0 = 1#1), ∀ a, (k0_off31 arg15_r0) a + S1x2048x2048.size a ≤ S2x2048x2048.size a := fun k0_t1 arg9_r0 arg12_r0 arg13_r0 arg14_r0 arg15_r0 arg16_r0 arg17_r0 arg18_r0 arg19_r0 k0_hw3 k0_h9 => k0_hw3.1.2.2.2.2.2.2.2.2.2.2.2.2.2.2.2.2.2.2.2.2.2.2.2.2.2.2.2.2.2.2.2 k0_h9
theorem k0_off32_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h10 : k0_cond10 arg19_r0 = 1#1), ∀ a, (k0_off32 arg16_r0) a + S1x512x2048.size a ≤ S2x512x2048.size a := fun k0_t1 arg9_r0 arg12_r0 arg13_r0 arg14_r0 arg15_r0 arg16_r0 arg17_r0 arg18_r0 arg19_r0 k0_hw3 k0_h10 => k0_hw3.2.1 k0_h10
theorem k0_off33_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h10 : k0_cond10 arg19_r0 = 1#1), ∀ a, (k0_off33 arg13_r0) a + S1x2048x2048.size a ≤ S2x2048x2048.size a := fun k0_t1 arg9_r0 arg12_r0 arg13_r0 arg14_r0 arg15_r0 arg16_r0 arg17_r0 arg18_r0 arg19_r0 k0_hw3 k0_h10 => k0_hw3.2.2.1 k0_h10
theorem k0_off34_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h10 : k0_cond10 arg19_r0 = 1#1), ∀ a, (k0_off34 arg15_r0) a + S1x2048x2048.size a ≤ S2x2048x2048.size a := fun k0_t1 arg9_r0 arg12_r0 arg13_r0 arg14_r0 arg15_r0 arg16_r0 arg17_r0 arg18_r0 arg19_r0 k0_hw3 k0_h10 => k0_hw3.2.2.2.1 k0_h10
theorem k0_off35_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h10 : k0_cond10 arg19_r0 = 1#1), ∀ a, (k0_off35 arg9_r0) a + S1x512x2048.size a ≤ S2x512x2048.size a := fun k0_t1 arg9_r0 arg12_r0 arg13_r0 arg14_r0 arg15_r0 arg16_r0 arg17_r0 arg18_r0 arg19_r0 k0_hw3 k0_h10 => k0_hw3.2.2.2.2.1 k0_h10
theorem k0_off36_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h14 : k0_cond14 k0_t1 arg18_r0 arg19_r0 = 1#1), ∀ a, (k0_off36 arg16_r0) a + S1.size a ≤ S2.size a := fun k0_t1 arg9_r0 arg12_r0 arg13_r0 arg14_r0 arg15_r0 arg16_r0 arg17_r0 arg18_r0 arg19_r0 k0_hw3 k0_h14 => k0_hw3.2.2.2.2.2.1 k0_h14
theorem k0_off37_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h14 : k0_cond14 k0_t1 arg18_r0 arg19_r0 = 1#1), ∀ a, (k0_off37 arg18_r0) a + S512x2048.size a ≤ S16384x2048.size a := fun k0_t1 arg9_r0 arg12_r0 arg13_r0 arg14_r0 arg15_r0 arg16_r0 arg17_r0 arg18_r0 arg19_r0 k0_hw3 k0_h14 => k0_hw3.2.2.2.2.2.2.1 k0_h14
theorem k0_off38_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h14 : k0_cond14 k0_t1 arg18_r0 arg19_r0 = 1#1), ∀ a, (k0_off38 arg16_r0) a + S1x512x2048.size a ≤ S2x512x2048.size a := fun k0_t1 arg9_r0 arg12_r0 arg13_r0 arg14_r0 arg15_r0 arg16_r0 arg17_r0 arg18_r0 arg19_r0 k0_hw3 k0_h14 => k0_hw3.2.2.2.2.2.2.2.1 k0_h14
theorem k0_off39_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h18 : k0_cond18 k0_t1 arg18_r0 arg19_r0 = 1#1), ∀ a, (k0_off39 arg17_r0) a + S1.size a ≤ S2.size a := fun k0_t1 arg9_r0 arg12_r0 arg13_r0 arg14_r0 arg15_r0 arg16_r0 arg17_r0 arg18_r0 arg19_r0 k0_hw3 k0_h18 => k0_hw3.2.2.2.2.2.2.2.2.1 k0_h18
theorem k0_off40_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h18 : k0_cond18 k0_t1 arg18_r0 arg19_r0 = 1#1), ∀ a, (k0_off40 arg18_r0 arg19_r0) a + S512x2048.size a ≤ S16384x2048.size a := fun k0_t1 arg9_r0 arg12_r0 arg13_r0 arg14_r0 arg15_r0 arg16_r0 arg17_r0 arg18_r0 arg19_r0 k0_hw3 k0_h18 => k0_hw3.2.2.2.2.2.2.2.2.2.1 k0_h18
theorem k0_off41_inb : ∀ (k0_t1 : Fin k0_t1_loop.trips) (arg9_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k0_hw3 : k0_chk3 k0_t1 arg9_r0 arg12_r0 arg13_r0 arg14_r0 arg15_r0 arg16_r0 arg17_r0 arg18_r0 arg19_r0), ∀ (k0_h18 : k0_cond18 k0_t1 arg18_r0 arg19_r0 = 1#1), ∀ a, (k0_off41 arg17_r0) a + S1x512x2048.size a ≤ S2x512x2048.size a := fun k0_t1 arg9_r0 arg12_r0 arg13_r0 arg14_r0 arg15_r0 arg16_r0 arg17_r0 arg18_r0 arg19_r0 k0_hw3 k0_h18 => k0_hw3.2.2.2.2.2.2.2.2.2.2 k0_h18

def k0_off42 (v55_9_r0 : BitVec 32) : Fin 1 → Nat :=
  let c2_i32_100_r0 : BitVec 32 := 2#32
  let v96_r0 : BitVec 32 := Scalar.remui v55_9_r0 c2_i32_100_r0
  ![v96_r0.toNat]

def k0_off43 (v55_11_r0 : BitVec 32) (v55_10_r0 : BitVec 32) : Fin 2 → Nat :=
  let c512_i32_101_r0 : BitVec 32 := 512#32
  let true_65_r0 : BitVec 1 := 1#1
  let c1_i32_64_r0 : BitVec 32 := 1#32
  let v56_r0 : BitVec 32 := Scalar.subi v55_11_r0 c1_i32_64_r0
  let v57_r0 : BitVec 32 := Scalar.select true_65_r0 v56_r0 v55_11_r0
  let c_m1_i32_66_r0 : BitVec 32 := 4294967295#32
  let v58_r0 : BitVec 1 := Scalar.cmpi .eq v57_r0 c_m1_i32_66_r0
  let c1_i32_68_r0 : BitVec 32 := 1#32
  let v60_r0 : BitVec 32 := Scalar.subi v55_10_r0 c1_i32_68_r0
  let v61_r0 : BitVec 32 := Scalar.select v58_r0 v60_r0 v55_10_r0
  let c_m1_i32_69_r0 : BitVec 32 := 4294967295#32
  let v62_r0 : BitVec 1 := Scalar.cmpi .eq v61_r0 c_m1_i32_69_r0
  let c31_i32_70_r0 : BitVec 32 := 31#32
  let v63_r0 : BitVec 32 := Scalar.select v62_r0 c31_i32_70_r0 v61_r0
  let c0_i32_71_r0 : BitVec 32 := 0#32
  let v64_r0 : BitVec 32 := Scalar.addi v63_r0 c0_i32_71_r0
  let v97_r0 : BitVec 32 := Scalar.muli c512_i32_101_r0 v64_r0
  let c0_i32_102_r0 : BitVec 32 := 0#32
  ![v97_r0.toNat, 0]

def k0_chk5 (v55_11_r0 : BitVec 32) (v55_10_r0 : BitVec 32) : Prop :=
  (∀ a, (k0_off43 v55_11_r0 v55_10_r0) a + S512x2048.size a ≤ S16384x2048.size a)
theorem k0_off43_inb : ∀ (v55_11_r0 : BitVec 32) (v55_10_r0 : BitVec 32) (k0_hw5 : k0_chk5 v55_11_r0 v55_10_r0), ∀ a, (k0_off43 v55_11_r0 v55_10_r0) a + S512x2048.size a ≤ S16384x2048.size a := fun v55_11_r0 v55_10_r0 k0_hw5 => k0_hw5

def k0_off44 (v55_9_r0 : BitVec 32) : Fin 3 → Nat :=
  let c2_i32_100_r0 : BitVec 32 := 2#32
  let v96_r0 : BitVec 32 := Scalar.remui v55_9_r0 c2_i32_100_r0
  let c0_i32_103_r0 : BitVec 32 := 0#32
  let c0_i32_104_r0 : BitVec 32 := 0#32
  ![v96_r0.toNat, 0, 0]

def k0_chk4 (v55_9_r0 : BitVec 32) : Prop :=
  (∀ a, (k0_off42 v55_9_r0) a + S1.size a ≤ S2.size a) ∧
  (∀ a, (k0_off44 v55_9_r0) a + S1x512x2048.size a ≤ S2x512x2048.size a)
theorem k0_off42_inb : ∀ (v55_9_r0 : BitVec 32) (k0_hw4 : k0_chk4 v55_9_r0), ∀ a, (k0_off42 v55_9_r0) a + S1.size a ≤ S2.size a := fun v55_9_r0 k0_hw4 => k0_hw4.1
theorem k0_off44_inb : ∀ (v55_9_r0 : BitVec 32) (k0_hw4 : k0_chk4 v55_9_r0), ∀ a, (k0_off44 v55_9_r0) a + S1x512x2048.size a ≤ S2x512x2048.size a := fun v55_9_r0 k0_hw4 => k0_hw4.2

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x2048x2048 : Shape := ⟨3, ![8, 2048, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x8192 : Shape := ⟨2, ![2048, 8192]⟩
abbrev S8x2048x8192 : Shape := ⟨3, ![8, 2048, 8192]⟩
abbrev S8192x2048 : Shape := ⟨2, ![8192, 2048]⟩
abbrev S16384x2048 : Shape := ⟨2, ![16384, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S1x2048, .f32⟩
  | .hbm, ⟨5, _⟩ => ⟨S2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S1x1x2048, .f32⟩
  | .hbm, ⟨20, _⟩ => ⟨S8x2048x2048, .f32⟩
  | .hbm, ⟨21, _⟩ => ⟨S8x2048x2048, .f32⟩
  | .hbm, ⟨22, _⟩ => ⟨S2048x8192, .f32⟩
  | .hbm, ⟨23, _⟩ => ⟨S8x2048x8192, .f32⟩
  | .hbm, ⟨24, _⟩ => ⟨S_, .f32⟩
  | .hbm, ⟨25, _⟩ => ⟨S8x2048x8192, .f32⟩
  | .hbm, ⟨26, _⟩ => ⟨S8x2048x8192, .f32⟩
  | .hbm, ⟨27, _⟩ => ⟨S8x2048x8192, .f32⟩
  | .hbm, ⟨28, _⟩ => ⟨S8192x2048, .f32⟩
  | .hbm, ⟨29, _⟩ => ⟨S8x2048x2048, .f32⟩
  | .hbm, ⟨30, _⟩ => ⟨S2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S8x2048x1, .f32⟩
  | .hbm, ⟨42, _⟩ => ⟨S8x2048x2048, .f32⟩
  | .hbm, ⟨43, _⟩ => ⟨S8x2048x2048, .f32⟩
  | .hbm, ⟨44, _⟩ => ⟨S1x1x2048, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel2.lean ====
abbrev S8x2048x2048 : Shape := ⟨3, ![8, 2048, 2048]⟩
abbrev S1x2048 : Shape := ⟨2, ![1, 2048]⟩
abbrev S1x2048x7168 : Shape := ⟨3, ![1, 2048, 7168]⟩
abbrev S1x1024x2048 : Shape := ⟨3, ![1, 1024, 2048]⟩
abbrev S1x2048x2048 : Shape := ⟨3, ![1, 2048, 2048]⟩
abbrev S1x2048x8192 : Shape := ⟨3, ![1, 2048, 8192]⟩
abbrev S1x8192x2048 : Shape := ⟨3, ![1, 8192, 2048]⟩
abbrev S16384x2048 : Shape := ⟨2, ![16384, 2048]⟩
abbrev S2048 : Shape := ⟨1, ![2048]⟩
abbrev S2048x7168 : Shape := ⟨2, ![2048, 7168]⟩
abbrev S1024x2048 : Shape := ⟨2, ![1024, 2048]⟩
abbrev S2048x2048 : Shape := ⟨2, ![2048, 2048]⟩
abbrev S2048x8192 : Shape := ⟨2, ![2048, 8192]⟩
abbrev S8192x2048 : Shape := ⟨2, ![8192, 2048]⟩
abbrev S16384x1024 : Shape := ⟨2, ![16384, 1024]⟩
abbrev S256x2048 : Shape := ⟨2, ![256, 2048]⟩
abbrev S16x2048 : Shape := ⟨2, ![16, 2048]⟩
abbrev S32x2048 : Shape := ⟨2, ![32, 2048]⟩
abbrev S32x8192 : Shape := ⟨2, ![32, 8192]⟩
abbrev S128x2048 : Shape := ⟨2, ![128, 2048]⟩
abbrev S256x1024 : Shape := ⟨2, ![256, 1024]⟩
abbrev S4x32x7168 : Shape := ⟨3, ![4, 32, 7168]⟩
abbrev S4 : Shape := ⟨1, ![4]⟩
abbrev S1 : Shape := ⟨1, ![1]⟩
abbrev S_ : Shape := ⟨0, ![]⟩
abbrev S1x32x7168 : Shape := ⟨3, ![1, 32, 7168]⟩
abbrev S32x7168 : Shape := ⟨2, ![32, 7168]⟩
abbrev S256 : Shape := ⟨1, ![256]⟩
abbrev S256x1 : Shape := ⟨2, ![256, 1]⟩
abbrev S2048x1024 : Shape := ⟨2, ![2048, 1024]⟩

abbrev nBuf : Space → Nat
  | .hbm => 26
  | .vmem => 33
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x7168, .f32⟩
  | .hbm, ⟨3, _⟩ => ⟨S1x1024x2048, .f32⟩
  | .hbm, ⟨4, _⟩ => ⟨S1x1024x2048, .f32⟩
  | .hbm, ⟨5, _⟩ => ⟨S1x2048x2048, .f32⟩
  | .hbm, ⟨6, _⟩ => ⟨S1x2048x8192, .f32⟩
  | .hbm, ⟨7, _⟩ => ⟨S1x8192x2048, .f32⟩
  | .hbm, ⟨8, _⟩ => ⟨S16384x2048, .f32⟩
  | .hbm, ⟨9, _⟩ => ⟨S2048, .f32⟩
  | .hbm, ⟨10, _⟩ => ⟨S1x2048, .f32⟩
  | .hbm, ⟨11, _⟩ => ⟨S2048x7168, .f32⟩
  | .hbm, ⟨12, _⟩ => ⟨S1024x2048, .f32⟩
  | .hbm, ⟨13, _⟩ => ⟨S1024x2048, .f32⟩
  | .hbm, ⟨14, _⟩ => ⟨S2048x2048, .f32⟩
  | .hbm, ⟨15, _⟩ => ⟨S2048x8192, .f32⟩
  | .hbm, ⟨16, _⟩ => ⟨S8192x2048, .f32⟩
  | .hbm, ⟨17, _⟩ => ⟨S16384x1024, .f32⟩
  | .hbm, ⟨18, _⟩ => ⟨S16384x1024, .f32⟩
  | .hbm, ⟨19, _⟩ => ⟨S16384x2048, .bf16⟩
  | .hbm, ⟨20, _⟩ => ⟨S16384x2048, .bf16⟩
  | .hbm, ⟨21, _⟩ => ⟨S1024x2048, .bf16⟩
  | .hbm, ⟨22, _⟩ => ⟨S1024x2048, .bf16⟩
  | .hbm, ⟨23, _⟩ => ⟨S2048x2048, .bf16⟩
  | .hbm, ⟨24, _⟩ => ⟨S2048x8192, .bf16⟩
  | .hbm, ⟨25, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S16x2048, .f32⟩
  | .local _ .vmem, ⟨7, _⟩ => ⟨S32x2048, .f32⟩
  | .local _ .vmem, ⟨8, _⟩ => ⟨S32x2048, .f32⟩
  | .local _ .vmem, ⟨9, _⟩ => ⟨S32x8192, .f32⟩
  | .local _ .vmem, ⟨10, _⟩ => ⟨S32x8192, .f32⟩
  | .local _ .vmem, ⟨11, _⟩ => ⟨S128x2048, .f32⟩
  | .local _ .vmem, ⟨12, _⟩ => ⟨S128x2048, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S16x2048, .bf16⟩
  | .local _ .vmem, ⟨22, _⟩ => ⟨S16x2048, .bf16⟩
  | .local _ .vmem, ⟨23, _⟩ => ⟨S16x2048, .bf16⟩
  | .local _ .vmem, ⟨24, _⟩ => ⟨S16x2048, .bf16⟩
  | .local _ .vmem, ⟨25, _⟩ => ⟨S32x2048, .bf16⟩
  | .local _ .vmem, ⟨26, _⟩ => ⟨S32x2048, .bf16⟩
  | .local _ .vmem, ⟨27, _⟩ => ⟨S32x8192, .bf16⟩
  | .local _ .vmem, ⟨28, _⟩ => ⟨S32x8192, .bf16⟩
  | .local _ .vmem, ⟨29, _⟩ => ⟨S128x2048, .bf16⟩
  | .local _ .vmem, ⟨30, _⟩ => ⟨S128x2048, .bf16⟩
  | .local _ .vmem, ⟨31, _⟩ => ⟨S2048x7168, .bf16⟩
  | .local _ .vmem, ⟨32, _⟩ => ⟨S4x32x7168, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev main_v9_6 : Ref sig .tc := ⟨.hbm, 23, rfl⟩
abbrev main_v9_7 : Ref sig .tc := ⟨.hbm, 24, rfl⟩
abbrev main_v9_8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_82 : BitVec 32 := 0#32
  let c64_i32_83 : BitVec 32 := 64#32
  let v115 : BitVec 32 := Scalar.addi c0_i32_82 c64_i32_83
  let c1_i32_84 : BitVec 32 := 1#32
  ⟨c0_i32_82, v115, c1_i32_84⟩
def k0_cond2 (k0_t1 : Fin k0_t1_loop.trips) : BitVec 1 :=
  let c0_i32_82 : BitVec 32 := 0#32
  let c1_i32_84 : BitVec 32 := 1#32
  let arg21 : BitVec 32 := Scf.iv c0_i32_82 c1_i32_84 k0_t1
  let c4_i32_91 : BitVec 32 := 4#32
  let v126 : BitVec 32 := Scalar.addi arg21 c4_i32_91
  let c1_i32_92 : BitVec 32 := 1#32
  let v127 : BitVec 32 := Scalar.subi v126 c1_i32_92
  let c64_i32_93 : BitVec 32 := 64#32
  let v128 : BitVec 1 := Scalar.cmpi .slt v127 c64_i32_93
  let v129 : BitVec 32 := Scalar.extui v128
  let c0_i32_94 : BitVec 32 := 0#32
  let v130 : BitVec 1 := Scalar.cmpi .ne v129 c0_i32_94
  v130

def k0_off1 (k0_t1 : Fin k0_t1_loop.trips) : Fin 1 → Nat :=
  let c0_i32_82 : BitVec 32 := 0#32
  let c1_i32_84 : BitVec 32 := 1#32
  let arg21 : BitVec 32 := Scf.iv c0_i32_82 c1_i32_84 k0_t1
  let c4_i32_91 : BitVec 32 := 4#32
  let v126 : BitVec 32 := Scalar.addi arg21 c4_i32_91
  let c1_i32_92 : BitVec 32 := 1#32
  let v127 : BitVec 32 := Scalar.subi v126 c1_i32_92
  let c4_i32_103 : BitVec 32 := 4#32
  let c0_i32_104 : BitVec 32 := 0#32
  let v147 : BitVec 1 := Scalar.cmpi .eq c4_i32_103 c0_i32_104
  let c1_i32_105 : BitVec 32 := 1#32
  let v148 : BitVec 32 := Scalar.select v147 c1_i32_105 c4_i32_103
  let v149 : BitVec 32 := Scalar.remsi v127 v148
  let c0_i32_107 : BitVec 32 := 0#32
  let v151 : BitVec 1 := Scalar.cmpi .slt v149 c0_i32_107
  let c0_i32_108 : BitVec 32 := 0#32
  let v152 : BitVec 1 := Scalar.cmpi .slt v148 c0_i32_108
  let v153 : BitVec 1 := Scalar.xori v151 v152
  let c0_i32_106 : BitVec 32 := 0#32
  let v150 : BitVec 1 := Scalar.cmpi .ne v149 c0_i32_106
  let v154 : BitVec 1 := Scalar.andi v153 v150
  let v155 : BitVec 32 := Scalar.addi v149 v148
  let v156 : BitVec 32 := Scalar.select v154 v155 v149
  ![v156.toNat]
def k0_off2 (k0_t1 : Fin k0_t1_loop.trips) : Fin 3 → Nat :=
  let c0_i32_82 : BitVec 32 := 0#32
  let c1_i32_84 : BitVec 32 := 1#32
  let arg21 : BitVec 32 := Scf.iv c0_i32_82 c1_i32_84 k0_t1
  let c4_i32_91 : BitVec 32 := 4#32
  let v126 : BitVec 32 := Scalar.addi arg21 c4_i32_91
  let c1_i32_92 : BitVec 32 := 1#32
  let v127 : BitVec 32 := Scalar.subi v126 c1_i32_92
  let c4_i32_103 : BitVec 32 := 4#32
  let c0_i32_104 : BitVec 32 := 0#32
  let v147 : BitVec 1 := Scalar.cmpi .eq c4_i32_103 c0_i32_104
  let c1_i32_105 : BitVec 32 := 1#32
  let v148 : BitVec 32 := Scalar.select v147 c1_i32_105 c4_i32_103
  let v149 : BitVec 32 := Scalar.remsi v127 v148
  let c0_i32_107 : BitVec 32 := 0#32
  let v151 : BitVec 1 := Scalar.cmpi .slt v149 c0_i32_107
  let c0_i32_108 : BitVec 32 := 0#32
  let v152 : BitVec 1 := Scalar.cmpi .slt v148 c0_i32_108
  let v153 : BitVec 1 := Scalar.xori v151 v152
  let c0_i32_106 : BitVec 32 := 0#32
  let v150 : BitVec 1 := Scalar.cmpi .ne v149 c0_i32_106
  let v154 : BitVec 1 := Scalar.andi v153 v150
  let v155 : BitVec 32 := Scalar.addi v149 v148
  let v156 : BitVec 32 := Scalar.select v154 v155 v149
  let c0_i32_110 : BitVec 32 := 0#32
  let c0_i32_111 : BitVec 32 := 0#32
  ![v156.toNat, 0, 0]
def k0_off3 (k0_t1 : Fin k0_t1_loop.trips) : Fin 2 → Nat :=
  let c0_i32_82 : BitVec 32 := 0#32
  let c1_i32_84 : BitVec 32 := 1#32
  let arg21 : BitVec 32 := Scf.iv c0_i32_82 c1_i32_84 k0_t1
  let c4_i32_91 : BitVec 32 := 4#32
  let v126 : BitVec 32 := Scalar.addi arg21 c4_i32_91
  let c1_i32_92 : BitVec 32 := 1#32
  let v127 : BitVec 32 := Scalar.subi v126 c1_i32_92
  let c32_i32_109 : BitVec 32 := 32#32
  let v157 : BitVec 32 := Scalar.muli v127 c32_i32_109
  let c0_i32_112 : BitVec 32 := 0#32
  ![v157.toNat, 0]
def k0_off4 (k0_t1 : Fin k0_t1_loop.trips) : Fin 1 → Nat :=
  let c0_i32_82 : BitVec 32 := 0#32
  let c1_i32_84 : BitVec 32 := 1#32
  let arg21 : BitVec 32 := Scf.iv c0_i32_82 c1_i32_84 k0_t1
  let c4_i32 : BitVec 32 := 4#32
  let c0_i32_86 : BitVec 32 := 0#32
  let v116 : BitVec 1 := Scalar.cmpi .eq c4_i32 c0_i32_86
  let c1_i32_87 : BitVec 32 := 1#32
  let v117 : BitVec 32 := Scalar.select v116 c1_i32_87 c4_i32
  let v118 : BitVec 32 := Scalar.remsi arg21 v117
  let c0_i32_89 : BitVec 32 := 0#32
  let v120 : BitVec 1 := Scalar.cmpi .slt v118 c0_i32_89
  let c0_i32_90 : BitVec 32 := 0#32
  let v121 : BitVec 1 := Scalar.cmpi .slt v117 c0_i32_90
  let v122 : BitVec 1 := Scalar.xori v120 v121
  let c0_i32_88 : BitVec 32 := 0#32
  let v119 : BitVec 1 := Scalar.cmpi .ne v118 c0_i32_88
  let v123 : BitVec 1 := Scalar.andi v122 v119
  let v124 : BitVec 32 := Scalar.addi v118 v117
  let v125 : BitVec 32 := Scalar.select v123 v124 v118
  ![v125.toNat]
def k0_off5 (k0_t1 : Fin k0_t1_loop.trips) : Fin 3 → Nat :=
  let c0_i32_82 : BitVec 32 := 0#32
  let c1_i32_84 : BitVec 32 := 1#32
  let arg21 : BitVec 32 := Scf.iv c0_i32_82 c1_i32_84 k0_t1
  let c4_i32 : BitVec 32 := 4#32
  let c0_i32_86 : BitVec 32 := 0#32
  let v116 : BitVec 1 := Scalar.cmpi .eq c4_i32 c0_i32_86
  let c1_i32_87 : BitVec 32 := 1#32
  let v117 : BitVec 32 := Scalar.select v116 c1_i32_87 c4_i32
  let v118 : BitVec 32 := Scalar.remsi arg21 v117
  let c0_i32_89 : BitVec 32 := 0#32
  let v120 : BitVec 1 := Scalar.cmpi .slt v118 c0_i32_89
  let c0_i32_90 : BitVec 32 := 0#32
  let v121 : BitVec 1 := Scalar.cmpi .slt v117 c0_i32_90
  let v122 : BitVec 1 := Scalar.xori v120 v121
  let c0_i32_88 : BitVec 32 := 0#32
  let v119 : BitVec 1 := Scalar.cmpi .ne v118 c0_i32_88
  let v123 : BitVec 1 := Scalar.andi v122 v119
  let v124 : BitVec 32 := Scalar.addi v118 v117
  let v125 : BitVec 32 := Scalar.select v123 v124 v118
  let c0_i32_96 : BitVec 32 := 0#32
  let c0_i32_97 : BitVec 32 := 0#32
  ![v125.toNat, 0, 0]
def k0_off6 (k0_t1 : Fin k0_t1_loop.trips) : Fin 2 → Nat :=
  let c0_i32_82 : BitVec 32 := 0#32
  let c1_i32_84 : BitVec 32 := 1#32
  let arg21 : BitVec 32 := Scf.iv c0_i32_82 c1_i32_84 k0_t1
  let c32_i32_95 : BitVec 32 := 32#32
  let v131 : BitVec 32 := Scalar.muli arg21 c32_i32_95
  let c0_i32_98 : BitVec 32 := 0#32
  ![v131.toNat, 0]
def k0_mult1 (k0_t1 : Fin k0_t1_loop.trips) : BitVec 32 :=
  let c0_i32_82 : BitVec 32 := 0#32
  let c1_i32_84 : BitVec 32 := 1#32
  let arg21 : BitVec 32 := Scf.iv c0_i32_82 c1_i32_84 k0_t1
  let c32_i32_99 : BitVec 32 := 32#32
  let v137 : BitVec 32 := Scalar.muli arg21 c32_i32_99
  v137
def k0_off7 (k0_t1 : Fin k0_t1_loop.trips) : Fin 3 → Nat :=
  let c0_i32_82 : BitVec 32 := 0#32
  let c1_i32_84 : BitVec 32 := 1#32
  let arg21 : BitVec 32 := Scf.iv c0_i32_82 c1_i32_84 k0_t1
  let c4_i32 : BitVec 32 := 4#32
  let c0_i32_86 : BitVec 32 := 0#32
  let v116 : BitVec 1 := Scalar.cmpi .eq c4_i32 c0_i32_86
  let c1_i32_87 : BitVec 32 := 1#32
  let v117 : BitVec 32 := Scalar.select v116 c1_i32_87 c4_i32
  let v118 : BitVec 32 := Scalar.remsi arg21 v117
  let c0_i32_89 : BitVec 32 := 0#32
  let v120 : BitVec 1 := Scalar.cmpi .slt v118 c0_i32_89
  let c0_i32_90 : BitVec 32 := 0#32
  let v121 : BitVec 1 := Scalar.cmpi .slt v117 c0_i32_90
  let v122 : BitVec 1 := Scalar.xori v120 v121
  let c0_i32_88 : BitVec 32 := 0#32
  let v119 : BitVec 1 := Scalar.cmpi .ne v118 c0_i32_88
  let v123 : BitVec 1 := Scalar.andi v122 v119
  let v124 : BitVec 32 := Scalar.addi v118 v117
  let v125 : BitVec 32 := Scalar.select v123 v124 v118
  let v139 : Index := Scalar.indexCast v125
  let c0_100 : Index := 0#32
  let c0_101 : Index := 0#32
  ![v139.toNat, 0, 0]
def k0_off8 (k0_t1 : Fin k0_t1_loop.trips) : Fin 2 → Nat :=
  let c0_i32_82 : BitVec 32 := 0#32
  let c1_i32_84 : BitVec 32 := 1#32
  let arg21 : BitVec 32 := Scf.iv c0_i32_82 c1_i32_84 k0_t1
  let c32_i32_99 : BitVec 32 := 32#32
  let v137 : BitVec 32 := Scalar.muli arg21 c32_i32_99
  let v138 : BitVec 32 := v137
  let v143 : Index := Scalar.indexCast v138
  let c0_102 : Index := 0#32
  ![v143.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x8192 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S8x2048x2048 : Shape := ⟨3, ![8, 2048, 2048]⟩
abbrev S1x2048 : Shape := ⟨2, ![1, 2048]⟩
abbrev S1x2048x7168 : Shape := ⟨3, ![1, 2048, 7168]⟩
abbrev S1x1024x2048 : Shape := ⟨3, ![1, 1024, 2048]⟩
abbrev S1x2048x2048 : Shape := ⟨3, ![1, 2048, 2048]⟩
abbrev S1x2048x8192 : Shape := ⟨3, ![1, 2048, 8192]⟩
abbrev S1x8192x2048 : Shape := ⟨3, ![1, 8192, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x7168 : Shape := ⟨2, ![2048, 7168]⟩
abbrev S8x2048x7168 : Shape := ⟨3, ![8, 2048, 7168]⟩
abbrev S16384x7168 : Shape := ⟨2, ![16384, 7168]⟩
abbrev S16384x1024 : Shape := ⟨2, ![16384, 1024]⟩
abbrev S16384x2048 : Shape := ⟨2, ![16384, 2048]⟩
abbrev S1024x2048 : Shape := ⟨2, ![1024, 2048]⟩
abbrev S2048x2048 : Shape := ⟨2, ![2048, 2048]⟩
abbrev S2048x8192 : Shape := ⟨2, ![2048, 8192]⟩
abbrev S8192x2048 : Shape := ⟨2, ![8192, 2048]⟩

abbrev nBuf : Space → Nat
  | .hbm => 70
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x7168, .f32⟩
  | .hbm, ⟨3, _⟩ => ⟨S1x1024x2048, .f32⟩
  | .hbm, ⟨4, _⟩ => ⟨S1x1024x2048, .f32⟩
  | .hbm, ⟨5, _⟩ => ⟨S1x2048x2048, .f32⟩
  | .hbm, ⟨6, _⟩ => ⟨S1x2048x8192, .f32⟩
  | .hbm, ⟨7, _⟩ => ⟨S1x8192x2048, .f32⟩
  | .hbm, ⟨8, _⟩ => ⟨S2048, .f32⟩
  | .hbm, ⟨9, _⟩ => ⟨S8x2048x2048, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S1x1x2048, .f32⟩
  | .hbm, ⟨23, _⟩ => ⟨S8x2048x2048, .f32⟩
  | .hbm, ⟨24, _⟩ => ⟨S8x2048x2048, .f32⟩
  | .hbm, ⟨25, _⟩ => ⟨S2048x7168, .f32⟩
  | .hbm, ⟨26, _⟩ => ⟨S8x2048x7168, .f32⟩
  | .hbm, ⟨27, _⟩ => ⟨S16384x7168, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S_, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S16384x2048, .f32⟩
  | .hbm, ⟨45, _⟩ => ⟨S16384x2048, .f32⟩
  | .hbm, ⟨46, _⟩ => ⟨S_, .f32⟩
  | .hbm, ⟨47, _⟩ => ⟨S16384x2048, .f32⟩
  | .hbm, ⟨48, _⟩ => ⟨S16384x2048, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x2048, .bf16⟩
  | .hbm, ⟨59, _⟩ => ⟨S16384x2048, .bf16⟩
  | .hbm, ⟨60, _⟩ => ⟨S1024x2048, .f32⟩
  | .hbm, ⟨61, _⟩ => ⟨S1024x2048, .bf16⟩
  | .hbm, ⟨62, _⟩ => ⟨S1024x2048, .f32⟩
  | .hbm, ⟨63, _⟩ => ⟨S1024x2048, .bf16⟩
  | .hbm, ⟨64, _⟩ => ⟨S2048x2048, .f32⟩
  | .hbm, ⟨65, _⟩ => ⟨S2048x2048, .bf16⟩
  | .hbm, ⟨66, _⟩ => ⟨S2048x8192, .f32⟩
  | .hbm, ⟨67, _⟩ => ⟨S2048x8192, .bf16⟩
  | .hbm, ⟨68, _⟩ => ⟨S8192x2048, .f32⟩
  | .hbm, ⟨69, _⟩ => ⟨S8192x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Proof.Words.lean ====
/- The words the software pipeline carries from one trip of its loop to the next, in closed form.

The pipeline visits the 32 row blocks of the hidden state and, for each, the 4 blocks of the feed-forward
width: trip `t` works on row block `t / 4` and width block `t % 4`. Its loop carries twelve counters and
coordinates. Each is given here as a function of the trip; the facts the trips need of them (which
branches are taken, which slot and which block each copy names, and what the next trip is handed) are
decided over the 128 trips. -/
module

public import proofs.«01_k».proof.Proof.Gen.KernelIdeal
public import proofs.«01_k».proof.Proof.Gen.KernelIdeal.Skeleton
public import proofs.«01_k».proof.Proof.Gen.KernelIdeal.Loops
public import Idealize.ShloMosaic.Lib.Ring

@[expose] public section

set_option maxRecDepth 16384

noncomputable section

namespace Cert.Mlp

open Cert.KernelIdeal Cert.KernelIdeal.Gen Idealize.ShloMosaic

/-- Fetches of the row blocks begun before trip `t`. -/
def w8 (t : ℕ) : BitVec 32 := BitVec.ofNat 32 (min ((t + 3) / 4 + 1) 32)
/-- Row blocks finished before trip `t`. -/
def w9 (t : ℕ) : BitVec 32 := BitVec.ofNat 32 (t / 4)
/-- The row block the look-ahead stands at. -/
def w10 (t : ℕ) : BitVec 32 := BitVec.ofNat 32 (min ((t + 3) / 4) 31)
/-- The width block the look-ahead stands at. -/
def w11 (t : ℕ) : BitVec 32 := BitVec.ofNat 32 (if 125 ≤ t then 3 else 0)
/-- Fetches of each weight begun before trip `t`. -/
def w12 (t : ℕ) : BitVec 32 := BitVec.ofNat 32 (min (t + 1) 128)
/-- Fetches of each weight waited for before trip `t`. -/
def w13 (t : ℕ) : BitVec 32 := BitVec.ofNat 32 t
/-- The result block last waited for, or the next to be. -/
def w17 (t : ℕ) : BitVec 32 := BitVec.ofNat 32 ((t - 1) / 4)
/-- The row block of trip `t`. -/
def w18 (t : ℕ) : BitVec 32 := BitVec.ofNat 32 (t / 4 % 32)
/-- The width block of trip `t`. -/
def w19 (t : ℕ) : BitVec 32 := BitVec.ofNat 32 (t % 4)

/-- The row block after that of trip `t`, as the trip computes it. -/
def wi (t : ℕ) : BitVec 32 := BitVec.ofNat 32 ((t + 1) / 4 % 32)

/-- What trip `t` is handed. -/
def W (t : ℕ) : BitVec 32 × BitVec 32 × BitVec 32 × BitVec 32 × BitVec 32 × BitVec 32 × BitVec 32 × BitVec 32 ×
    BitVec 32 × BitVec 32 × BitVec 32 × BitVec 32 :=
  (w8 t, w9 t, w10 t, w11 t, w12 t, w13 t, w12 t, w13 t, w9 t, w17 t, w18 t, w19 t)

abbrev T := Fin k0_t1_loop.trips

/-! ### The side condition of a trip -/

theorem chk3 (t : T) : k0_chk3 t (w9 t) (w12 t) (w13 t) (w12 t) (w13 t) (w9 t) (w17 t) (w18 t) (w19 t) := by
  revert t; decide +kernel

theorem chk4 : k0_chk4 (w17 128) := by decide +kernel
theorem chk5 : k0_chk5 (w19 128) (w18 128) := by decide +kernel

/-! ### The branches of a trip -/

theorem cond2_eq (t : T) : k0_cond2 t (w19 t) = if t.val < 127 then 1#1 else 0#1 := by revert t; decide +kernel
theorem cond3_eq (t : T) : k0_cond3 t (w19 t) = if t.val < 127 then 1#1 else 0#1 := by revert t; decide +kernel
theorem cond4_eq (t : T) : k0_cond4 t (w18 t) (w19 t) = if t.val % 4 = 0 then 1#1 else 0#1 := by
  revert t; decide +kernel
theorem cond5_eq (t : T) : k0_cond5 t (w19 t) = 1#1 := by revert t; decide +kernel
theorem cond6_eq (t : T) : k0_cond6 t (w19 t) = 1#1 := by revert t; decide +kernel
theorem cond8_eq (t : T) : k0_cond8 (w19 t) = if t.val % 4 = 0 then 1#1 else 0#1 := by revert t; decide +kernel
theorem cond9_eq (t : T) : k0_cond9 (w19 t) = if 0 < t.val % 4 ∧ t.val % 4 < 3 then 1#1 else 0#1 := by
  revert t; decide +kernel
theorem cond10_eq (t : T) : k0_cond10 (w19 t) = if t.val % 4 = 3 then 1#1 else 0#1 := by revert t; decide +kernel
theorem cond14_eq (t : T) : k0_cond14 t (w18 t) (w19 t) = if t.val % 4 = 3 then 1#1 else 0#1 := by
  revert t; decide +kernel
theorem cond18_eq (t : T) : k0_cond18 t (w18 t) (w19 t) = if t.val % 4 = 0 ∧ 0 < t.val then 1#1 else 0#1 := by
  revert t; decide +kernel

/-! ### The offsets of a trip -/

theorem off8_eq (t : T) : k0_off8 (w12 t) = ![min (t.val + 1) 128 % 2] := by revert t; decide +kernel
theorem off11_eq (t : T) : k0_off11 (w12 t) = ![min (t.val + 1) 128 % 2] := by revert t; decide +kernel
theorem off9_eq (t : T) : k0_off9 (w12 t) = ![min (t.val + 1) 128 % 2, 0, 0] := by revert t; decide +kernel
theorem off12_eq (t : T) : k0_off12 (w12 t) = ![min (t.val + 1) 128 % 2, 0, 0] := by revert t; decide +kernel
theorem off10_eq (t : T) : k0_off10 (w19 t) = ![0, 2048 * ((t.val + 1) % 4)] := by revert t; decide +kernel
theorem off13_eq (t : T) : k0_off13 (w19 t) = ![2048 * ((t.val + 1) % 4), 0] := by revert t; decide +kernel
theorem off14_eq (t : T) : k0_off14 (w9 t) = ![t.val / 4 % 2] := by revert t; decide +kernel
theorem off15_eq (t : T) : k0_off15 (w9 t) = ![t.val / 4 % 2, 0, 0] := by revert t; decide +kernel
theorem off16_eq (t : T) : k0_off16 (w18 t) = ![512 * (t.val / 4), 0] := by revert t; decide +kernel
theorem off17_eq (t : T) : k0_off17 (w13 t) = ![t.val % 2] := by revert t; decide +kernel
theorem off20_eq (t : T) : k0_off20 (w13 t) = ![t.val % 2] := by revert t; decide +kernel
theorem off18_eq (t : T) : k0_off18 (w13 t) = ![t.val % 2, 0, 0] := by revert t; decide +kernel
theorem off21_eq (t : T) : k0_off21 (w13 t) = ![t.val % 2, 0, 0] := by revert t; decide +kernel
theorem off19_eq (t : T) : k0_off19 (w19 t) = ![0, 2048 * (t.val % 4)] := by revert t; decide +kernel
theorem off22_eq (t : T) : k0_off22 (w19 t) = ![2048 * (t.val % 4), 0] := by revert t; decide +kernel
theorem off23_eq (t : T) : k0_off23 (w9 t) = ![t.val / 4 % 2, 0, 0] := by revert t; decide +kernel
theorem off24_eq (t : T) : k0_off24 (w13 t) = ![t.val % 2, 0, 0] := by revert t; decide +kernel
theorem off25_eq (t : T) : k0_off25 (w13 t) = ![t.val % 2, 0, 0] := by revert t; decide +kernel
theorem off26_eq (t : T) : k0_off26 (w9 t) = ![t.val / 4 % 2, 0, 0] := by revert t; decide +kernel
theorem off27_eq (t : T) : k0_off27 (w13 t) = ![t.val % 2, 0, 0] := by revert t; decide +kernel
theorem off28_eq (t : T) : k0_off28 (w13 t) = ![t.val % 2, 0, 0] := by revert t; decide +kernel
theorem off29_eq (t : T) : k0_off29 (w9 t) = ![t.val / 4 % 2, 0, 0] := by revert t; decide +kernel
theorem off30_eq (t : T) : k0_off30 (w13 t) = ![t.val % 2, 0, 0] := by revert t; decide +kernel
theorem off31_eq (t : T) : k0_off31 (w13 t) = ![t.val % 2, 0, 0] := by revert t; decide +kernel
theorem off32_eq (t : T) : k0_off32 (w9 t) = ![t.val / 4 % 2, 0, 0] := by revert t; decide +kernel
theorem off33_eq (t : T) : k0_off33 (w13 t) = ![t.val % 2, 0, 0] := by revert t; decide +kernel
theorem off34_eq (t : T) : k0_off34 (w13 t) = ![t.val % 2, 0, 0] := by revert t; decide +kernel
theorem off35_eq (t : T) : k0_off35 (w9 t) = ![t.val / 4 % 2, 0, 0] := by revert t; decide +kernel
theorem off36_eq (t : T) : k0_off36 (w9 t) = ![t.val / 4 % 2] := by revert t; decide +kernel
theorem off37_eq (t : T) : k0_off37 (w18 t) = ![512 * (t.val / 4), 0] := by revert t; decide +kernel
theorem off38_eq (t : T) : k0_off38 (w9 t) = ![t.val / 4 % 2, 0, 0] := by revert t; decide +kernel
theorem off39_eq (t : T) : k0_off39 (w17 t) = ![(t.val - 1) / 4 % 2] := by revert t; decide +kernel
theorem off40_eq (t : T) (h : t.val % 4 = 0 ∧ 0 < t.val) :
    k0_off40 (w18 t) (w19 t) = ![512 * ((t.val - 1) / 4), 0] := by revert t; decide +kernel
theorem off41_eq (t : T) : k0_off41 (w17 t) = ![(t.val - 1) / 4 % 2, 0, 0] := by revert t; decide +kernel
theorem off42_eq : k0_off42 (w17 128) = ![1] := by decide +kernel
theorem off43_eq : k0_off43 (w19 128) (w18 128) = ![512 * 31, 0] := by decide +kernel
theorem off44_eq : k0_off44 (w17 128) = ![1, 0, 0] := by decide +kernel

end Cert.Mlp
-- ==== Proof.Rules.lean ====
/- Steps of a program over memrefs held at known contents.

A memref is held whole at the contents it reads (`owns`); a copy on its way between two memrefs is held
as one piece (`fly`), which its wait turns back into the two memrefs and the semaphore. The rules here
give the program's five memory steps over these pieces: a load and a store through the memref itself, a load
and a store of a slot through the buffer of several slots it is part of, the start of a copy, and its wait.
Each is stated for the memref as the program spells it (`M`), equal to the one that is held (`M₀`). -/
module

public import Idealize.ShloMosaic.Lib.Memref
public import Idealize.ShloMosaic.Lib.Transfers
public import Idealize.ShloMosaic.Lib.Tactic
public import Idealize.ShloMosaic.Lib.ViewIndex

@[expose] public section

noncomputable section

namespace Cert.Mlp

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl] [CountersIn U]

local notation "𝕄" => MT nD τ sig Ix Val Name U Lvl

section Pieces

variable (c : Thread nD τ) {sp sp' : Space} {s : Shape} {e : EltTy}

/-- `M` held at the contents `X`. -/
abbrev own (M : Memref sig c.2.kind sp s e) (X : s.Idx → Val e) : sProp 𝕄 := owns c M fullShare X

/-- `M` held at whatever it contains. -/
def free (M : Memref sig c.2.kind sp s e) : sProp 𝕄 := iprop(∃ X, own c M X)

/-- The semaphore at zero. -/
abbrev cell (sem : DmaSem sig) : sProp 𝕄 := semVal (c, SemLoc.dma sem) 0

/-- The core's waits, whichever they are. -/
def waits (ι : Ix) : sProp 𝕄 := iprop(∃ W : Waits sig Ix, owes c 0 W)

/-- A copy of `src`, holding `X`, to `dst`, signalled at `sem`, on its way. -/
def fly (ι : Ix) (sem : DmaSem sig) (dst : Memref sig c.2.kind sp' s e) (src : Memref sig c.2.kind sp s e) (X : s.Idx → Val e) :
    sProp 𝕄 :=
  Transfers.Flight countersEmb c (SemLoc.dma sem) ι dst.view.dmaCredit iprop(own c dst X ∗ own c src X)

theorem free_intro (M : Memref sig c.2.kind sp s e) (X : s.Idx → Val e) : (own c M X : sProp 𝕄) ⊢ free c M := by
  unfold free; iintro H; iexists X; iexact H

end Pieces

section Steps

variable {Λ : Labels} {defs : Defs nD τ sig Val Λ} (𝒱 : Variants) (c : Thread nD τ) (bd : Option 𝒱.V)
variable {α : Type} {Q : α → sProp (MT nD τ sig Ix Val Name U Lvl)} {sp sp' : Space} {s s' : Shape} {e : EltTy}

/-- A load through a memref that is held. -/
theorem ld {cs : CoreSpace} {M M₀ : Memref sig c.2.kind cs s e} (hM : M = M₀) {r : Rect s} {hl : M.view.LoadsAt r.toLoadRect}
    {k : (r.shape.Idx → Val e) → Prog (TpuEff nD τ sig Val Λ c.2) α} {X : s.Idx → Val e} :
    (own c M₀ X : sProp 𝕄)
      ⊢ iprop((own c M₀ X -∗ wp frame (wpE defs 𝒱 c bd) Set.univ (k (fun j => X (r.emb j))) Q)
        -∗ wp frame (wpE defs 𝒱 c bd) Set.univ (.op (.load M r.toLoadRect hl) k) Q) := by
  subst hM
  unfold own owns
  iintro ⟨%f, %hf, H⟩ Hk
  iapply (wp_load_rect 𝒱 c bd Set.univ (m := M) (r := r) (S := M.view.set) (M.view.set_slice_subset r)) $$ H
  iintro H
  have e : (M.access r).read Val f = fun j => X (r.emb j) := by rw [← hf]; rfl
  rw [e]
  iapply Hk
  iexists f
  isplitr; · ipureintro; exact hf
  iexact H

/-- A store through a memref that is held. -/
theorem st {cs : CoreSpace} {M M₀ : Memref sig c.2.kind cs s e} (hM : M = M₀) {r : Rect s} {w : r.shape.Idx → Val e}
    {hx : (M.access r).Stores Finset.univ} {hm : Finset.univ = Finset.univ ∨ ∀ a, r.stride a = 1}
    {k : PUnit → Prog (TpuEff nD τ sig Val Λ c.2) α} {X : s.Idx → Val e} :
    (own c M₀ X : sProp 𝕄)
      ⊢ iprop((own c M₀ (r.overlay X w) -∗ wp frame (wpE defs 𝒱 c bd) Set.univ (k ⟨⟩) Q)
        -∗ wp frame (wpE defs 𝒱 c bd) Set.univ (.op (.store M r w Finset.univ hx hm) k) Q) := by
  subst hM
  unfold own owns
  iintro ⟨%f, %hf, H⟩ Hk
  iapply (wp_store 𝒱 c bd Set.univ (m := M) (r := r) (S := M.view.set) (M.view.set_slice_subset r)) $$ H
  iintro H
  iapply Hk
  iexists _
  isplitr
  · ipureintro
    subst hf
    show M.view.read Val ((M.access r).write Val f w Finset.univ) = _
    funext j
    by_cases hj : j ∈ r.set
    · obtain ⟨i, rfl⟩ := r.exists_idx_of_mem hj
      change M.view.read Val _ (r.emb i) = r.overlay _ _ (r.emb i)
      rw [Rect.overlay_emb]
      exact congrFun (View.read_write_univ (v := M.access r) f w) i
    · rw [Rect.overlay_of_not_mem _ _ _ hj, View.read_apply, View.read_apply, View.write_of_not_mem]
      rw [View.setOn_univ]
      show M.view.emb j ∉ (M.view.slice r).set
      rw [View.set_slice, Finset.mem_map' M.view.emb]; exact hj
  · iexact H

/-- A load of a slot through the buffer it is part of. -/
theorem ldw {cs : CoreSpace} {B : Memref sig c.2.kind cs s e} {r r₀ : Rect s} (hr : r = r₀) {h₁ : ∀ a, r₀.stride a = 1}
    {hq : r₀.shape.Squeezes s'} {hl : B.view.LoadsAt r.toLoadRect}
    {k : (r.shape.Idx → Val e) → Prog (TpuEff nD τ sig Val Λ c.2) α} {X : s'.Idx → Val e}
    (hc : s'.ShapeCasts r.shape) :
    (own c ((B.slice r₀ h₁).squeeze s' hq) X : sProp 𝕄)
      ⊢ iprop((own c ((B.slice r₀ h₁).squeeze s' hq) X -∗ wp frame (wpE defs 𝒱 c bd) Set.univ (k (shapeCast r.shape X hc)) Q)
        -∗ wp frame (wpE defs 𝒱 c bd) Set.univ (.op (.load B r.toLoadRect hl) k) Q) := by
  subst hr
  unfold own owns
  iintro ⟨%f, %hf, H⟩ Hk
  iapply (wp_load_rect 𝒱 c bd Set.univ (m := B) (r := r) (S := ((B.slice r h₁).squeeze s' hq).view.set)
    (fun _ hi => (View.set_reshape (B.view.slice r) hq.numel_eq).symm ▸ hi)) $$ H
  iintro H
  have e : (B.access r).read Val f = shapeCast r.shape X hc := by
    rw [← hf]; funext j
    show (B.view.slice r).read Val f j = (B.view.slice r).read Val f (Shape.reshapeEquiv hq.numel_eq (Shape.reshapeEquiv hc j))
    rw [Shape.reshapeEquiv_reshapeEquiv, Shape.reshapeEquiv_self]
  rw [e]
  iapply Hk
  iexists f
  isplitr; · ipureintro; exact hf
  iexact H

/-- A store of a slot through the buffer it is part of. -/
theorem stw {cs : CoreSpace} {B : Memref sig c.2.kind cs s e} {r r₀ : Rect s} (hr : r = r₀) {h₁ : ∀ a, r₀.stride a = 1}
    {hq : r₀.shape.Squeezes s'} {w : r.shape.Idx → Val e} {hx : (B.access r).Stores Finset.univ}
    {hm : Finset.univ = Finset.univ ∨ ∀ a, r.stride a = 1}
    {k : PUnit → Prog (TpuEff nD τ sig Val Λ c.2) α} {X : s'.Idx → Val e} (hc : r.shape.ShapeCasts s') :
    (own c ((B.slice r₀ h₁).squeeze s' hq) X : sProp 𝕄)
      ⊢ iprop((own c ((B.slice r₀ h₁).squeeze s' hq) (shapeCast s' w hc) -∗ wp frame (wpE defs 𝒱 c bd) Set.univ (k ⟨⟩) Q)
        -∗ wp frame (wpE defs 𝒱 c bd) Set.univ (.op (.store B r w Finset.univ hx hm) k) Q) := by
  subst hr
  unfold own owns
  iintro ⟨%f, %hf, H⟩ Hk
  iapply (wp_store 𝒱 c bd Set.univ (m := B) (r := r) (S := ((B.slice r h₁).squeeze s' hq).view.set)
    (fun _ hi => (View.set_reshape (B.view.slice r) hq.numel_eq).symm ▸ hi)) $$ H
  iintro H
  iapply Hk
  iexists _
  isplitr
  · ipureintro
    funext j
    exact congrFun (View.read_write_univ (v := B.access r) f w) (Shape.reshapeEquiv hq.numel_eq j)
  · iexact H

/-- The start of a copy. -/
theorem issue [Infinite Name] (ι : Ix)
    {src src₀ : Memref sig c.2.kind sp s e} (hs : src = src₀) {dst dst₀ : Memref sig c.2.kind sp' s e} (hd : dst = dst₀)
    {sem sem₀ : DmaSem sig} (hg : sem = sem₀) (hp : 0 < s.numel)
    {hsrc : src.view.WordExact} {hdst : dst.view.WordExact} {hsem : DmaTarget.Typed (nD := nD) sp (.dma sem) (.here dst)}
    {k : PUnit → Prog (TpuEff nD τ sig Val Λ c.2) α} {X : s.Idx → Val e} :
    (iprop(own c src₀ X ∗ free c dst₀ ∗ cell c sem₀) : sProp 𝕄)
      ⊢ iprop((fly c ι sem₀ dst₀ src₀ X -∗ wp frame (wpE defs 𝒱 c bd) Set.univ (k ⟨⟩) Q)
        -∗ wp frame (wpE defs 𝒱 c bd) Set.univ (.op (.enqueueDma src (.here dst) (.dma sem) hsrc hdst hsem) k) Q) := by
  subst hs hd hg
  unfold free own owns
  iintro ⟨⟨%f, %hf, Hs⟩, ⟨%Y, %g, %hY, Hd⟩, Hc⟩ Hk
  iapply (Transfers.wp_dmaLocal countersEmb 𝒱 c bd (src := src) (dst := dst) (sm := .dma sem) (via := .same) ι dst.view.dmaCredit rfl
    (dst.view.dmaCredit_pos hp) (Finset.Subset.refl _)) $$ [Hs Hd Hc]
  · isplitl [Hs]; · iexact Hs
    isplitl [Hd]; · iexact Hd
    iexact Hc
  iintro HF
  iapply Hk
  unfold fly
  iapply (Transfers.Flight_mono countersEmb c (D' := iprop(own c dst X ∗ own c src X))) $$ HF
  unfold own owns
  iintro ⟨Hd, Hs⟩
  isplitl [Hd]
  · iexists _
    isplitr
    · ipureintro; rw [← hf]; exact View.read_write_univ (v := dst.view) g _
    iexact Hd
  · iexists f
    isplitr; · ipureintro; exact hf
    iexact Hs

/-- Its wait. -/
theorem land (ι : Ix)
    {src src₀ : Memref sig c.2.kind sp s e} {dst dst₀ : Memref sig c.2.kind sp' s e} (hd : dst = dst₀)
    {sem sem₀ : DmaSem sig} (hg : sem = sem₀) {hsrc : src.view.WordExact} {hdst : dst.view.WordExact}
    {k : PUnit → Prog (TpuEff nD τ sig Val Λ c.2) α} {X : s.Idx → Val e} :
    (iprop(fly c ι sem₀ dst₀ src₀ X ∗ waits c ι) : sProp 𝕄)
      ⊢ iprop((iprop(own c dst₀ X ∗ own c src₀ X ∗ cell c sem₀ ∗ waits c ι) -∗ wp frame (wpE defs 𝒱 c bd) Set.univ (k ⟨⟩) Q)
        -∗ wp frame (wpE defs 𝒱 c bd) Set.univ (.op (.waitDma2 sem src dst hsrc hdst) k) Q) := by
  subst hd hg
  unfold fly waits
  iintro ⟨HF, ⟨%W, HW⟩⟩ Hk
  iapply (Transfers.wp_waitLocal countersEmb 𝒱 c bd ι rfl) $$ [HF HW]
  · isplitl [HF]; · iexact HF
    iexact HW
  iintro ⟨⟨Hd, Hs⟩, Hc, HW⟩
  iapply Hk
  isplitl [Hd]; · iexact Hd
  isplitl [Hs]; · iexact Hs
  isplitl [Hc]; · iexact Hc
  iexists _; iexact HW

end Steps

end Cert.Mlp
-- ==== Proof.Window.lean ====
/- A window of a software pipeline: two slots of a buffer, each with its semaphore, and the blocks that go
through them, block after block by turns.

`Win` names them. A fetched window is described by the blocks that are at home (`homes`), the slot that is
free (`idle`), a copy on its way (`coming`) and a slot that holds a block (`full`); a window of results by
the blocks at home (`outs`), of which the first `n` hold what the kernel is to compute, and a copy on its
way out (`going`). The states a window passes through are the definitions below them. -/
module

public import proofs.«01_k».proof.Proof.Rules
public import Idealize.ShloMosaic.Lib.Ring

@[expose] public section

noncomputable section

namespace Cert.Mlp

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk)

variable {nD : Nat} {τ : Topo} {sig : RefSig} {Ix : Type} [DecidableEq Ix] {Val : EltTy → Type} {Name : Type} [DecidableEq Name]
variable {U : Type} [URA U] {Lvl : Type} [Preorder Lvl] [CountersIn U]

local notation "𝕄" => MT nD τ sig Ix Val Name U Lvl

/-- Two slots, their semaphores, and the blocks that pass through them. -/
structure Win (sig : RefSig) (N : ℕ) (s : Shape) (e : EltTy) where
  slot : Fin 2 → Memref sig .tc .vmem s e
  sem : Fin 2 → DmaSem sig
  blk : Fin N → Memref sig .tc .hbm s e

theorem sl_succ (n : ℕ) : sl 2 (n + 1 + 1) = sl 2 n := Ring.sl_add 2 n
theorem bk_congr {N : ℕ} [NeZero N] {a b : ℕ} (h : a % N = b % N) : bk N a = bk N b := Fin.ext h
theorem bk_ne {N : ℕ} [NeZero N] {a b : ℕ} (h : a % N ≠ b % N) : bk N a ≠ bk N b := fun e => h (congrArg Fin.val e)

section States

variable {N : ℕ} [NeZero N] {s : Shape} {e : EltTy} (w : Win sig N s e) (c : Dev nD) (ι : Ix) (X : Fin N → s.Idx → Val e)

/-- The blocks `A` at home. -/
def homes (A : Finset (Fin N)) : sProp 𝕄 := bigSep A fun b => own (c : Thread nD τ) (w.blk b) (X b)
/-- Slot `n` free, its semaphore at zero. -/
def idle (n : ℕ) : sProp 𝕄 := iprop(free (c : Thread nD τ) (w.slot (sl 2 n)) ∗ cell (c : Thread nD τ) (w.sem (sl 2 n)))
/-- Slot `n` at the contents `x`, its semaphore at zero. -/
def held (n : ℕ) (x : s.Idx → Val e) : sProp 𝕄 :=
  iprop(own (c : Thread nD τ) (w.slot (sl 2 n)) x ∗ cell (c : Thread nD τ) (w.sem (sl 2 n)))
/-- Block `b` on its way into slot `n`. -/
def coming (n : ℕ) (b : Fin N) : sProp 𝕄 := fly (c : Thread nD τ) ι (w.sem (sl 2 n)) (w.slot (sl 2 n)) (w.blk b) (X b)

/-- Block `b` on its way into slot `n`, the other slot free. -/
def one (n : ℕ) (b : Fin N) : sProp 𝕄 :=
  iprop(homes w c X (Finset.univ.erase b) ∗ coming w c ι X n b ∗ idle w c (n + 1))
/-- Block `b` on its way into slot `n` and block `b'` into the other. -/
def two (n : ℕ) (b b' : Fin N) : sProp 𝕄 :=
  iprop(homes w c X ((Finset.univ.erase b).erase b') ∗ coming w c ι X n b ∗ coming w c ι X (n + 1) b')
/-- Slot `n` holds block `b`, and block `b'` is on its way into the other. -/
def more (n : ℕ) (b b' : Fin N) : sProp 𝕄 :=
  iprop(held w c n (X b) ∗ homes w c X (Finset.univ.erase b') ∗ coming w c ι X (n + 1) b')
/-- Slot `n` holds block `b`, and no other is to come. -/
def last (n : ℕ) (b : Fin N) : sProp 𝕄 := iprop(held w c n (X b) ∗ homes w c X Finset.univ ∗ idle w c (n + 1))
/-- Nothing under way. -/
def rest (n : ℕ) : sProp 𝕄 := iprop(homes w c X Finset.univ ∗ idle w c n ∗ idle w c (n + 1))

theorem idle_succ (n : ℕ) : (idle w c (n + 1 + 1) : sProp 𝕄) = idle w c n := by unfold idle; rw [sl_succ]

theorem held_idle (n : ℕ) (x : s.Idx → Val e) : (held w c n x : sProp 𝕄) ⊢ idle w c n := by
  unfold held idle
  iintro ⟨H, C⟩
  isplitl [H]; · iapply (free_intro (c : Thread nD τ)) $$ H
  iexact C

/-- The slot that held a block is free for the next but one. -/
theorem more_one (n : ℕ) (b b' : Fin N) : (more w c ι X n b b' : sProp 𝕄) ⊢ one w c ι X (n + 1) b' := by
  unfold more one
  rw [idle_succ]
  iintro ⟨H, A, C⟩
  isplitl [A]; · iexact A
  isplitl [C]; · iexact C
  iapply (held_idle w c n (X b)) $$ H

theorem last_rest (n : ℕ) (b : Fin N) : (last w c X n b : sProp 𝕄) ⊢ rest w c X (n + 1) := by
  unfold last rest
  rw [idle_succ]
  iintro ⟨H, A, I⟩
  isplitl [A]; · iexact A
  isplitl [I]; · iexact I
  iapply (held_idle w c n (X b)) $$ H

theorem homes_take {A : Finset (Fin N)} {b : Fin N} (h : b ∈ A) :
    (homes w c X A : sProp 𝕄) = iprop(own (c : Thread nD τ) (w.blk b) (X b) ∗ homes w c X (A.erase b)) := by
  unfold homes
  conv_lhs => rw [← Finset.insert_erase h, bigSep_insert (Finset.notMem_erase _ _)]
  rfl

end States

section Outs

variable {N : ℕ} [NeZero N] {s : Shape} {e : EltTy} (w : Win sig N s e) (c : Dev nD) (ι : Ix) (R : Fin N → s.Idx → Val e)

/-- A block of the result: once it is among the first `n`, it holds what it is to. -/
def out (n : ℕ) (b : Fin N) : sProp 𝕄 := iprop(∃ x, ⌜b.val < n → x = R b⌝ ∗ own (c : Thread nD τ) (w.blk b) x)
/-- The blocks `A` of the result. -/
def outs (n : ℕ) (A : Finset (Fin N)) : sProp 𝕄 := bigSep A (out w c R n)
/-- Slot `n` on its way out to block `b`. -/
def going (n : ℕ) (b : Fin N) : sProp 𝕄 := fly (c : Thread nD τ) ι (w.sem (sl 2 n)) (w.blk b) (w.slot (sl 2 n)) (R b)
/-- Before block `n`: the one before it on its way out. -/
def prev (n : ℕ) : sProp 𝕄 :=
  if n = 0 then iprop(outs w c R 0 Finset.univ ∗ idle w c 1)
  else iprop(outs w c R (n - 1) (Finset.univ.erase (bk N (n - 1))) ∗ going w c ι R (n - 1) (bk N (n - 1)))
/-- All blocks before `n` home. -/
def sofar (n : ℕ) : sProp 𝕄 := iprop(outs w c R n Finset.univ ∗ idle w c (n + 1))

theorem out_mono {n : ℕ} {b : Fin N} (h : b.val ≠ n) : (out w c R n b : sProp 𝕄) = out w c R (n + 1) b := by
  unfold out
  have e : (b.val < n) = (b.val < n + 1) := propext (by omega)
  rw [e]

theorem outs_take {n : ℕ} {A : Finset (Fin N)} {b : Fin N} (h : b ∈ A) :
    (outs w c R n A : sProp 𝕄) = iprop(out w c R n b ∗ outs w c R n (A.erase b)) := by
  unfold outs
  conv_lhs => rw [← Finset.insert_erase h, bigSep_insert (Finset.notMem_erase _ _)]
  rfl

/-- Block `n` home makes one more. -/
theorem outs_put {n : ℕ} (h : n < N) :
    (iprop(own (c : Thread nD τ) (w.blk (bk N n)) (R (bk N n)) ∗ outs w c R n (Finset.univ.erase (bk N n))) : sProp 𝕄)
      ⊢ outs w c R (n + 1) Finset.univ := by
  rw [outs_take w c R (Finset.mem_univ (bk N n))]
  have e : (outs w c R n (Finset.univ.erase (bk N n)) : sProp 𝕄) = outs w c R (n + 1) (Finset.univ.erase (bk N n)) := by
    unfold outs
    refine bigSep_congr fun b hb => out_mono w c R fun hn => (Finset.mem_erase.mp hb).1 (Fin.ext ?_)
    rw [Ring.bk_val h]; exact hn
  rw [e]
  unfold out
  iintro ⟨H, A⟩
  isplitl [H]
  · iexists _
    isplitr; · ipureintro; exact fun _ => rfl
    iexact H
  iexact A

end Outs

section Steps

variable {Λ : Labels} {defs : Defs nD τ sig Val Λ} (𝒱 : Variants) (c : Dev nD) (bd : Option 𝒱.V) [Infinite Name]
variable {α : Type} {Q : α → sProp (MT nD τ sig Ix Val Name U Lvl)}
variable {N : ℕ} [NeZero N] {s : Shape} {e : EltTy} (w : Win sig N s e) (ι : Ix) (X : Fin N → s.Idx → Val e)

/-- The start of a fetch. -/
theorem fetch {A : Finset (Fin N)} {b : Fin N} {n : ℕ} (hb : b ∈ A) (hp : 0 < s.numel)
    {src : Memref sig .tc .hbm s e} (hs : src = w.blk b) {dst : Memref sig .tc .vmem s e} (hd : dst = w.slot (sl 2 n))
    {sem : DmaSem sig} (hg : sem = w.sem (sl 2 n)) {hsrc : src.view.WordExact} {hdst : dst.view.WordExact}
    {hsem : DmaTarget.Typed (nD := nD) .hbm (.dma sem) (.here (p := (c : Thread nD τ).2) dst)}
    {k : PUnit → Prog (TpuEff nD τ sig Val Λ .tc) α} :
    (iprop(homes w c X A ∗ idle w c n) : sProp 𝕄)
      ⊢ iprop((iprop(homes w c X (A.erase b) ∗ coming w c ι X n b) -∗ wp frame (wpE defs 𝒱 (c : Thread nD τ) bd) Set.univ (k ⟨⟩) Q)
        -∗ wp frame (wpE defs 𝒱 (c : Thread nD τ) bd) Set.univ (.op (.enqueueDma src (.here dst) (.dma sem) hsrc hdst hsem) k) Q) := by
  rw [homes_take w c X hb]
  unfold idle coming
  iintro ⟨⟨Hs, HA⟩, Hd, Hc⟩ Hk
  iapply (issue (X := X b) 𝒱 (c : Thread nD τ) bd ι hs hd hg hp) $$ [Hs Hd Hc]
  · isplitl [Hs]; · iexact Hs
    isplitl [Hd]; · iexact Hd
    iexact Hc
  iintro HF
  iapply Hk
  isplitl [HA]; · iexact HA
  iexact HF

/-- The wait for a fetch. -/
theorem fetched {A : Finset (Fin N)} {b : Fin N} {n : ℕ} (hb : b ∈ A)
    {src : Memref sig .tc .hbm s e} {dst : Memref sig .tc .vmem s e} (hd : dst = w.slot (sl 2 n))
    {sem : DmaSem sig} (hg : sem = w.sem (sl 2 n)) {hsrc : src.view.WordExact} {hdst : dst.view.WordExact}
    {k : PUnit → Prog (TpuEff nD τ sig Val Λ .tc) α} :
    (iprop(homes w c X (A.erase b) ∗ coming w c ι X n b ∗ waits (c : Thread nD τ) ι) : sProp 𝕄)
      ⊢ iprop((iprop(homes w c X A ∗ held w c n (X b) ∗ waits (c : Thread nD τ) ι)
          -∗ wp frame (wpE defs 𝒱 (c : Thread nD τ) bd) Set.univ (k ⟨⟩) Q)
        -∗ wp frame (wpE defs 𝒱 (c : Thread nD τ) bd) Set.univ (.op (.waitDma2 sem src dst hsrc hdst) k) Q) := by
  rw [homes_take w c X hb]
  unfold coming held
  iintro ⟨HA, HF, HW⟩ Hk
  iapply (land (X := X b) (src₀ := w.blk b) 𝒱 (c : Thread nD τ) bd ι hd hg) $$ [HF HW]
  · isplitl [HF]; · iexact HF
    iexact HW
  iintro ⟨Hd, Hs, Hc, HW⟩
  iapply Hk
  isplitl [Hs HA]
  · isplitl [Hs]; · iexact Hs
    iexact HA
  isplitl [Hd Hc]
  · isplitl [Hd]; · iexact Hd
    iexact Hc
  iexact HW

variable (R : Fin N → s.Idx → Val e)

/-- The start of a copy-out. -/
theorem send {n : ℕ} (hp : 0 < s.numel)
    {src : Memref sig .tc .vmem s e} (hs : src = w.slot (sl 2 n)) {dst : Memref sig .tc .hbm s e} (hd : dst = w.blk (bk N n))
    {sem : DmaSem sig} (hg : sem = w.sem (sl 2 n)) {hsrc : src.view.WordExact} {hdst : dst.view.WordExact}
    {hsem : DmaTarget.Typed (nD := nD) .vmem (.dma sem) (.here (p := (c : Thread nD τ).2) dst)}
    {k : PUnit → Prog (TpuEff nD τ sig Val Λ .tc) α} :
    (iprop(sofar w c R n ∗ held w c n (R (bk N n))) : sProp 𝕄)
      ⊢ iprop((iprop(prev w c ι R (n + 1) ∗ idle w c (n + 1)) -∗ wp frame (wpE defs 𝒱 (c : Thread nD τ) bd) Set.univ (k ⟨⟩) Q)
        -∗ wp frame (wpE defs 𝒱 (c : Thread nD τ) bd) Set.univ (.op (.enqueueDma src (.here dst) (.dma sem) hsrc hdst hsem) k) Q) := by
  unfold sofar held prev
  rw [outs_take w c R (Finset.mem_univ (bk N n)), if_neg (Nat.succ_ne_zero n), Nat.add_sub_cancel]
  unfold out going
  iintro ⟨⟨⟨⟨%x, _, Hd⟩, HA⟩, HI⟩, Hs, Hc⟩ Hk
  iapply (issue (X := R (bk N n)) 𝒱 (c : Thread nD τ) bd ι hs hd hg hp) $$ [Hs Hd Hc]
  · isplitl [Hs]; · iexact Hs
    isplitl [Hd]; · iapply (free_intro (c : Thread nD τ)) $$ Hd
    iexact Hc
  iintro HF
  iapply Hk
  isplitl [HA HF]
  · isplitl [HA]; · iexact HA
    iexact HF
  iexact HI

/-- The wait for a copy-out. -/
theorem sent {n : ℕ} (hn : n < N)
    {src : Memref sig .tc .vmem s e} {dst : Memref sig .tc .hbm s e} (hd : dst = w.blk (bk N n))
    {sem : DmaSem sig} (hg : sem = w.sem (sl 2 n)) {hsrc : src.view.WordExact} {hdst : dst.view.WordExact}
    {k : PUnit → Prog (TpuEff nD τ sig Val Λ .tc) α} :
    (iprop(prev w c ι R (n + 1) ∗ waits (c : Thread nD τ) ι) : sProp 𝕄)
      ⊢ iprop((iprop(sofar w c R (n + 1) ∗ waits (c : Thread nD τ) ι)
          -∗ wp frame (wpE defs 𝒱 (c : Thread nD τ) bd) Set.univ (k ⟨⟩) Q)
        -∗ wp frame (wpE defs 𝒱 (c : Thread nD τ) bd) Set.univ (.op (.waitDma2 sem src dst hsrc hdst) k) Q) := by
  unfold sofar prev
  rw [if_neg (Nat.succ_ne_zero n), Nat.add_sub_cancel, idle_succ]
  unfold going idle
  iintro ⟨⟨HA, HF⟩, HW⟩ Hk
  iapply (land (X := R (bk N n)) (src₀ := w.slot (sl 2 n)) 𝒱 (c : Thread nD τ) bd ι hd hg) $$ [HF HW]
  · isplitl [HF]; · iexact HF
    iexact HW
  iintro ⟨Hd, Hs, Hc, HW⟩
  iapply Hk
  isplitr [HW]
  · isplitl [Hd HA]
    · iapply (outs_put w c R hn)
      isplitl [Hd]; · iexact Hd
      iexact HA
    isplitl [Hs]; · iapply (free_intro (c : Thread nD τ)) $$ Hs
    iexact Hc
  iexact HW

end Steps

end Cert.Mlp
-- ==== Proof.Names.lean ====
/- What the kernel works on, by name, and what it computes.

The four windows of the pipeline (`hW` the row blocks of the hidden state, `upW` and `dnW` the blocks of the
two weights, `oW` the row blocks of the result); the equations that turn a slice as the program spells it
into one of theirs; and the contents the kernel leaves in its scratch (`uV`), in a slot of the result
after `k` width blocks (`accV`) and in a finished row block (`outV`). -/
module

public import proofs.«01_k».proof.Proof.Words
public import proofs.«01_k».proof.Proof.Window

@[expose] public section

set_option maxRecDepth 16384

noncomputable section

namespace Cert.Mlp

open Cert.KernelIdeal Cert.KernelIdeal.Gen
open Idealize.ShloMosaic
open Idealize.ShloMosaic.TcCoe Idealize.ShloMosaic.Tactic
open Idealize.ShloMosaic.Ring (sl bk)

/-! ### The windows -/

theorem inbSem (s : Fin 2) : ∀ a, (![s.val] : Fin 1 → ℕ) a + S1.size a ≤ S2.size a := by
  have := s.isLt; intro a; fin_cases a; show s.val + 1 ≤ 2; omega
theorem inbRow (s : Fin 2) : ∀ a, (![s.val, 0, 0] : Fin 3 → ℕ) a + S1x512x2048.size a ≤ S2x512x2048.size a := by
  have := s.isLt; intro a; fin_cases a
  · show s.val + 1 ≤ 2; omega
  · show 0 + 512 ≤ 512; omega
  · show 0 + 2048 ≤ 2048; omega
theorem inbWt (s : Fin 2) : ∀ a, (![s.val, 0, 0] : Fin 3 → ℕ) a + S1x2048x2048.size a ≤ S2x2048x2048.size a := by
  have := s.isLt; intro a; fin_cases a
  · show s.val + 1 ≤ 2; omega
  · show 0 + 2048 ≤ 2048; omega
  · show 0 + 2048 ≤ 2048; omega
theorem inbBlk (b : Fin 32) : ∀ a, (![512 * b.val, 0] : Fin 2 → ℕ) a + S512x2048.size a ≤ S16384x2048.size a := by
  have := b.isLt; intro a; fin_cases a
  · show 512 * b.val + 512 ≤ 16384; omega
  · show 0 + 2048 ≤ 2048; omega
theorem inbUp (b : Fin 4) : ∀ a, (![0, 2048 * b.val] : Fin 2 → ℕ) a + S2048x2048.size a ≤ S2048x8192.size a := by
  have := b.isLt; intro a; fin_cases a
  · show 0 + 2048 ≤ 2048; omega
  · show 2048 * b.val + 2048 ≤ 8192; omega
theorem inbDn (b : Fin 4) : ∀ a, (![2048 * b.val, 0] : Fin 2 → ℕ) a + S2048x2048.size a ≤ S8192x2048.size a := by
  have := b.isLt; intro a; fin_cases a
  · show 2048 * b.val + 2048 ≤ 8192; omega
  · show 0 + 2048 ≤ 2048; omega

/-- The semaphore of slot `s` among two. -/
def semOf (A : DmaSems sig S2) (s : Fin 2) : DmaSem sig :=
  ((A.slice (Rect.unit (s := S2) ![s.val] S1.size (inbSem s))).squeeze S_ squeezes_S1_S_).sem
/-- Slot `s` of a buffer of two row blocks. -/
def rowSlot (B : Memref sig .tc .vmem S2x512x2048 .f32) (s : Fin 2) : Memref sig .tc .vmem S512x2048 .f32 :=
  (B.slice (Rect.unit (s := S2x512x2048) ![s.val, 0, 0] S1x512x2048.size (inbRow s)) (fun _ => rfl)).squeeze S512x2048 squeezes_S1x512x2048_S512x2048
/-- Slot `s` of a buffer of two weight blocks. -/
def wtSlot (B : Memref sig .tc .vmem S2x2048x2048 .bf16) (s : Fin 2) : Memref sig .tc .vmem S2048x2048 .bf16 :=
  (B.slice (Rect.unit (s := S2x2048x2048) ![s.val, 0, 0] S1x2048x2048.size (inbWt s)) (fun _ => rfl)).squeeze S2048x2048 squeezes_S1x2048x2048_S2048x2048
/-- Row block `b`. -/
def rowBlk (M : Memref sig .tc .hbm S16384x2048 .f32) (b : Fin 32) : Memref sig .tc .hbm S512x2048 .f32 :=
  M.slice (Rect.unit (s := S16384x2048) ![512 * b.val, 0] S512x2048.size (inbBlk b)) (fun _ => rfl)
/-- Width block `b` of the first weight: columns. -/
def upBlk (M : Memref sig .tc .hbm S2048x8192 .bf16) (b : Fin 4) : Memref sig .tc .hbm S2048x2048 .bf16 :=
  M.slice (Rect.unit (s := S2048x8192) ![0, 2048 * b.val] S2048x2048.size (inbUp b)) (fun _ => rfl)
/-- Width block `b` of the second weight: rows. -/
def dnBlk (M : Memref sig .tc .hbm S8192x2048 .bf16) (b : Fin 4) : Memref sig .tc .hbm S2048x2048 .bf16 :=
  M.slice (Rect.unit (s := S8192x2048) ![2048 * b.val, 0] S2048x2048.size (inbDn b)) (fun _ => rfl)

def hW : Win sig 32 S512x2048 .f32 := ⟨rowSlot (Memref.whole cc0_scoped0), semOf cc0_scoped1, rowBlk (Memref.whole main_v0)⟩
def upW : Win sig 4 S2048x2048 .bf16 := ⟨wtSlot (Memref.whole cc0_scoped2), semOf cc0_scoped3, upBlk (Memref.whole main_v4)⟩
def dnW : Win sig 4 S2048x2048 .bf16 := ⟨wtSlot (Memref.whole cc0_scoped4), semOf cc0_scoped5, dnBlk (Memref.whole main_v6)⟩
def oW : Win sig 32 S512x2048 .f32 := ⟨rowSlot (Memref.whole cc0_scoped6), semOf cc0_scoped7, rowBlk (Memref.whole main_v9)⟩

/-! ### A slice as the program spells it -/

theorem sem_eq (A : DmaSems sig S2) {off : Fin 1 → ℕ} {n : ℕ} (e : off = ![n % 2]) (hh) :
    ((A.slice (Rect.unit (s := S2) off S1.size hh)).squeeze S_ squeezes_S1_S_).sem = semOf A (sl 2 n) := by subst e; rfl
theorem row_eq (B : Memref sig .tc .vmem S2x512x2048 .f32) {off : Fin 3 → ℕ} {n : ℕ} (e : off = ![n % 2, 0, 0]) (hh hs) :
    (B.slice (Rect.unit (s := S2x512x2048) off S1x512x2048.size hh) hs).squeeze S512x2048 squeezes_S1x512x2048_S512x2048
      = rowSlot B (sl 2 n) := by subst e; rfl
theorem wt_eq (B : Memref sig .tc .vmem S2x2048x2048 .bf16) {off : Fin 3 → ℕ} {n : ℕ} (e : off = ![n % 2, 0, 0]) (hh hs) :
    (B.slice (Rect.unit (s := S2x2048x2048) off S1x2048x2048.size hh) hs).squeeze S2048x2048 squeezes_S1x2048x2048_S2048x2048
      = wtSlot B (sl 2 n) := by subst e; rfl
theorem blk_eq (M : Memref sig .tc .hbm S16384x2048 .f32) {off : Fin 2 → ℕ} {n : ℕ} (e : off = ![512 * n, 0]) (hn : n < 32) (hh hs) :
    M.slice (Rect.unit (s := S16384x2048) off S512x2048.size hh) hs = rowBlk M (bk 32 n) := by
  subst e; exact Memref.slice_unit_congr _ (by rw [Ring.bk_val hn]) _ _ hs (fun _ => rfl)
theorem up_eq (M : Memref sig .tc .hbm S2048x8192 .bf16) {off : Fin 2 → ℕ} {n : ℕ} (e : off = ![0, 2048 * (n % 4)]) (hh hs) :
    M.slice (Rect.unit (s := S2048x8192) off S2048x2048.size hh) hs = upBlk M (bk 4 n) := by subst e; rfl
theorem dn_eq (M : Memref sig .tc .hbm S8192x2048 .bf16) {off : Fin 2 → ℕ} {n : ℕ} (e : off = ![2048 * (n % 4), 0]) (hh hs) :
    M.slice (Rect.unit (s := S8192x2048) off S2048x2048.size hh) hs = dnBlk M (bk 4 n) := by subst e; rfl
theorem wtRect_eq {off : Fin 3 → ℕ} {n : ℕ} (e : off = ![n % 2, 0, 0]) (hh) :
    Rect.unit (s := S2x2048x2048) off S1x2048x2048.size hh
      = Rect.unit (s := S2x2048x2048) ![(sl 2 n).val, 0, 0] S1x2048x2048.size (inbWt (sl 2 n)) := by subst e; rfl
theorem rowRect_eq {off : Fin 3 → ℕ} {n : ℕ} (e : off = ![n % 2, 0, 0]) (hh) :
    Rect.unit (s := S2x512x2048) off S1x512x2048.size hh
      = Rect.unit (s := S2x512x2048) ![(sl 2 n).val, 0, 0] S1x512x2048.size (inbRow (sl 2 n)) := by subst e; rfl

/-! ### The upper and the lower half of a row block -/

section Halves

variable {α : Type}

abbrev rLo : Rect S512x2048 := Rect.unit (s := S512x2048) ![0, 0] S256x2048.size inb_S512x2048_S256x2048_0_0
abbrev rHi : Rect S512x2048 := Rect.unit (s := S512x2048) ![256, 0] S256x2048.size inb_S512x2048_S256x2048_256_0

/-- Rows 0 … 255. -/
def lo (X : S512x2048.Idx → α) : S256x2048.Idx → α := fun j => X (rLo.emb j)
/-- Rows 256 … 511. -/
def hi (X : S512x2048.Idx → α) : S256x2048.Idx → α := fun j => X (rHi.emb j)
/-- The row block of these halves. -/
def halves (p q : S256x2048.Idx → α) : S512x2048.Idx → α := rHi.overlay (rLo.overlay (fun i => p (fun a => ⟨(i a).val % S256x2048.size a, Nat.mod_lt _ (by fin_cases a <;> decide)⟩)) p) q

theorem disj : ∀ i, i ∈ rLo.set → i ∉ rHi.set := by
  intro i hl hh
  have h1 := (Rect.mem_set_unit.mp hl) 0
  have h2 := (Rect.mem_set_unit.mp hh) 0
  have : i 0 < (256 : ℕ) := by have := h1.2; simpa using this
  have : (256 : ℕ) ≤ i 0 := by have := h2.1; simpa using this
  omega
theorem cover (i : S512x2048.Idx) : i ∈ rLo.set ∨ i ∈ rHi.set := by
  have h0 : (i 0).val < 512 := (i 0).isLt
  have h1 : (i 1).val < 2048 := (i 1).isLt
  rcases Nat.lt_or_ge (i 0).val 256 with h | h
  · left; refine Rect.mem_set_unit.mpr fun a => ?_
    fin_cases a
    · exact ⟨Nat.zero_le _, by show (i 0).val < 0 + 256; omega⟩
    · exact ⟨Nat.zero_le _, by show (i 1).val < 0 + 2048; omega⟩
  · right; refine Rect.mem_set_unit.mpr fun a => ?_
    fin_cases a
    · exact ⟨h, by show (i 0).val < 256 + 256; omega⟩
    · exact ⟨Nat.zero_le _, by show (i 1).val < 0 + 2048; omega⟩

/-- Both halves written, whatever was there. -/
theorem overlay_halves (X : S512x2048.Idx → α) (p q : S256x2048.Idx → α) : rHi.overlay (rLo.overlay X p) q = halves p q := by
  funext i
  unfold halves
  by_cases h : i ∈ rHi.set
  · obtain ⟨j, rfl⟩ := rHi.exists_idx_of_mem h
    exact (Rect.overlay_emb _ _ _ j).trans (Rect.overlay_emb _ _ _ j).symm
  · rw [Rect.overlay_of_not_mem _ _ _ h, Rect.overlay_of_not_mem _ _ _ h]
    obtain ⟨j, rfl⟩ := rLo.exists_idx_of_mem ((cover i).resolve_right h)
    exact (Rect.overlay_emb _ _ _ j).trans (Rect.overlay_emb _ _ _ j).symm
theorem hi_overlay (X : S512x2048.Idx → α) (p : S256x2048.Idx → α) : hi (rLo.overlay X p) = hi X := by
  funext j
  exact Rect.overlay_of_not_mem _ _ _ fun h => disj _ h (rHi.idx_mem j)
theorem lo_halves (p q : S256x2048.Idx → α) : lo (halves p q) = p := by
  funext j
  exact (Rect.overlay_of_not_mem _ _ _ (disj _ (rLo.idx_mem j))).trans (rLo.overlay_emb _ p j)
theorem hi_halves (p q : S256x2048.Idx → α) : hi (halves p q) = q := by
  funext j
  exact rHi.overlay_emb _ q j

end Halves

/-! ### What the kernel computes -/

section Values

variable {F : FTy → Type} [FloatOps F]
variable (H : Fin 32 → S512x2048.Idx → Elt F .f32) (Up Dn : Fin 4 → S2048x2048.Idx → Elt F .bf16)
variable (g1 g2 : S1x2048.Idx → Elt F .f32)

/-- A weight block as a slot of one block. -/
def w3 (x : S2048x2048.Idx → Elt F .bf16) : S1x2048x2048.Idx → Elt F .bf16 := shapeCast S1x2048x2048 x (by decide)
/-- A row block as a slot of one block, and back. -/
def o3 (x : S512x2048.Idx → Elt F .f32) : S1x512x2048.Idx → Elt F .f32 := shapeCast S1x512x2048 x (by decide)
def o2 (x : S1x512x2048.Idx → Elt F .f32) : S512x2048.Idx → Elt F .f32 := shapeCast S512x2048 x (by decide)

/-- The normed row block `i`. -/
def uV (i : Fin 32) : S512x2048.Idx → Elt F .bf16 :=
  halves (k0_pay1 (lo (H i)) g1) (k0_pay4 (k0_pay2 (hi (H i))) (k0_pay3 g1))
/-- Row block `i`'s sum over the first `k` width blocks, for `1 ≤ k ≤ 3`. -/
def accV (i : Fin 32) : ℕ → S512x2048.Idx → Elt F .f32
  | 0 => halves (k0_pay5 (lo (uV H g1 i)) (w3 (Up 0)) (w3 (Dn 0))) (k0_pay6 (hi (uV H g1 i)) (w3 (Up 0)) (w3 (Dn 0)))
  | 1 => halves (k0_pay5 (lo (uV H g1 i)) (w3 (Up 0)) (w3 (Dn 0))) (k0_pay6 (hi (uV H g1 i)) (w3 (Up 0)) (w3 (Dn 0)))
  | k + 2 => o2 (k0_pay12 (o3 (accV i (k + 1))) (uV H g1 i) (w3 (Up (bk 4 (k + 1)))) (w3 (Dn (bk 4 (k + 1)))))
/-- Row block `i` of the result. -/
def outV (i : Fin 32) : S512x2048.Idx → Elt F .f32 :=
  halves
    (k0_pay7 (lo (accV H Up Dn g1 i 3)) (lo (uV H g1 i)) (w3 (Up 3)) (w3 (Dn 3)) (lo (H i)) g2)
    (k0_pay13 (k0_pay8 (hi (accV H Up Dn g1 i 3)) (hi (uV H g1 i)) (w3 (Up 3)) (w3 (Dn 3))) (k0_pay9 (hi (H i)))
      (k0_pay10 g2) (k0_pay11 (hi (accV H Up Dn g1 i 3)) (hi (uV H g1 i)) (w3 (Up 3)) (w3 (Dn 3))))

end Values

end Cert.Mlp
-- ==== Proof.State.lean ====
/- What the kernel holds between the pieces of a trip.

`D` is what the kernel is given (the row blocks, the weight blocks and the two gains). A trip is done in
four pieces: it starts the fetches of what the next trips need, waits for what it needs itself and normalises
the row block, adds its width block to the result, and finishes the copies-out. Each window's state is given
before the trip (`…0`), and after the first, second and third piece (`…1`, `…2`, `…3`). -/
module

public import proofs.«01_k».proof.Proof.Names
public import Idealize.ShloMosaic.Lib.Pipeline.Kit

@[expose] public section

set_option maxRecDepth 16384

noncomputable section

namespace Cert.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

/-- The resources: the pipeline library's, beside the counters of the kernel's own copies. -/
abbrev UU (nD : Nat) (τ : Topo) : Type := UR sig nD τ × Counters
local notation "𝕄" => MT nD τ sig Unit (Elt F) ℕ (UU nD τ) ℕ
abbrev 𝒱₀ : Variants := Variants.nat

/-- What the kernel is given. -/
structure Data (F : FTy → Type) where
  H : Fin 32 → S512x2048.Idx → Elt F .f32
  Up : Fin 4 → S2048x2048.Idx → Elt F .bf16
  Dn : Fin 4 → S2048x2048.Idx → Elt F .bf16
  g1 : S1x2048.Idx → Elt F .f32
  g2 : S1x2048.Idx → Elt F .f32

def Data.u (D : Data F) (i : Fin 32) := uV D.H D.g1 i
def Data.acc (D : Data F) (i : Fin 32) (k : ℕ) := accV D.H D.Up D.Dn D.g1 i k
def Data.out (D : Data F) (i : Fin 32) := outV D.H D.Up D.Dn D.g1 D.g2 i

/-- A part of the kernel on what it works on: only the two gains' buffers are left open. -/
abbrev app {β : Type 1}
    (f : (arg0 : Memref sig .tc .hbm S16384x2048 .f32) → (harg0 : arg0.IsWhole) → (arg1 : Memref sig .tc .vmem S1x2048 .f32) → (harg1 : arg1.IsWhole) →
      (arg2 : Memref sig .tc .hbm S2048x8192 .bf16) → (harg2 : arg2.IsWhole) → (arg3 : Memref sig .tc .hbm S8192x2048 .bf16) → (harg3 : arg3.IsWhole) →
      (arg4 : Memref sig .tc .vmem S1x2048 .f32) → (harg4 : arg4.IsWhole) → (arg5 : Memref sig .tc .hbm S16384x2048 .f32) → (harg5 : arg5.IsWhole) →
      (arg6 : Memref sig .tc .vmem S512x2048 .bf16) → (harg6 : arg6.IsWhole) →
      (b : Memref sig .tc .vmem S2x512x2048 .f32) → (hb : b.IsWhole) → (v0 : DmaSems sig S2) →
      (b0 : Memref sig .tc .vmem S2x2048x2048 .bf16) → (hb0 : b0.IsWhole) → (v1 : DmaSems sig S2) →
      (b1 : Memref sig .tc .vmem S2x2048x2048 .bf16) → (hb1 : b1.IsWhole) → (v2 : DmaSems sig S2) →
      (b2 : Memref sig .tc .vmem S2x512x2048 .f32) → (hb2 : b2.IsWhole) → (v3 : DmaSems sig S2) → β)
    (g1M : Memref sig .tc .vmem S1x2048 .f32) (hg1 : g1M.IsWhole) (g2M : Memref sig .tc .vmem S1x2048 .f32) (hg2 : g2M.IsWhole) : β :=
  f (Memref.whole main_v0) (Memref.isWhole_whole _) g1M hg1 (Memref.whole main_v4) (Memref.isWhole_whole _) (Memref.whole main_v6) (Memref.isWhole_whole _)
    g2M hg2 (Memref.whole main_v9) (Memref.isWhole_whole _) (Memref.whole cc0_scratch0) (Memref.isWhole_whole _)
    (Memref.whole cc0_scoped0) (Memref.isWhole_whole _) cc0_scoped1 (Memref.whole cc0_scoped2) (Memref.isWhole_whole _) cc0_scoped3
    (Memref.whole cc0_scoped4) (Memref.isWhole_whole _) cc0_scoped5 (Memref.whole cc0_scoped6) (Memref.isWhole_whole _) cc0_scoped7

section

variable (D : Data F) (c : Dev nD)

/-- The scratch of the normed row block. -/
abbrev uM : Memref sig .tc .vmem S512x2048 .bf16 := Memref.whole cc0_scratch0

/-- The row block `i` in its slot, the next on its way. -/
def hM (i : ℕ) : sProp 𝕄 :=
  if i < 31 then more hW c () D.H i (bk 32 i) (bk 32 (i + 1)) else last hW c D.H i (bk 32 i)
def h0 (t : ℕ) : sProp 𝕄 :=
  if t % 4 = 0 then (if t < 128 then one hW c () D.H (t / 4) (bk 32 (t / 4)) else rest hW c D.H (t / 4)) else hM D c (t / 4)
def h1 (t : ℕ) : sProp 𝕄 :=
  if t % 4 = 0 then
    (if t < 124 then two hW c () D.H (t / 4) (bk 32 (t / 4)) (bk 32 (t / 4 + 1)) else one hW c () D.H (t / 4) (bk 32 (t / 4)))
  else hM D c (t / 4)

section Wt

variable (w : Win sig 4 S2048x2048 .bf16) (X : Fin 4 → S2048x2048.Idx → Elt F .bf16)

def wt0 (t : ℕ) : sProp 𝕄 := if t < 128 then one w c () X t (bk 4 t) else rest w c X t
def wt1 (t : ℕ) : sProp 𝕄 := if t < 127 then two w c () X t (bk 4 t) (bk 4 (t + 1)) else one w c () X t (bk 4 t)
def wt2 (t : ℕ) : sProp 𝕄 := if t < 127 then more w c () X t (bk 4 t) (bk 4 (t + 1)) else last w c X t (bk 4 t)

/-- The slot that holds this trip's block, and the rest. -/
def wtR (t : ℕ) : sProp 𝕄 :=
  iprop(cell (c : Thread nD τ) (w.sem (sl 2 t))
    ∗ if t < 127 then iprop(homes w c X (Finset.univ.erase (bk 4 (t + 1))) ∗ coming w c () X (t + 1) (bk 4 (t + 1)))
      else iprop(homes w c X Finset.univ ∗ idle w c (t + 1)))

theorem wt2_eq (t : ℕ) : (wt2 c w X t : sProp 𝕄) ⊣⊢ iprop(own (c : Thread nD τ) (w.slot (sl 2 t)) (X (bk 4 t)) ∗ wtR c w X t) := by
  unfold wt2 wtR more last held
  split
  · constructor
    · iintro ⟨⟨A, B⟩, C⟩
      isplitl [A]; · iexact A
      isplitl [B]; · iexact B
      iexact C
    · iintro ⟨A, B, C⟩
      isplitl [A B]
      · isplitl [A]; · iexact A
        iexact B
      iexact C
  · constructor
    · iintro ⟨⟨A, B⟩, C⟩
      isplitl [A]; · iexact A
      isplitl [B]; · iexact B
      iexact C
    · iintro ⟨A, B, C⟩
      isplitl [A B]
      · isplitl [A]; · iexact A
        iexact B
      iexact C

/-- What the trip leaves is what the next one starts from. -/
theorem wt_next (t : ℕ) (ht : t < 128) : (wt2 c w X t : sProp 𝕄) ⊢ wt0 c w X (t + 1) := by
  unfold wt2 wt0
  by_cases h : t < 127
  · rw [if_pos h, if_pos (by omega)]; exact more_one w c () X t _ _
  · rw [if_neg h, if_neg (by omega)]; exact last_rest w c X t _

end Wt

/-- The rest of `hM` beside the slot. -/
def hR (i : ℕ) : sProp 𝕄 :=
  iprop(cell (c : Thread nD τ) (hW.sem (sl 2 i))
    ∗ if i < 31 then iprop(homes hW c D.H (Finset.univ.erase (bk 32 (i + 1))) ∗ coming hW c () D.H (i + 1) (bk 32 (i + 1)))
      else iprop(homes hW c D.H Finset.univ ∗ idle hW c (i + 1)))

theorem hM_eq (i : ℕ) : (hM D c i : sProp 𝕄) ⊣⊢ iprop(own (c : Thread nD τ) (hW.slot (sl 2 i)) (D.H (bk 32 i)) ∗ hR D c i) := by
  unfold hM hR more last held
  split
  · constructor
    · iintro ⟨⟨A, B⟩, C⟩
      isplitl [A]; · iexact A
      isplitl [B]; · iexact B
      iexact C
    · iintro ⟨A, B, C⟩
      isplitl [A B]
      · isplitl [A]; · iexact A
        iexact B
      iexact C
  · constructor
    · iintro ⟨⟨A, B⟩, C⟩
      isplitl [A]; · iexact A
      isplitl [B]; · iexact B
      iexact C
    · iintro ⟨A, B, C⟩
      isplitl [A B]
      · isplitl [A]; · iexact A
        iexact B
      iexact C

/-- After a trip the row block stays, unless it was the block's last. -/
theorem h_next (t : ℕ) (ht : t < 128) : (hM D c (t / 4) : sProp 𝕄) ⊢ h0 D c (t + 1) := by
  unfold h0
  by_cases h : (t + 1) % 4 = 0
  · rw [if_pos h]
    have e : (t + 1) / 4 = t / 4 + 1 := by omega
    unfold hM
    by_cases h' : t / 4 < 31
    · rw [if_pos h', if_pos (by omega), e]; exact more_one hW c () D.H _ _ _
    · rw [if_neg h', if_neg (by omega), e]; exact last_rest hW c D.H _ _
  · rw [if_neg h, show (t + 1) / 4 = t / 4 from by omega]

/-- The scratch and the result. -/
def uo0 (t : ℕ) : sProp 𝕄 :=
  if t % 4 = 0 then iprop(free (c : Thread nD τ) uM ∗ prev oW c () D.out (t / 4) ∗ idle oW c (t / 4))
  else iprop(own (c : Thread nD τ) uM (D.u (bk 32 (t / 4))) ∗ sofar oW c D.out (t / 4) ∗ held oW c (t / 4) (D.acc (bk 32 (t / 4)) (t % 4)))
def uo2 (t : ℕ) : sProp 𝕄 :=
  if t % 4 = 0 then
    iprop(own (c : Thread nD τ) uM (D.u (bk 32 (t / 4))) ∗ prev oW c () D.out (t / 4) ∗ held oW c (t / 4) (D.acc (bk 32 (t / 4)) 1))
  else iprop(own (c : Thread nD τ) uM (D.u (bk 32 (t / 4))) ∗ sofar oW c D.out (t / 4) ∗ held oW c (t / 4) (D.acc (bk 32 (t / 4)) (t % 4)))
def uo3 (t : ℕ) : sProp 𝕄 :=
  if t % 4 = 0 then
    iprop(own (c : Thread nD τ) uM (D.u (bk 32 (t / 4))) ∗ prev oW c () D.out (t / 4) ∗ held oW c (t / 4) (D.acc (bk 32 (t / 4)) 1))
  else if t % 4 = 3 then
    iprop(own (c : Thread nD τ) uM (D.u (bk 32 (t / 4))) ∗ prev oW c () D.out (t / 4 + 1) ∗ idle oW c (t / 4 + 1))
  else iprop(own (c : Thread nD τ) uM (D.u (bk 32 (t / 4))) ∗ sofar oW c D.out (t / 4) ∗ held oW c (t / 4) (D.acc (bk 32 (t / 4)) (t % 4 + 1)))

end

/-! ### Loads of a whole memref -/

section Loads

variable {Λ : Labels} {defs : Defs nD τ sig (Elt F) Λ} (𝒱 : Variants) (c : Dev nD) (bd : Option 𝒱.V)
variable {α : Type} {Q : α → sProp (MT nD τ sig Unit (Elt F) ℕ (UU nD τ) ℕ)}

theorem ldG {M : Memref sig .tc .vmem S1x2048 .f32} {hh} {hl : M.view.LoadsAt (Rect.unit (s := S1x2048) ![0, 0] S1x2048.size hh).toLoadRect}
    {k : (S1x2048.Idx → Elt F .f32) → Prog (TpuEff nD τ sig (Elt F) Λ .tc) α} {X : S1x2048.Idx → Elt F .f32} :
    (own (c : Thread nD τ) M X : sProp 𝕄)
      ⊢ iprop((own (c : Thread nD τ) M X -∗ wp frame (wpE defs 𝒱 (c : Thread nD τ) bd) Set.univ (k X) Q)
        -∗ wp frame (wpE defs 𝒱 (c : Thread nD τ) bd) Set.univ (.op (.load M (Rect.unit (s := S1x2048) ![0, 0] S1x2048.size hh).toLoadRect hl) k) Q) := by
  have e : (fun j => X ((Rect.unit (s := S1x2048) ![0, 0] S1x2048.size hh).emb j)) = X := by
    funext j; congr 1; funext a; apply Fin.ext
    show (![0, 0] : Fin 2 → ℕ) a + 1 * (j a).val = (j a).val
    fin_cases a <;> simp
  have h := ld (X := X) (k := k) (Q := Q) (defs := defs) (U := UU nD τ) (Ix := Unit) (Lvl := ℕ) (Name := ℕ) 𝒱 (c : Thread nD τ) bd (rfl : M = M) (r := Rect.unit (s := S1x2048) ![0, 0] S1x2048.size hh) (hl := hl)
  rw [e] at h
  exact h

theorem ldU {M : Memref sig .tc .vmem S512x2048 .bf16} {hh} {hl : M.view.LoadsAt (Rect.unit (s := S512x2048) ![0, 0] S512x2048.size hh).toLoadRect}
    {k : (S512x2048.Idx → Elt F .bf16) → Prog (TpuEff nD τ sig (Elt F) Λ .tc) α} {X : S512x2048.Idx → Elt F .bf16} :
    (own (c : Thread nD τ) M X : sProp 𝕄)
      ⊢ iprop((own (c : Thread nD τ) M X -∗ wp frame (wpE defs 𝒱 (c : Thread nD τ) bd) Set.univ (k X) Q)
        -∗ wp frame (wpE defs 𝒱 (c : Thread nD τ) bd) Set.univ (.op (.load M (Rect.unit (s := S512x2048) ![0, 0] S512x2048.size hh).toLoadRect hl) k) Q) := by
  have e : (fun j => X ((Rect.unit (s := S512x2048) ![0, 0] S512x2048.size hh).emb j)) = X := by
    funext j; congr 1; funext a; apply Fin.ext
    show (![0, 0] : Fin 2 → ℕ) a + 1 * (j a).val = (j a).val
    fin_cases a <;> simp
  have h := ld (X := X) (k := k) (Q := Q) (defs := defs) (U := UU nD τ) (Ix := Unit) (Lvl := ℕ) (Name := ℕ) 𝒱 (c : Thread nD τ) bd (rfl : M = M) (r := Rect.unit (s := S512x2048) ![0, 0] S512x2048.size hh) (hl := hl)
  rw [e] at h
  exact h

theorem ldLo {e : EltTy} {M M₀ : Memref sig .tc .vmem S512x2048 e} (hM : M = M₀) {hh}
    {hl : M.view.LoadsAt (Rect.unit (s := S512x2048) ![0, 0] S256x2048.size hh).toLoadRect}
    {k : (S256x2048.Idx → Elt F e) → Prog (TpuEff nD τ sig (Elt F) Λ .tc) α} {X : S512x2048.Idx → Elt F e} :
    (own (c : Thread nD τ) M₀ X : sProp 𝕄)
      ⊢ iprop((own (c : Thread nD τ) M₀ X -∗ wp frame (wpE defs 𝒱 (c : Thread nD τ) bd) Set.univ (k (lo X)) Q)
        -∗ wp frame (wpE defs 𝒱 (c : Thread nD τ) bd) Set.univ (.op (.load M (Rect.unit (s := S512x2048) ![0, 0] S256x2048.size hh).toLoadRect hl) k) Q) :=
  ld 𝒱 (c : Thread nD τ) bd hM (r := Rect.unit (s := S512x2048) ![0, 0] S256x2048.size hh) (hl := hl) (k := k) (X := X) (Q := Q)

theorem ldHi {e : EltTy} {M M₀ : Memref sig .tc .vmem S512x2048 e} (hM : M = M₀) {hh}
    {hl : M.view.LoadsAt (Rect.unit (s := S512x2048) ![256, 0] S256x2048.size hh).toLoadRect}
    {k : (S256x2048.Idx → Elt F e) → Prog (TpuEff nD τ sig (Elt F) Λ .tc) α} {X : S512x2048.Idx → Elt F e} :
    (own (c : Thread nD τ) M₀ X : sProp 𝕄)
      ⊢ iprop((own (c : Thread nD τ) M₀ X -∗ wp frame (wpE defs 𝒱 (c : Thread nD τ) bd) Set.univ (k (hi X)) Q)
        -∗ wp frame (wpE defs 𝒱 (c : Thread nD τ) bd) Set.univ (.op (.load M (Rect.unit (s := S512x2048) ![256, 0] S256x2048.size hh).toLoadRect hl) k) Q) :=
  ld 𝒱 (c : Thread nD τ) bd hM (r := Rect.unit (s := S512x2048) ![256, 0] S256x2048.size hh) (hl := hl) (k := k) (X := X) (Q := Q)

/-- The upper half stored, and the lower after it. -/
theorem stLo {e : EltTy} {M M₀ : Memref sig .tc .vmem S512x2048 e} (hM : M = M₀) {hh} {x : S256x2048.Idx → Elt F e}
    {hx : (M.access (Rect.unit (s := S512x2048) ![0, 0] S256x2048.size hh)).Stores Finset.univ}
    {hm : Finset.univ = Finset.univ ∨ ∀ a, (Rect.unit (s := S512x2048) ![0, 0] S256x2048.size hh).stride a = 1}
    {k : PUnit → Prog (TpuEff nD τ sig (Elt F) Λ .tc) α} {X : S512x2048.Idx → Elt F e} :
    (own (c : Thread nD τ) M₀ X : sProp 𝕄)
      ⊢ iprop((own (c : Thread nD τ) M₀ (rLo.overlay X x) -∗ wp frame (wpE defs 𝒱 (c : Thread nD τ) bd) Set.univ (k ⟨⟩) Q)
        -∗ wp frame (wpE defs 𝒱 (c : Thread nD τ) bd) Set.univ
          (.op (.store M (Rect.unit (s := S512x2048) ![0, 0] S256x2048.size hh) x Finset.univ hx hm) k) Q) :=
  st 𝒱 (c : Thread nD τ) bd hM (r := Rect.unit (s := S512x2048) ![0, 0] S256x2048.size hh) (w := x) (hx := hx) (hm := hm) (k := k) (X := X) (Q := Q)

theorem stHi {e : EltTy} {M M₀ : Memref sig .tc .vmem S512x2048 e} (hM : M = M₀) {hh} {x y : S256x2048.Idx → Elt F e}
    {hx : (M.access (Rect.unit (s := S512x2048) ![256, 0] S256x2048.size hh)).Stores Finset.univ}
    {hm : Finset.univ = Finset.univ ∨ ∀ a, (Rect.unit (s := S512x2048) ![256, 0] S256x2048.size hh).stride a = 1}
    {k : PUnit → Prog (TpuEff nD τ sig (Elt F) Λ .tc) α} {X : S512x2048.Idx → Elt F e} :
    (own (c : Thread nD τ) M₀ (rLo.overlay X x) : sProp 𝕄)
      ⊢ iprop((own (c : Thread nD τ) M₀ (halves x y) -∗ wp frame (wpE defs 𝒱 (c : Thread nD τ) bd) Set.univ (k ⟨⟩) Q)
        -∗ wp frame (wpE defs 𝒱 (c : Thread nD τ) bd) Set.univ
          (.op (.store M (Rect.unit (s := S512x2048) ![256, 0] S256x2048.size hh) y Finset.univ hx hm) k) Q) := by
  rw [← overlay_halves X x y]
  exact st 𝒱 (c : Thread nD τ) bd hM (r := Rect.unit (s := S512x2048) ![256, 0] S256x2048.size hh) (w := y) (hx := hx) (hm := hm) (k := k)
    (X := rLo.overlay X x) (Q := Q)

/-- A weight's slot, loaded through its buffer. -/
theorem ldW {B : Memref sig .tc .vmem S2x2048x2048 .bf16} {M₀ : Memref sig .tc .vmem S2048x2048 .bf16} {off : Fin 3 → ℕ} {n : ℕ}
    (hM : M₀ = wtSlot B (sl 2 n)) (he : off = ![n % 2, 0, 0]) {hh}
    {hl : B.view.LoadsAt (Rect.unit (s := S2x2048x2048) off S1x2048x2048.size hh).toLoadRect}
    {k : (S1x2048x2048.Idx → Elt F .bf16) → Prog (TpuEff nD τ sig (Elt F) Λ .tc) α} {X : S2048x2048.Idx → Elt F .bf16} :
    (own (c : Thread nD τ) M₀ X : sProp 𝕄)
      ⊢ iprop((own (c : Thread nD τ) M₀ X -∗ wp frame (wpE defs 𝒱 (c : Thread nD τ) bd) Set.univ (k (w3 X)) Q)
        -∗ wp frame (wpE defs 𝒱 (c : Thread nD τ) bd) Set.univ (.op (.load B (Rect.unit (s := S2x2048x2048) off S1x2048x2048.size hh).toLoadRect hl) k) Q) := by
  subst hM
  exact ldw 𝒱 (c : Thread nD τ) bd (wtRect_eq he hh) (hq := squeezes_S1x2048x2048_S2048x2048) (by decide : S2048x2048.ShapeCasts S1x2048x2048)

/-- The result's slot, loaded through its buffer. -/
theorem ldO {B : Memref sig .tc .vmem S2x512x2048 .f32} {M₀ : Memref sig .tc .vmem S512x2048 .f32} {off : Fin 3 → ℕ} {n : ℕ}
    (hM : M₀ = rowSlot B (sl 2 n)) (he : off = ![n % 2, 0, 0]) {hh}
    {hl : B.view.LoadsAt (Rect.unit (s := S2x512x2048) off S1x512x2048.size hh).toLoadRect}
    {k : (S1x512x2048.Idx → Elt F .f32) → Prog (TpuEff nD τ sig (Elt F) Λ .tc) α} {X : S512x2048.Idx → Elt F .f32} :
    (own (c : Thread nD τ) M₀ X : sProp 𝕄)
      ⊢ iprop((own (c : Thread nD τ) M₀ X -∗ wp frame (wpE defs 𝒱 (c : Thread nD τ) bd) Set.univ (k (o3 X)) Q)
        -∗ wp frame (wpE defs 𝒱 (c : Thread nD τ) bd) Set.univ (.op (.load B (Rect.unit (s := S2x512x2048) off S1x512x2048.size hh).toLoadRect hl) k) Q) := by
  subst hM
  exact ldw 𝒱 (c : Thread nD τ) bd (rowRect_eq he hh) (hq := squeezes_S1x512x2048_S512x2048) (by decide : S512x2048.ShapeCasts S1x512x2048)

/-- The result's slot, stored through its buffer. -/
theorem stO {B : Memref sig .tc .vmem S2x512x2048 .f32} {M₀ : Memref sig .tc .vmem S512x2048 .f32} {off : Fin 3 → ℕ} {n : ℕ}
    (hM : M₀ = rowSlot B (sl 2 n)) (he : off = ![n % 2, 0, 0]) {hh}
    {x : S1x512x2048.Idx → Elt F .f32}
    {hx : (B.access (Rect.unit (s := S2x512x2048) off S1x512x2048.size hh)).Stores Finset.univ}
    {hm : Finset.univ = Finset.univ ∨ ∀ a, (Rect.unit (s := S2x512x2048) off S1x512x2048.size hh).stride a = 1}
    {k : PUnit → Prog (TpuEff nD τ sig (Elt F) Λ .tc) α} {X : S512x2048.Idx → Elt F .f32} :
    (own (c : Thread nD τ) M₀ X : sProp 𝕄)
      ⊢ iprop((own (c : Thread nD τ) M₀ (o2 x) -∗ wp frame (wpE defs 𝒱 (c : Thread nD τ) bd) Set.univ (k ⟨⟩) Q)
        -∗ wp frame (wpE defs 𝒱 (c : Thread nD τ) bd) Set.univ
          (.op (.store B (Rect.unit (s := S2x512x2048) off S1x512x2048.size hh) x Finset.univ hx hm) k) Q) := by
  subst hM
  exact stw 𝒱 (c : Thread nD τ) bd (rowRect_eq he hh) (hq := squeezes_S1x512x2048_S512x2048) (by decide : S1x512x2048.ShapeCasts S512x2048)

end Loads

end Cert.Mlp
-- ==== Proof.Compute.lean ====
/- The arithmetic pieces of a trip: the norm of a row block, and the first and the last width block of its
result, each done a half at a time. -/
module

public import proofs.«01_k».proof.Proof.State

@[expose] public section

set_option maxRecDepth 16384

noncomputable section

namespace Cert.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (UU nD τ) ℕ

variable (c : Dev nD) (bd : Option 𝒱₀.V) (t : T)
variable (g1M : Memref sig .tc .vmem S1x2048 .f32) (hg1 : g1M.IsWhole) (g2M : Memref sig .tc .vmem S1x2048 .f32) (hg2 : g2M.IsWhole)
variable (hw : k0_chk3 t (w9 t) (w12 t) (w13 t) (w12 t) (w13 t) (w9 t) (w17 t) (w18 t) (w19 t))

/-- The norm of the upper half, and what the lower half's norm needs. -/
theorem part1 (h8 : k0_cond8 (w19 t) = 1#1) (X : S512x2048.Idx → Elt F .f32) (Y : S512x2048.Idx → Elt F .bf16) (g : S1x2048.Idx → Elt F .f32)
    {Q : _ → sProp (MT nD τ sig Unit (Elt F) ℕ (UU nD τ) ℕ)} :
    (iprop(own (c : Thread nD τ) (hW.slot (sl 2 (t.val / 4))) X ∗ own (c : Thread nD τ) g1M g ∗ own (c : Thread nD τ) uM Y) : sProp 𝕄)
      ⊢ iprop((iprop(own (c : Thread nD τ) (hW.slot (sl 2 (t.val / 4))) X ∗ own (c : Thread nD τ) g1M g ∗ own (c : Thread nD τ) uM (rLo.overlay Y (k0_pay1 (lo X) g)))
            -∗ Q ⟨k0_pay2 (hi X), k0_pay3 g⟩)
        -∗ wp frame (wpE (defs₀ (F := F)) 𝒱₀ (c : Thread nD τ) bd) Set.univ
          (app (k0_part1 (F := F)) g1M hg1 g2M hg2 t (w9 t) (w12 t) (w13 t) (w12 t) (w13 t) (w9 t) (w17 t) (w18 t) (w19 t) hw h8) Q) := by
  unfold app
  rw [k0_part1_eq_skeleton]
  unfold k0_part1_skel
  simp only [Prog.lift, Prog.bind_op, Prog.bind_ret, Prog.pure_eq_ret]
  iintro ⟨H, G, U⟩ Hk
  iapply (ldLo 𝒱₀ c bd (M₀ := hW.slot (sl 2 (t.val / 4))) (row_eq _ (off23_eq t) _ _)) $$ H
  iintro H
  iapply (ldG 𝒱₀ c bd) $$ G
  iintro G
  iapply (ldLo 𝒱₀ c bd (M₀ := uM) rfl) $$ U
  iintro U
  iapply (stLo 𝒱₀ c bd (M₀ := uM) rfl) $$ U
  iintro U
  iapply (ldHi 𝒱₀ c bd (M₀ := hW.slot (sl 2 (t.val / 4))) (row_eq _ (off23_eq t) _ _)) $$ H
  iintro H
  iapply (ldG 𝒱₀ c bd) $$ G
  iintro G
  rw [wp_ret]; imodintro
  iapply Hk
  isplitl [H]; · iexact H
  isplitl [G]; · iexact G
  iexact U

/-- The norm of the lower half, and the first width block of the upper half. -/
theorem part2 (h8 : k0_cond8 (w19 t) = 1#1) (v199 v200 : BitVec 32) (Y : S512x2048.Idx → Elt F .bf16) (Z : S512x2048.Idx → Elt F .f32)
    (p q : S2048x2048.Idx → Elt F .bf16) (y z : FVec F S256x2048 .f32) (a : S256x2048.Idx → Elt F .bf16)
    {Q : _ → sProp (MT nD τ sig Unit (Elt F) ℕ (UU nD τ) ℕ)} :
    (iprop(own (c : Thread nD τ) uM (rLo.overlay Y a) ∗ own (c : Thread nD τ) (upW.slot (sl 2 t.val)) p ∗ own (c : Thread nD τ) (dnW.slot (sl 2 t.val)) q ∗ own (c : Thread nD τ) (oW.slot (sl 2 (t.val / 4))) Z) : sProp 𝕄)
      ⊢ iprop((iprop(own (c : Thread nD τ) uM (halves a (k0_pay4 y z)) ∗ own (c : Thread nD τ) (upW.slot (sl 2 t.val)) p ∗ own (c : Thread nD τ) (dnW.slot (sl 2 t.val)) q ∗ own (c : Thread nD τ) (oW.slot (sl 2 (t.val / 4))) (rLo.overlay Z (k0_pay5 a (w3 p) (w3 q))))
            -∗ Q (k0_pay6 (k0_pay4 y z) (w3 p) (w3 q)))
        -∗ wp frame (wpE (defs₀ (F := F)) 𝒱₀ (c : Thread nD τ) bd) Set.univ
          (app (k0_part2 (F := F)) g1M hg1 g2M hg2 t (w9 t) (w12 t) (w13 t) (w12 t) (w13 t) (w9 t) (w17 t) (w18 t) (w19 t) hw v199 v200 h8 y z) Q) := by
  unfold app
  rw [k0_part2_eq_skeleton]
  unfold k0_part2_skel
  simp only [Prog.lift, Prog.bind_op, Prog.bind_ret, Prog.pure_eq_ret]
  iintro ⟨U, A, B, O⟩ Hk
  iapply (ldHi 𝒱₀ c bd (M₀ := uM) rfl) $$ U
  iintro U
  iapply (stHi 𝒱₀ c bd (M₀ := uM) rfl) $$ U
  iintro U
  iapply (ldLo 𝒱₀ c bd (M₀ := uM) rfl) $$ U
  iintro U
  rw [lo_halves]
  iapply (ldW 𝒱₀ c bd (M₀ := upW.slot (sl 2 t.val)) rfl (off24_eq t)) $$ A
  iintro A
  iapply (ldW 𝒱₀ c bd (M₀ := dnW.slot (sl 2 t.val)) rfl (off25_eq t)) $$ B
  iintro B
  iapply (ldLo 𝒱₀ c bd (M₀ := oW.slot (sl 2 (t.val / 4))) (row_eq _ (off26_eq t) _ _)) $$ O
  iintro O
  iapply (stLo 𝒱₀ c bd (M₀ := oW.slot (sl 2 (t.val / 4))) (row_eq _ (off26_eq t) _ _)) $$ O
  iintro O
  iapply (ldHi 𝒱₀ c bd (M₀ := uM) rfl) $$ U
  iintro U
  rw [hi_halves]
  iapply (ldW 𝒱₀ c bd (M₀ := upW.slot (sl 2 t.val)) rfl (off27_eq t)) $$ A
  iintro A
  iapply (ldW 𝒱₀ c bd (M₀ := dnW.slot (sl 2 t.val)) rfl (off28_eq t)) $$ B
  iintro B
  rw [wp_ret]; imodintro
  iapply Hk
  isplitl [U]; · iexact U
  isplitl [A]; · iexact A
  isplitl [B]; · iexact B
  iexact O

/-- The last width block of the upper half, with its norm and the hidden state added. -/
theorem part3 (h10 : k0_cond10 (w19 t) = 1#1) (v199 v200 : BitVec 32) (Y : S512x2048.Idx → Elt F .bf16) (Z X : S512x2048.Idx → Elt F .f32)
    (p q : S2048x2048.Idx → Elt F .bf16) (g : S1x2048.Idx → Elt F .f32)
    {Q : _ → sProp (MT nD τ sig Unit (Elt F) ℕ (UU nD τ) ℕ)} :
    (iprop(own (c : Thread nD τ) uM Y ∗ own (c : Thread nD τ) (upW.slot (sl 2 t.val)) p ∗ own (c : Thread nD τ) (dnW.slot (sl 2 t.val)) q ∗ own (c : Thread nD τ) (oW.slot (sl 2 (t.val / 4))) Z ∗ own (c : Thread nD τ) (hW.slot (sl 2 (t.val / 4))) X ∗ own (c : Thread nD τ) g2M g) : sProp 𝕄)
      ⊢ iprop((iprop(own (c : Thread nD τ) uM Y ∗ own (c : Thread nD τ) (upW.slot (sl 2 t.val)) p ∗ own (c : Thread nD τ) (dnW.slot (sl 2 t.val)) q ∗ own (c : Thread nD τ) (oW.slot (sl 2 (t.val / 4))) Z ∗ own (c : Thread nD τ) (hW.slot (sl 2 (t.val / 4))) X ∗ own (c : Thread nD τ) g2M g)
            -∗ Q (k0_pay7 (lo Z) (lo Y) (w3 p) (w3 q) (lo X) g))
        -∗ wp frame (wpE (defs₀ (F := F)) 𝒱₀ (c : Thread nD τ) bd) Set.univ
          (app (k0_part3 (F := F)) g1M hg1 g2M hg2 t (w9 t) (w12 t) (w13 t) (w12 t) (w13 t) (w9 t) (w17 t) (w18 t) (w19 t) hw v199 v200 h10) Q) := by
  unfold app
  rw [k0_part3_eq_skeleton]
  unfold k0_part3_skel
  simp only [Prog.lift, Prog.bind_op, Prog.bind_ret, Prog.pure_eq_ret]
  iintro ⟨U, A, B, O, H, G⟩ Hk
  iapply (ldLo 𝒱₀ c bd (M₀ := oW.slot (sl 2 (t.val / 4))) (row_eq _ (off32_eq t) _ _)) $$ O
  iintro O
  iapply (ldLo 𝒱₀ c bd (M₀ := uM) rfl) $$ U
  iintro U
  iapply (ldW 𝒱₀ c bd (M₀ := upW.slot (sl 2 t.val)) rfl (off33_eq t)) $$ A
  iintro A
  iapply (ldW 𝒱₀ c bd (M₀ := dnW.slot (sl 2 t.val)) rfl (off34_eq t)) $$ B
  iintro B
  iapply (ldLo 𝒱₀ c bd (M₀ := hW.slot (sl 2 (t.val / 4))) (row_eq _ (off35_eq t) _ _)) $$ H
  iintro H
  iapply (ldG 𝒱₀ c bd) $$ G
  iintro G
  rw [wp_ret]; imodintro
  iapply Hk
  isplitl [U]; · iexact U
  isplitl [A]; · iexact A
  isplitl [B]; · iexact B
  isplitl [O]; · iexact O
  isplitl [H]; · iexact H
  iexact G

/-- The upper half stored, and what the lower half needs. -/
theorem part4 (h10 : k0_cond10 (w19 t) = 1#1) (v199 v200 : BitVec 32) (Y : S512x2048.Idx → Elt F .bf16) (Z X : S512x2048.Idx → Elt F .f32)
    (p q : S2048x2048.Idx → Elt F .bf16) (g : S1x2048.Idx → Elt F .f32) (y : FVec F S256x2048 .f32)
    {Q : _ → sProp (MT nD τ sig Unit (Elt F) ℕ (UU nD τ) ℕ)} :
    (iprop(own (c : Thread nD τ) uM Y ∗ own (c : Thread nD τ) (upW.slot (sl 2 t.val)) p ∗ own (c : Thread nD τ) (dnW.slot (sl 2 t.val)) q ∗ own (c : Thread nD τ) (oW.slot (sl 2 (t.val / 4))) Z ∗ own (c : Thread nD τ) (hW.slot (sl 2 (t.val / 4))) X ∗ own (c : Thread nD τ) g2M g) : sProp 𝕄)
      ⊢ iprop((iprop(own (c : Thread nD τ) uM Y ∗ own (c : Thread nD τ) (upW.slot (sl 2 t.val)) p ∗ own (c : Thread nD τ) (dnW.slot (sl 2 t.val)) q ∗ own (c : Thread nD τ) (oW.slot (sl 2 (t.val / 4))) (rLo.overlay Z y) ∗ own (c : Thread nD τ) (hW.slot (sl 2 (t.val / 4))) X ∗ own (c : Thread nD τ) g2M g)
            -∗ Q ⟨k0_pay8 (hi Z) (hi Y) (w3 p) (w3 q), k0_pay9 (hi X), k0_pay10 g, k0_pay11 (hi Z) (hi Y) (w3 p) (w3 q)⟩)
        -∗ wp frame (wpE (defs₀ (F := F)) 𝒱₀ (c : Thread nD τ) bd) Set.univ
          (app (k0_part4 (F := F)) g1M hg1 g2M hg2 t (w9 t) (w12 t) (w13 t) (w12 t) (w13 t) (w9 t) (w17 t) (w18 t) (w19 t) hw v199 v200 h10 y) Q) := by
  unfold app
  rw [k0_part4_eq_skeleton]
  unfold k0_part4_skel
  simp only [Prog.lift, Prog.bind_op, Prog.bind_ret, Prog.pure_eq_ret]
  iintro ⟨U, A, B, O, H, G⟩ Hk
  iapply (ldLo 𝒱₀ c bd (M₀ := oW.slot (sl 2 (t.val / 4))) (row_eq _ (off32_eq t) _ _)) $$ O
  iintro O
  iapply (stLo 𝒱₀ c bd (M₀ := oW.slot (sl 2 (t.val / 4))) (row_eq _ (off32_eq t) _ _)) $$ O
  iintro O
  iapply (ldHi 𝒱₀ c bd (M₀ := oW.slot (sl 2 (t.val / 4))) (row_eq _ (off32_eq t) _ _)) $$ O
  iintro O
  rw [hi_overlay]
  iapply (ldHi 𝒱₀ c bd (M₀ := uM) rfl) $$ U
  iintro U
  iapply (ldW 𝒱₀ c bd (M₀ := upW.slot (sl 2 t.val)) rfl (off33_eq t)) $$ A
  iintro A
  iapply (ldW 𝒱₀ c bd (M₀ := dnW.slot (sl 2 t.val)) rfl (off34_eq t)) $$ B
  iintro B
  iapply (ldHi 𝒱₀ c bd (M₀ := hW.slot (sl 2 (t.val / 4))) (row_eq _ (off35_eq t) _ _)) $$ H
  iintro H
  iapply (ldG 𝒱₀ c bd) $$ G
  iintro G
  rw [wp_ret]; imodintro
  iapply Hk
  isplitl [U]; · iexact U
  isplitl [A]; · iexact A
  isplitl [B]; · iexact B
  isplitl [O]; · iexact O
  isplitl [H]; · iexact H
  iexact G

end Cert.Mlp
-- ==== Proof.Pieces.lean ====
/- The second, third and fourth piece of a trip: the waits for what the trip works on, the arithmetic, the start of the
copy-out of a finished row block and the wait for the one before. -/
module

public import proofs.«01_k».proof.Proof.Compute

@[expose] public section

set_option maxRecDepth 16384

noncomputable section

namespace Cert.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (UU nD τ) ℕ

variable (c : Dev nD) (bd : Option 𝒱₀.V) (t : T)
variable (g1M : Memref sig .tc .vmem S1x2048 .f32) (hg1 : g1M.IsWhole) (g2M : Memref sig .tc .vmem S1x2048 .f32) (hg2 : g2M.IsWhole)
variable (hw : k0_chk3 t (w9 t) (w12 t) (w13 t) (w12 t) (w13 t) (w9 t) (w17 t) (w18 t) (w19 t))

/-- The wait for a weight's block. -/
theorem wtWait (w : Win sig 4 S2048x2048 .bf16) (X : Fin 4 → S2048x2048.Idx → Elt F .bf16)
    {α : Type} {Q : α → sProp (MT nD τ sig Unit (Elt F) ℕ (UU nD τ) ℕ)}
    {src : Memref sig .tc .hbm S2048x2048 .bf16} {dst : Memref sig .tc .vmem S2048x2048 .bf16} (hd : dst = w.slot (sl 2 t.val))
    {sem : DmaSem sig} (hg : sem = w.sem (sl 2 t.val)) {hsrc : src.view.WordExact} {hdst : dst.view.WordExact}
    {k : PUnit → Prog (TpuEff nD τ sig (Elt F) (Λ₀ F) .tc) α} :
    (iprop(wt1 c w X t.val ∗ waits (c : Thread nD τ) ()) : sProp 𝕄)
      ⊢ iprop((iprop(wt2 c w X t.val ∗ waits (c : Thread nD τ) ()) -∗ wp frame (wpE (defs₀ (F := F)) 𝒱₀ (c : Thread nD τ) bd) Set.univ (k ⟨⟩) Q)
        -∗ wp frame (wpE (defs₀ (F := F)) 𝒱₀ (c : Thread nD τ) bd) Set.univ (.op (.waitDma2 sem src dst hsrc hdst) k) Q) := by
  unfold wt1 wt2
  by_cases h : t.val < 127
  · rw [if_pos h, if_pos h]
    unfold two more
    have ne : bk 4 t.val ≠ bk 4 (t.val + 1) := bk_ne (by omega)
    rw [Finset.erase_right_comm]
    iintro ⟨⟨A, C, B⟩, W⟩ Hk
    iapply (fetched 𝒱₀ c bd w () X (b := bk 4 t.val) (n := t.val) (Finset.mem_erase.mpr ⟨ne, Finset.mem_univ _⟩) hd hg) $$ [A C W]
    · isplitl [A]; · iexact A
      isplitl [C]; · iexact C
      iexact W
    iintro ⟨A, C, W⟩
    iapply Hk
    isplitr [W]
    · isplitl [C]; · iexact C
      isplitl [A]; · iexact A
      iexact B
    iexact W
  · rw [if_neg h, if_neg h]
    unfold one last
    iintro ⟨⟨A, C, B⟩, W⟩ Hk
    iapply (fetched 𝒱₀ c bd w () X (b := bk 4 t.val) (n := t.val) (Finset.mem_univ _) hd hg) $$ [A C W]
    · isplitl [A]; · iexact A
      isplitl [C]; · iexact C
      iexact W
    iintro ⟨A, C, W⟩
    iapply Hk
    isplitr [W]
    · isplitl [C]; · iexact C
      isplitl [A]; · iexact A
      iexact B
    iexact W

/-- The wait for a row block, at the first of its trips. -/
theorem hWait (D : Data F) (h0 : t.val % 4 = 0)
    {α : Type} {Q : α → sProp (MT nD τ sig Unit (Elt F) ℕ (UU nD τ) ℕ)}
    {src : Memref sig .tc .hbm S512x2048 .f32} {dst : Memref sig .tc .vmem S512x2048 .f32} (hd : dst = hW.slot (sl 2 (t.val / 4)))
    {sem : DmaSem sig} (hg : sem = hW.sem (sl 2 (t.val / 4))) {hsrc : src.view.WordExact} {hdst : dst.view.WordExact}
    {k : PUnit → Prog (TpuEff nD τ sig (Elt F) (Λ₀ F) .tc) α} :
    (iprop(h1 D c t.val ∗ waits (c : Thread nD τ) ()) : sProp 𝕄)
      ⊢ iprop((iprop(hM D c (t.val / 4) ∗ waits (c : Thread nD τ) ()) -∗ wp frame (wpE (defs₀ (F := F)) 𝒱₀ (c : Thread nD τ) bd) Set.univ (k ⟨⟩) Q)
        -∗ wp frame (wpE (defs₀ (F := F)) 𝒱₀ (c : Thread nD τ) bd) Set.univ (.op (.waitDma2 sem src dst hsrc hdst) k) Q) := by
  unfold h1 hM
  have ht : t.val < 128 := t.isLt
  rw [if_pos h0]
  by_cases h : t.val < 124
  · rw [if_pos h, if_pos (by omega)]
    unfold two more
    have ne : bk 32 (t.val / 4) ≠ bk 32 (t.val / 4 + 1) := bk_ne (by omega)
    rw [Finset.erase_right_comm]
    iintro ⟨⟨A, C, B⟩, W⟩ Hk
    iapply (fetched 𝒱₀ c bd hW () D.H (b := bk 32 (t.val / 4)) (n := t.val / 4) (Finset.mem_erase.mpr ⟨ne, Finset.mem_univ _⟩) hd hg) $$ [A C W]
    · isplitl [A]; · iexact A
      isplitl [C]; · iexact C
      iexact W
    iintro ⟨A, C, W⟩
    iapply Hk
    isplitr [W]
    · isplitl [C]; · iexact C
      isplitl [A]; · iexact A
      iexact B
    iexact W
  · rw [if_neg h, if_neg (by omega)]
    unfold one last
    iintro ⟨⟨A, C, B⟩, W⟩ Hk
    iapply (fetched 𝒱₀ c bd hW () D.H (b := bk 32 (t.val / 4)) (n := t.val / 4) (Finset.mem_univ _) hd hg) $$ [A C W]
    · isplitl [A]; · iexact A
      isplitl [C]; · iexact C
      iexact W
    iintro ⟨A, C, W⟩
    iapply Hk
    isplitr [W]
    · isplitl [C]; · iexact C
      isplitl [A]; · iexact A
      iexact B
    iexact W

/-- The second piece: the waits, and at a row block's first trip its norm and first width block. -/
theorem part7 (D : Data F) (arg7 v105 v106 v115 v116 v125 : BitVec 32) (v103 v163 v154 : BitVec 1)
    {Q : _ → sProp (MT nD τ sig Unit (Elt F) ℕ (UU nD τ) ℕ)} :
    (iprop(h1 D c t.val ∗ wt1 c upW D.Up t.val ∗ wt1 c dnW D.Dn t.val ∗ uo0 D c t.val ∗ own (c : Thread nD τ) g1M D.g1 ∗ waits (c : Thread nD τ) ()) : sProp 𝕄)
      ⊢ iprop((iprop(hM D c (t.val / 4) ∗ wt2 c upW D.Up t.val ∗ wt2 c dnW D.Dn t.val ∗ uo2 D c t.val ∗ own (c : Thread nD τ) g1M D.g1 ∗ waits (c : Thread nD τ) ())
            -∗ Q ⟨Scalar.select (Scalar.andi v163 v154) (Scalar.addi (w12 t) 1#32) (w12 t), Scalar.remui (w13 t) 2#32, Scalar.remui (w13 t) 2#32,
              Scalar.remui (w9 t) 2#32⟩)
        -∗ wp frame (wpE (defs₀ (F := F)) 𝒱₀ (c : Thread nD τ) bd) Set.univ
          (app (k0_part7 (F := F)) g1M hg1 g2M hg2 t (w9 t) (w12 t) (w13 t) (w12 t) (w13 t) (w9 t) (w17 t) (w18 t) (w19 t) hw
            arg7 v103 v105 v106 v115 v116 v125 v163 v154) Q) := by
  unfold app
  rw [k0_part7_eq_skeleton]
  unfold k0_part7_skel
  have h5 := cond5_eq t
  have h6 := cond6_eq t
  by_cases h : t.val % 4 = 0
  · have h4 : k0_cond4 t (w18 t) (w19 t) = 1#1 := by rw [cond4_eq, if_pos h]
    have h8 : k0_cond8 (w19 t) = 1#1 := by rw [cond8_eq, if_pos h]
    simp only [dif_pos h4, dif_pos h5, dif_pos h6, dif_pos h8, ite_self, Prog.lift, Prog.bind_op, Prog.bind_ret, Prog.pure_eq_ret]
    unfold uo0 uo2
    rw [if_pos h, if_pos h]
    iintro ⟨H, A, B, ⟨U, P, O⟩, G, W⟩ Hk
    iapply (hWait c bd t D h (row_eq _ (off15_eq t) _ _) (sem_eq _ (off14_eq t) _)) $$ [H W]
    · isplitl [H]; · iexact H
      iexact W
    iintro ⟨H, W⟩
    iapply (wtWait c bd t upW D.Up (wt_eq _ (off18_eq t) _ _) (sem_eq _ (off17_eq t) _)) $$ [A W]
    · isplitl [A]; · iexact A
      iexact W
    iintro ⟨A, W⟩
    iapply (wtWait c bd t dnW D.Dn (wt_eq _ (off21_eq t) _ _) (sem_eq _ (off20_eq t) _)) $$ [B W]
    · isplitl [B]; · iexact B
      iexact W
    iintro ⟨B, W⟩
    ihave H := (hM_eq D c (t.val / 4)).1 $$ H
    ihave A := (wt2_eq c upW D.Up t.val).1 $$ A
    ihave B := (wt2_eq c dnW D.Dn t.val).1 $$ B
    unfold idle free
    icases H with ⟨H, HR⟩
    icases A with ⟨A, AR⟩
    icases B with ⟨B, BR⟩
    icases U with ⟨%Y, U⟩
    icases O with ⟨⟨%Z, O⟩, OC⟩
    rw [wp_bind]
    iapply (part1 c bd t g1M hg1 g2M hg2 hw h8 (D.H (bk 32 (t.val / 4))) Y D.g1) $$ [H G U]
    · isplitl [H]; · iexact H
      isplitl [G]; · iexact G
      iexact U
    iintro ⟨H, G, U⟩
    rw [wp_bind]
    iapply (part2 c bd t g1M hg1 g2M hg2 hw h8 _ _ Y Z (D.Up (bk 4 t.val)) (D.Dn (bk 4 t.val)) _ _ _) $$ [U A B O]
    · isplitl [U]; · iexact U
      isplitl [A]; · iexact A
      isplitl [B]; · iexact B
      iexact O
    iintro ⟨U, A, B, O⟩
    iapply (ldHi 𝒱₀ c bd (M₀ := oW.slot (sl 2 (t.val / 4))) (row_eq _ (off26_eq t) _ _)) $$ O
    iintro O
    iapply (stHi 𝒱₀ c bd (M₀ := oW.slot (sl 2 (t.val / 4))) (row_eq _ (off26_eq t) _ _)) $$ O
    iintro O
    rw [wp_ret]; imodintro
    iapply Hk
    have e : bk 4 t.val = 0 := bk_congr (N := 4) (b := 0) h
    isplitl [H HR]
    · iapply (hM_eq D c (t.val / 4)).2
      isplitl [H]; · iexact H
      iexact HR
    isplitl [A AR]
    · iapply (wt2_eq c upW D.Up t.val).2
      isplitl [A]; · iexact A
      iexact AR
    isplitl [B BR]
    · iapply (wt2_eq c dnW D.Dn t.val).2
      isplitl [B]; · iexact B
      iexact BR
    isplitr [G W]
    · isplitl [U]; · iexact U
      isplitl [P]; · iexact P
      unfold held Data.acc accV Data.H uV
      rw [lo_halves, hi_halves, e]
      isplitl [O]; · iexact O
      iexact OC
    isplitl [G]; · iexact G
    iexact W
  · have h4 : ¬ k0_cond4 t (w18 t) (w19 t) = 1#1 := by rw [cond4_eq, if_neg h]; decide
    have h8 : ¬ k0_cond8 (w19 t) = 1#1 := by rw [cond8_eq, if_neg h]; decide
    simp only [dif_neg h4, dif_pos h5, dif_pos h6, dif_neg h8, ite_self, Prog.lift, Prog.bind_op, Prog.bind_ret, Prog.pure_eq_ret]
    unfold uo0 uo2 h1
    rw [if_neg h, if_neg h, if_neg h]
    iintro ⟨H, A, B, O, G, W⟩ Hk
    iapply (wtWait c bd t upW D.Up (wt_eq _ (off18_eq t) _ _) (sem_eq _ (off17_eq t) _)) $$ [A W]
    · isplitl [A]; · iexact A
      iexact W
    iintro ⟨A, W⟩
    iapply (wtWait c bd t dnW D.Dn (wt_eq _ (off21_eq t) _ _) (sem_eq _ (off20_eq t) _)) $$ [B W]
    · isplitl [B]; · iexact B
      iexact W
    iintro ⟨B, W⟩
    rw [wp_ret]; imodintro
    iapply Hk
    isplitl [H]; · iexact H
    isplitl [A]; · iexact A
    isplitl [B]; · iexact B
    isplitl [O]; · iexact O
    isplitl [G]; · iexact G
    iexact W

set_option maxHeartbeats 2000000 in
/-- The third piece: the following width blocks, and at a row block's last trip the start of its copy-out. -/
theorem part8 (D : Data F) (v105 v106 v115 v125 v126 v199 v200 v201 : BitVec 32) (v103 v104 : BitVec 1)
    {Q : _ → sProp (MT nD τ sig Unit (Elt F) ℕ (UU nD τ) ℕ)} :
    (iprop(hM D c (t.val / 4) ∗ wt2 c upW D.Up t.val ∗ wt2 c dnW D.Dn t.val ∗ uo2 D c t.val ∗ own (c : Thread nD τ) g2M D.g2) : sProp 𝕄)
      ⊢ iprop((iprop(hM D c (t.val / 4) ∗ wt2 c upW D.Up t.val ∗ wt2 c dnW D.Dn t.val ∗ uo3 D c t.val ∗ own (c : Thread nD τ) g2M D.g2)
            -∗ Q (Scalar.select (Scalar.andi (Scalar.ori (Scalar.cmpi .ne v105 v125) v104) 1#1) (Scalar.addi (w9 t) 1#32) (w9 t)))
        -∗ wp frame (wpE (defs₀ (F := F)) 𝒱₀ (c : Thread nD τ) bd) Set.univ
          (app (k0_part8 (F := F)) g1M hg1 g2M hg2 t (w9 t) (w12 t) (w13 t) (w12 t) (w13 t) (w9 t) (w17 t) (w18 t) (w19 t) hw
            v103 v104 v105 v106 v115 v125 v126 v199 v200 v201) Q) := by
  unfold app
  rw [k0_part8_eq_skeleton]
  unfold k0_part8_skel
  by_cases h : t.val % 4 = 0
  · have h9 : ¬ k0_cond9 (w19 t) = 1#1 := by rw [cond9_eq, if_neg (by omega)]; decide
    have h10 : ¬ k0_cond10 (w19 t) = 1#1 := by rw [cond10_eq, if_neg (by omega)]; decide
    have h14 : ¬ k0_cond14 t (w18 t) (w19 t) = 1#1 := by rw [cond14_eq, if_neg (by omega)]; decide
    simp only [dif_neg h9, dif_neg h10, dif_neg h14, ite_self, Prog.lift, Prog.bind_op, Prog.bind_ret, Prog.pure_eq_ret]
    unfold uo2 uo3
    rw [if_pos h, if_pos h]
    iintro H Hk
    rw [wp_ret]; imodintro
    iapply Hk; iexact H
  · by_cases h3 : t.val % 4 = 3
    · have h9 : ¬ k0_cond9 (w19 t) = 1#1 := by rw [cond9_eq, if_neg (by omega)]; decide
      have h10 : k0_cond10 (w19 t) = 1#1 := by rw [cond10_eq, if_pos h3]
      have h14 : k0_cond14 t (w18 t) (w19 t) = 1#1 := by rw [cond14_eq, if_pos h3]
      simp only [dif_neg h9, dif_pos h10, dif_pos h14, ite_self, Prog.lift, Prog.bind_op, Prog.bind_ret, Prog.pure_eq_ret]
      unfold uo2 uo3
      rw [if_neg h, if_neg h, if_pos h3]
      iintro ⟨H, A, B, ⟨U, P, O⟩, G⟩ Hk
      ihave H := (hM_eq D c (t.val / 4)).1 $$ H
      ihave A := (wt2_eq c upW D.Up t.val).1 $$ A
      ihave B := (wt2_eq c dnW D.Dn t.val).1 $$ B
      unfold held
      icases H with ⟨H, HR⟩
      icases A with ⟨A, AR⟩
      icases B with ⟨B, BR⟩
      icases O with ⟨O, OC⟩
      rw [wp_bind]
      iapply (part3 c bd t g1M hg1 g2M hg2 hw h10 _ _ (D.u (bk 32 (t.val / 4))) (D.acc (bk 32 (t.val / 4)) (t.val % 4)) (D.H (bk 32 (t.val / 4)))
        (D.Up (bk 4 t.val)) (D.Dn (bk 4 t.val)) D.g2) $$ [U A B O H G]
      · isplitl [U]; · iexact U
        isplitl [A]; · iexact A
        isplitl [B]; · iexact B
        isplitl [O]; · iexact O
        isplitl [H]; · iexact H
        iexact G
      iintro ⟨U, A, B, O, H, G⟩
      rw [wp_bind]
      iapply (part4 c bd t g1M hg1 g2M hg2 hw h10 _ _ (D.u (bk 32 (t.val / 4))) (D.acc (bk 32 (t.val / 4)) (t.val % 4)) (D.H (bk 32 (t.val / 4)))
        (D.Up (bk 4 t.val)) (D.Dn (bk 4 t.val)) D.g2 _) $$ [U A B O H G]
      · isplitl [U]; · iexact U
        isplitl [A]; · iexact A
        isplitl [B]; · iexact B
        isplitl [O]; · iexact O
        isplitl [H]; · iexact H
        iexact G
      iintro ⟨U, A, B, O, H, G⟩
      iapply (ldHi 𝒱₀ c bd (M₀ := oW.slot (sl 2 (t.val / 4))) (row_eq _ (off32_eq t) _ _)) $$ O
      iintro O
      iapply (stHi 𝒱₀ c bd (M₀ := oW.slot (sl 2 (t.val / 4))) (row_eq _ (off32_eq t) _ _)) $$ O
      iintro O
      have e : bk 4 t.val = 3 := bk_congr (N := 4) (b := 3) h3
      have ht : t.val < 128 := t.isLt
      iapply (send 𝒱₀ c bd oW () D.out (n := t.val / 4) (by decide) (row_eq _ (off38_eq t) _ _)
        ((blk_eq (Memref.whole main_v9) (off37_eq t) (by omega) _ _).trans rfl) (sem_eq _ (off36_eq t) _)) $$ [P O OC]
      · isplitl [P]; · iexact P
        unfold held
        isplitl [O]
        · unfold Data.out outV
          rw [e, h3]
          iexact O
        iexact OC
      iintro ⟨P, O⟩
      rw [wp_ret]; imodintro
      iapply Hk
      isplitl [H HR]
      · iapply (hM_eq D c (t.val / 4)).2
        isplitl [H]; · iexact H
        iexact HR
      isplitl [A AR]
      · iapply (wt2_eq c upW D.Up t.val).2
        isplitl [A]; · iexact A
        iexact AR
      isplitl [B BR]
      · iapply (wt2_eq c dnW D.Dn t.val).2
        isplitl [B]; · iexact B
        iexact BR
      isplitr [G]
      · isplitl [U]; · iexact U
        isplitl [P]; · iexact P
        iexact O
      iexact G
    · have h9 : k0_cond9 (w19 t) = 1#1 := by rw [cond9_eq, if_pos (by omega)]
      have h10 : ¬ k0_cond10 (w19 t) = 1#1 := by rw [cond10_eq, if_neg (by omega)]; decide
      have h14 : ¬ k0_cond14 t (w18 t) (w19 t) = 1#1 := by rw [cond14_eq, if_neg (by omega)]; decide
      simp only [dif_pos h9, dif_neg h10, dif_neg h14, ite_self, Prog.lift, Prog.bind_op, Prog.bind_ret, Prog.pure_eq_ret]
      unfold uo2 uo3
      rw [if_neg h, if_neg h, if_neg h3]
      obtain ⟨k, hk⟩ : ∃ k, t.val % 4 = k + 1 := ⟨t.val % 4 - 1, by omega⟩
      have e : bk 4 t.val = bk 4 (k + 1) := bk_congr (by omega)
      rw [hk]
      iintro ⟨H, A, B, ⟨U, P, O⟩, G⟩ Hk
      ihave A := (wt2_eq c upW D.Up t.val).1 $$ A
      ihave B := (wt2_eq c dnW D.Dn t.val).1 $$ B
      unfold held
      icases A with ⟨A, AR⟩
      icases B with ⟨B, BR⟩
      icases O with ⟨O, OC⟩
      iapply (ldO 𝒱₀ c bd (M₀ := oW.slot (sl 2 (t.val / 4))) rfl (off29_eq t)) $$ O
      iintro O
      iapply (ldU 𝒱₀ c bd) $$ U
      iintro U
      iapply (ldW 𝒱₀ c bd (M₀ := upW.slot (sl 2 t.val)) rfl (off30_eq t)) $$ A
      iintro A
      iapply (ldW 𝒱₀ c bd (M₀ := dnW.slot (sl 2 t.val)) rfl (off31_eq t)) $$ B
      iintro B
      iapply (ldO 𝒱₀ c bd (M₀ := oW.slot (sl 2 (t.val / 4))) rfl (off29_eq t)) $$ O
      iintro O
      iapply (stO 𝒱₀ c bd (M₀ := oW.slot (sl 2 (t.val / 4))) rfl (off29_eq t)) $$ O
      iintro O
      rw [wp_ret]; imodintro
      iapply Hk
      isplitl [H]; · iexact H
      isplitl [A AR]
      · iapply (wt2_eq c upW D.Up t.val).2
        isplitl [A]; · iexact A
        iexact AR
      isplitl [B BR]
      · iapply (wt2_eq c dnW D.Dn t.val).2
        isplitl [B]; · iexact B
        iexact BR
      isplitr [G]
      · isplitl [U]; · iexact U
        isplitl [P]; · iexact P
        isplitl [O]
        · rw [e]
          iexact O
        iexact OC
      iexact G

/-- Where no copy-out is to be waited for, the next trip starts from what this one leaves. -/
theorem uo_next (D : Data F) (h : ¬ (t.val % 4 = 0 ∧ 0 < t.val)) : (uo3 D c t.val : sProp 𝕄) ⊢ uo0 D c (t.val + 1) := by
  unfold uo3 uo0
  by_cases h0 : t.val % 4 = 0
  · have e : t.val = 0 := by omega
    rw [if_pos h0, if_neg (by omega : ¬ (t.val + 1) % 4 = 0), e]
    unfold prev sofar
    rw [if_pos (by decide : (0 : ℕ) / 4 = 0)]
  · by_cases h3 : t.val % 4 = 3
    · rw [if_neg h0, if_pos h3, if_pos (by omega : (t.val + 1) % 4 = 0), show (t.val + 1) / 4 = t.val / 4 + 1 from by omega]
      iintro ⟨U, H⟩
      isplitl [U]; · iapply (free_intro (c : Thread nD τ)) $$ U
      iexact H
    · rw [if_neg h0, if_neg h3, if_neg (by omega : ¬ (t.val + 1) % 4 = 0), show (t.val + 1) / 4 = t.val / 4 from by omega,
        show (t.val + 1) % 4 = t.val % 4 + 1 from by omega]

set_option maxHeartbeats 2000000 in
/-- The fourth piece: at a row block's first trip, the wait for the copy-out of the one before. -/
theorem part9 (D : Data F) (v105 v106 v115 v116 v125 v126 : BitVec 32) (v103 v104 : BitVec 1)
    {Q : _ → sProp (MT nD τ sig Unit (Elt F) ℕ (UU nD τ) ℕ)} :
    (iprop(uo3 D c t.val ∗ waits (c : Thread nD τ) ()) : sProp 𝕄)
      ⊢ iprop((iprop(uo0 D c (t.val + 1) ∗ waits (c : Thread nD τ) ())
            -∗ Q ⟨Scalar.select (Scalar.andi (Scalar.andi (Scalar.cmpi .ne v105 v115) (Scalar.xori v103 1#1)) 1#1) (Scalar.addi (w17 t) 1#32) (w17 t),
              Scalar.select (Scalar.ori (Scalar.cmpi .ne v105 v125) v104) (Scalar.addi (w9 t) 1#32) (w9 t),
              Scalar.select (Scalar.ori (Scalar.cmpi .ne v106 v126) v104) (Scalar.addi (w13 t) 1#32) (w13 t),
              Scalar.select (Scalar.ori (Scalar.cmpi .ne v106 v126) v104) (Scalar.addi (w13 t) 1#32) (w13 t),
              Scalar.select (Scalar.cmpi .eq (Scalar.select 1#1 (Scalar.addi (w19 t) 1#32) (w19 t)) 4#32) 0#32
                (Scalar.select 1#1 (Scalar.addi (w19 t) 1#32) (w19 t)),
              Scalar.select (Scalar.cmpi .eq (Scalar.select 1#1 (Scalar.addi (w19 t) 1#32) (w19 t)) 4#32) (Scalar.addi (w18 t) 1#32) (w18 t), 32#32⟩)
        -∗ wp frame (wpE (defs₀ (F := F)) 𝒱₀ (c : Thread nD τ) bd) Set.univ
          (app (k0_part9 (F := F)) g1M hg1 g2M hg2 t (w9 t) (w12 t) (w13 t) (w12 t) (w13 t) (w9 t) (w17 t) (w18 t) (w19 t) hw
            v103 v104 v105 v106 v115 v116 v125 v126) Q) := by
  unfold app
  rw [k0_part9_eq_skeleton]
  unfold k0_part9_skel
  have ht : t.val < 128 := t.isLt
  by_cases h : t.val % 4 = 0 ∧ 0 < t.val
  · have h18 : k0_cond18 t (w18 t) (w19 t) = 1#1 := by rw [cond18_eq, if_pos h]
    simp only [dif_pos h18, ite_self, Prog.lift, Prog.bind_op, Prog.bind_ret, Prog.pure_eq_ret]
    unfold uo3 uo0
    rw [if_pos h.1, if_neg (by omega : ¬ (t.val + 1) % 4 = 0)]
    have e4 : (t.val + 1) / 4 = t.val / 4 := by omega
    have e1 : (t.val + 1) % 4 = 1 := by omega
    obtain ⟨n, hn⟩ : ∃ n, t.val / 4 = n + 1 := ⟨t.val / 4 - 1, by omega⟩
    have e9 : (t.val - 1) / 4 = n := by omega
    have o39 := off39_eq t
    have o40 := off40_eq t h
    have o41 := off41_eq t
    rw [e9] at o39 o40 o41
    rw [e4, e1, hn]
    iintro ⟨⟨U, P, O⟩, W⟩ Hk
    iapply (sent 𝒱₀ c bd oW () D.out (n := n) (by omega)
      ((blk_eq (Memref.whole main_v9) o40 (by omega) _ _).trans rfl) (sem_eq _ o39 _)) $$ [P W]
    · isplitl [P]; · iexact P
      iexact W
    iintro ⟨P, W⟩
    rw [wp_ret]; imodintro
    iapply Hk
    isplitr [W]
    · isplitl [U]; · iexact U
      isplitl [P]; · iexact P
      iexact O
    iexact W
  · have h18 : ¬ k0_cond18 t (w18 t) (w19 t) = 1#1 := by rw [cond18_eq, if_neg h]; decide
    simp only [dif_neg h18, ite_self, Prog.lift, Prog.bind_op, Prog.bind_ret, Prog.pure_eq_ret]
    iintro ⟨H, W⟩ Hk
    rw [wp_ret]; imodintro
    iapply Hk
    isplitr [W]
    · iapply (uo_next c t D h) $$ H
    iexact W

end Cert.Mlp
-- ==== Proof.Cursor.lean ====
module
public import proofs.«01_k».proof.Proof.Words

/-! The words of the search for the next row block to fetch. At a row block's first trip the search walks the grid forward
from the last block asked for, until it has met a new row block or the end of the grid; at the other trips it stops at once. -/

set_option maxRecDepth 16384

@[expose] public section

namespace Cert.Mlp

open Cert.KernelIdeal Cert.KernelIdeal.Gen
open Idealize.ShloMosaic

/-- How many steps the search takes at trip `t`. -/
def steps (t : ℕ) : ℕ := if t % 4 = 0 then (if t < 124 then 4 else 3) else 0
/-- Where it stops: the grid point, counted row block by row block. -/
def stop (t : ℕ) : ℕ := if t < 124 then 4 * (t / 4 + 1) else 127

def c20 (t n : ℕ) : BitVec 32 := BitVec.ofNat 32 ((stop t - n) / 4)
def c21 (t n : ℕ) : BitVec 32 := BitVec.ofNat 32 ((stop t - n) % 4)
def c22 (t n : ℕ) : BitVec 32 := BitVec.ofNat 32 ((stop t - n + 1) / 4)
def c23 (t n : ℕ) : BitVec 32 := BitVec.ofNat 32 ((stop t - n + 1) % 4)
def c24 (t n : ℕ) : BitVec 32 := if n = 0 then w8 (t + 1) else w8 t

/-- The search's test. -/
abbrev goes (t n : ℕ) : BitVec 1 :=
  Scalar.andi (Scalar.andi 1#1 (Scalar.cmpi .ult (c24 t n) (Scalar.addi (w9 t) 2#32)))
    (Scalar.andi (Scalar.andi 1#1 (Scalar.cmpi .slt (c22 t n) 32#32)) (Scalar.cmpi .slt (c23 t n) 4#32))

theorem goes_zero (t : T) : ¬ goes t 0 = 1#1 := by revert t; decide +kernel
theorem goes_succ (t : T) : ∀ n : Fin 4, n.val + 1 ≤ steps t → goes t (n.val + 1) = 1#1 := by revert t; decide +kernel
theorem chk1_at (t : T) : ∀ n : Fin 4, n.val + 1 ≤ steps t → k0_chk1 (c20 t (n.val + 1)) (c22 t (n.val + 1)) (c24 t (n.val + 1)) := by
  revert t; decide +kernel
theorem chk2_at (t : T) : ∀ n : Fin 4, n.val + 1 ≤ steps t → k0_chk2 (c20 t (n.val + 1)) (c22 t (n.val + 1)) := by
  revert t; decide +kernel
theorem cond1_at (t : T) : ∀ n : Fin 4, n.val + 1 ≤ steps t →
    k0_cond1 (c20 t (n.val + 1)) (c22 t (n.val + 1)) = if n.val = 0 ∧ t.val < 124 then 1#1 else 0#1 := by
  revert t; decide +kernel
theorem off5_at (t : T) : t.val % 4 = 0 → t.val < 124 → k0_off5 (c24 t 1) = ![(t.val / 4 + 1) % 2] := by revert t; decide +kernel
theorem off6_at (t : T) : t.val % 4 = 0 → t.val < 124 → k0_off6 (c24 t 1) = ![(t.val / 4 + 1) % 2, 0, 0] := by revert t; decide +kernel
theorem off7_at (t : T) : t.val % 4 = 0 → t.val < 124 → k0_off7 (c22 t 1) = ![512 * (t.val / 4 + 1), 0] := by revert t; decide +kernel

/-- A step's words. -/
theorem step22 (t : T) : ∀ n : Fin 4, n.val + 1 ≤ steps t → c22 t (n.val + 1) = c20 t n.val := by revert t; decide +kernel
theorem step23 (t : T) : ∀ n : Fin 4, n.val + 1 ≤ steps t → c23 t (n.val + 1) = c21 t n.val := by revert t; decide +kernel
theorem next23 (t : T) : ∀ n : Fin 4, n.val + 1 ≤ steps t →
    Scalar.select (Scalar.cmpi .eq (Scalar.select 1#1 (Scalar.addi (c23 t (n.val + 1)) 1#32) (c23 t (n.val + 1))) 4#32) 0#32
      (Scalar.select 1#1 (Scalar.addi (c23 t (n.val + 1)) 1#32) (c23 t (n.val + 1))) = c23 t n.val := by revert t; decide +kernel
theorem next22 (t : T) : ∀ n : Fin 4, n.val + 1 ≤ steps t →
    Scalar.select 0#1 0#32 (Scalar.select (Scalar.cmpi .eq (Scalar.select 1#1 (Scalar.addi (c23 t (n.val + 1)) 1#32) (c23 t (n.val + 1))) 4#32)
      (Scalar.addi (c22 t (n.val + 1)) 1#32) (c22 t (n.val + 1))) = c22 t n.val := by revert t; decide +kernel
theorem next24 (t : T) : ∀ n : Fin 4, n.val + 1 ≤ steps t →
    Scalar.addi (c24 t (n.val + 1)) (Scalar.extui (Scalar.cmpi .ne (Scalar.addi (c20 t (n.val + 1)) 0#32) (Scalar.addi (c22 t (n.val + 1)) 0#32)))
      = c24 t n.val := by revert t; decide +kernel

/-- The words it starts from. -/
theorem start20 (t : T) : w10 t = c20 t (steps t) := by revert t; decide +kernel
theorem start21 (t : T) : w11 t = c21 t (steps t) := by revert t; decide +kernel
theorem start23 (t : T) :
    Scalar.select (Scalar.cmpi .eq (Scalar.select 1#1 (Scalar.addi (w11 t) 1#32) (w11 t)) 4#32) 0#32
      (Scalar.select 1#1 (Scalar.addi (w11 t) 1#32) (w11 t)) = c23 t (steps t) := by revert t; decide +kernel
theorem start22 (t : T) :
    Scalar.select 0#1 0#32 (Scalar.select (Scalar.cmpi .eq (Scalar.select 1#1 (Scalar.addi (w11 t) 1#32) (w11 t)) 4#32)
      (Scalar.addi (w10 t) 1#32) (w10 t)) = c22 t (steps t) := by revert t; decide +kernel
theorem start24 (t : T) : w8 t = c24 t (steps t) := by revert t; decide +kernel
/-- And those it leaves. -/
theorem end20 (t : T) : c20 t 0 = w10 (t.val + 1) := by revert t; decide +kernel
theorem end24 (t : ℕ) : c24 t 0 = w8 (t + 1) := if_pos rfl
theorem end21 (t : T) : c21 t 0 = w11 (t.val + 1) := by revert t; decide +kernel

theorem steps_le (t : ℕ) : steps t ≤ 4 := by
  unfold steps
  split
  · split <;> omega
  · omega

/-! ### What a trip computes of its words -/

abbrev e7 (t : T) : BitVec 32 := Scf.iv 0#32 1#32 t
abbrev e103 (t : T) : BitVec 1 := Scalar.cmpi .eq (e7 t) 0#32
abbrev e104 (t : T) : BitVec 1 := Scalar.cmpi .eq (e7 t) 127#32
abbrev e105 (t : T) : BitVec 32 := Scalar.addi (w18 t) 0#32
abbrev e106 (t : T) : BitVec 32 := Scalar.addi (w19 t) 0#32
abbrev e108 (t : T) : BitVec 32 := Scalar.select 1#1 (Scalar.subi (w19 t) 1#32) (w19 t)
abbrev e109 (t : T) : BitVec 1 := Scalar.cmpi .eq (e108 t) 4294967295#32
abbrev e112 (t : T) : BitVec 32 := Scalar.select (e109 t) (Scalar.subi (w18 t) 1#32) (w18 t)
abbrev e115 (t : T) : BitVec 32 := Scalar.addi (Scalar.select (Scalar.cmpi .eq (e112 t) 4294967295#32) 31#32 (e112 t)) 0#32
abbrev e116 (t : T) : BitVec 32 := Scalar.addi (Scalar.select (e109 t) 3#32 (e108 t)) 0#32
abbrev e118 (t : T) : BitVec 32 := Scalar.select 1#1 (Scalar.addi (w19 t) 1#32) (w19 t)
abbrev e119 (t : T) : BitVec 1 := Scalar.cmpi .eq (e118 t) 4#32
abbrev e120 (t : T) : BitVec 32 := Scalar.select (e119 t) 0#32 (e118 t)
abbrev e122 (t : T) : BitVec 32 := Scalar.select (e119 t) (Scalar.addi (w18 t) 1#32) (w18 t)
abbrev e124 (t : T) : BitVec 32 := Scalar.select (Scalar.cmpi .eq (e122 t) 32#32) 0#32 (e122 t)
abbrev e125 (t : T) : BitVec 32 := Scalar.addi (e124 t) 0#32
abbrev e126 (t : T) : BitVec 32 := Scalar.addi (e120 t) 0#32
abbrev e128 (t : T) : BitVec 32 := Scalar.select 1#1 (Scalar.addi (e120 t) 1#32) (e120 t)
abbrev e129 (t : T) : BitVec 1 := Scalar.cmpi .eq (e128 t) 4#32
abbrev e130 (t : T) : BitVec 32 := Scalar.select (e129 t) 0#32 (e128 t)
abbrev e132 (t : T) : BitVec 32 := Scalar.select (e129 t) (Scalar.addi (e124 t) 1#32) (e124 t)
/-- A weight's block is fetched. -/
abbrev e153 (t : T) : BitVec 1 := Scalar.andi (Scalar.cmpi .ne (e106 t) (e126 t)) (Scalar.xori (Scalar.cmpi .sge (e7 t) 127#32) 1#1)
/-- The row block's last trip. -/
abbrev eL (t : T) : BitVec 1 := Scalar.ori (Scalar.cmpi .ne (e105 t) (e125 t)) (e104 t)
/-- A weight's block is done with. -/
abbrev eN (t : T) : BitVec 1 := Scalar.ori (Scalar.cmpi .ne (e106 t) (e126 t)) (e104 t)
/-- The copy-out of the row block before is waited for. -/
abbrev eP (t : T) : BitVec 1 := Scalar.andi (Scalar.cmpi .ne (e105 t) (e115 t)) (Scalar.xori (e103 t) 1#1)

theorem next12 (t : T) : Scalar.select (Scalar.andi (e153 t) 1#1) (Scalar.addi (w12 t) 1#32) (w12 t) = w12 (t.val + 1) := by
  revert t; decide +kernel
theorem next9 (t : T) : Scalar.select (eL t) (Scalar.addi (w9 t) 1#32) (w9 t) = w9 (t.val + 1) := by revert t; decide +kernel
theorem next16 (t : T) : Scalar.select (Scalar.andi (eL t) 1#1) (Scalar.addi (w9 t) 1#32) (w9 t) = w9 (t.val + 1) := by
  revert t; decide +kernel
theorem next13 (t : T) : Scalar.select (eN t) (Scalar.addi (w13 t) 1#32) (w13 t) = w13 (t.val + 1) := by revert t; decide +kernel
theorem next17 (t : T) : Scalar.select (Scalar.andi (eP t) 1#1) (Scalar.addi (w17 t) 1#32) (w17 t) = w17 (t.val + 1) := by
  revert t; decide +kernel
theorem next18 (t : T) : Scalar.select (Scalar.cmpi .eq (Scalar.select (e119 t) (Scalar.addi (w18 t) 1#32) (w18 t)) 32#32) 0#32
    (Scalar.select (e119 t) (Scalar.addi (w18 t) 1#32) (w18 t)) = w18 (t.val + 1) := by revert t; decide +kernel
theorem next19 (t : T) : Scalar.select (e119 t) 0#32 (e118 t) = w19 (t.val + 1) := by revert t; decide +kernel

end Cert.Mlp
-- ==== Proof.Trip.lean ====
/- A trip of the pipeline's loop: the search for the next row block to fetch, the starts of the fetches, and the pieces
put together. -/
module

public import proofs.«01_k».proof.Proof.Pieces
public import proofs.«01_k».proof.Proof.Cursor

@[expose] public section

set_option maxRecDepth 16384

noncomputable section

namespace Cert.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (UU nD τ) ℕ

variable (c : Dev nD) (bd : Option 𝒱₀.V) (t : T)
variable (g1M : Memref sig .tc .vmem S1x2048 .f32) (hg1 : g1M.IsWhole) (g2M : Memref sig .tc .vmem S1x2048 .f32) (hg2 : g2M.IsWhole)
variable (hw : k0_chk3 t (w9 t) (w12 t) (w13 t) (w12 t) (w13 t) (w9 t) (w17 t) (w18 t) (w19 t))

/-- What the search holds with `n` steps to go. -/
def look (D : Data F) (c : Dev nD) (t n : ℕ) : sProp 𝕄 := if n = 0 then h1 D c t else h0 D c t

theorem look_start (D : Data F) : (h0 D c t.val : sProp 𝕄) ⊢ look D c t.val (steps t.val) := by
  unfold look steps
  by_cases h : t.val % 4 = 0
  · rw [if_pos h]
    by_cases h' : t.val < 124
    · rw [if_pos h', if_neg (by decide)]
    · rw [if_neg h', if_neg (by decide)]
  · rw [if_neg h, if_pos rfl]
    unfold h0 h1
    rw [if_neg h, if_neg h]

/-- A step that fetches nothing. -/
theorem look_keep (D : Data F) (n : ℕ) (hn : n + 1 ≤ steps t.val) (h : ¬ (n = 0 ∧ t.val < 124)) :
    (look D c t.val (n + 1) : sProp 𝕄) ⊢ look D c t.val n := by
  unfold look
  rw [if_neg (Nat.succ_ne_zero n)]
  by_cases e : n = 0
  · have h4 : t.val % 4 = 0 := by
      by_contra h; unfold steps at hn; rw [if_neg h] at hn; omega
    have ht : t.val < 128 := t.isLt
    rw [if_pos e]
    unfold h0 h1
    rw [if_pos h4, if_pos h4, if_pos ht, if_neg (fun h' => h ⟨e, h'⟩)]
  · rw [if_neg e]

/-- What the search with `n` steps to go answers. -/
abbrev lookS (D : Data F) (c : Dev nD) (t n : ℕ) : sWPT 𝕄 (BitVec 32 × BitVec 32 × BitVec 32 × BitVec 32 × BitVec 32) :=
  sWPT.consume (look D c t n) >>= fun _ => sWPT.produce (h1 D c t) >>= fun _ => pure (c20 t 0, c21 t 0, c22 t 0, c23 t 0, c24 t 0)

theorem lookS_apply (D : Data F) (c : Dev nD) (t n : ℕ) (K) : (lookS D c t n K : sProp 𝕄)
    = iprop(look D c t n ∗ (h1 D c t -∗ K (c20 t 0, c21 t 0, c22 t 0, c23 t 0, c24 t 0))) := by
  simp only [lookS, spec_simps]

set_option maxHeartbeats 2000000 in
/-- The search's body meets its specification. -/
theorem look_body (D : Data F) : ∀ n, n ≤ steps t.val → (lookS D c t.val n)
    ≤ wp frame (wpE (defs₀ (F := F)) 𝒱₀ (c : Thread nD τ) (some n)) Set.univ
      (defs₀ (F := F) .tc 1 ⟨t, Scalar.addi (w9 t) 2#32, cc0_scoped1, Memref.whole cc0_scoped0, Memref.isWhole_whole _, Memref.whole main_v0, Memref.isWhole_whole _,
        c20 t n, c21 t n, c22 t n, c23 t n, c24 t n⟩) := by
  intro n
  induction n with
  | zero =>
    intro _ K
    show _ ⊢ wp frame (wpE (defs₀ (F := F)) 𝒱₀ (c : Thread nD τ) (some 0)) Set.univ
      (cc0_while1 t (Scalar.addi (w9 t) 2#32) cc0_scoped1 (Memref.whole cc0_scoped0) (Memref.isWhole_whole _) (Memref.whole main_v0) (Memref.isWhole_whole _)
        (c20 t 0) (c21 t 0) (c22 t 0) (c23 t 0) (c24 t 0)) K
    rw [lookS_apply, cc0_while1_eq_skeleton]
    unfold cc0_while1_skel
    have hg := goes_zero t
    simp only [if_neg hg, Prog.pure_eq_ret]
    unfold look
    rw [if_pos rfl]
    iintro ⟨H, Hk⟩
    rw [wp_ret]; imodintro
    iapply Hk; iexact H
  | succ n ih =>
    intro hn K
    have hn4 : n < 4 := by have := steps_le t.val; omega
    have hg := goes_succ t ⟨n, hn4⟩ hn
    have k1 := chk1_at t ⟨n, hn4⟩ hn
    have k2 := chk2_at t ⟨n, hn4⟩ hn
    have hc := cond1_at t ⟨n, hn4⟩ hn
    have s22 := step22 t ⟨n, hn4⟩ hn
    have s23 := step23 t ⟨n, hn4⟩ hn
    have n22 := next22 t ⟨n, hn4⟩ hn
    have n23 := next23 t ⟨n, hn4⟩ hn
    have n24 := next24 t ⟨n, hn4⟩ hn
    dsimp only at hg k1 k2 hc s22 s23 n22 n23 n24
    show _ ⊢ wp frame (wpE (defs₀ (F := F)) 𝒱₀ (c : Thread nD τ) (some (n + 1))) Set.univ
      (cc0_while1 t (Scalar.addi (w9 t) 2#32) cc0_scoped1 (Memref.whole cc0_scoped0) (Memref.isWhole_whole _) (Memref.whole main_v0) (Memref.isWhole_whole _)
        (c20 t (n + 1)) (c21 t (n + 1)) (c22 t (n + 1)) (c23 t (n + 1)) (c24 t (n + 1))) K
    rw [lookS_apply, cc0_while1_eq_skeleton]
    unfold cc0_while1_skel
    by_cases h0 : n = 0 ∧ t.val < 124
    · have h1' : k0_cond1 (c20 t (n + 1)) (c22 t (n + 1)) = 1#1 := by rw [hc, if_pos h0]
      obtain ⟨rfl, ht⟩ := h0
      have h4 : t.val % 4 = 0 := by
        by_contra h; unfold steps at hn; rw [if_neg h] at hn; omega
      simp only [if_pos hg, dif_pos h1', Prog.lift, Prog.bind_op, Prog.bind_ret, Prog.pure_eq_ret]
      rw [wp_assume_of 𝒱₀ (c : Thread nD τ) (some 1) Set.univ k2, wp_assume_of 𝒱₀ (c : Thread nD τ) (some 1) Set.univ k1]
      unfold look
      rw [if_neg (by decide : ¬ (0 + 1 = 0))]
      unfold h0
      rw [if_pos h4, if_pos (by omega : t.val < 128)]
      unfold one
      iintro ⟨⟨A, C, B⟩, Hk⟩
      have ne : bk 32 (t.val / 4 + 1) ≠ bk 32 (t.val / 4) := bk_ne (by omega)
      iapply (fetch 𝒱₀ c (some 1) hW () D.H (b := bk 32 (t.val / 4 + 1)) (n := t.val / 4 + 1) (Finset.mem_erase.mpr ⟨ne, Finset.mem_univ _⟩) (by decide)
        (blk_eq (Memref.whole main_v0) (off7_at t h4 ht) (by omega) _ _) (row_eq _ (off6_at t h4 ht) _ _) (sem_eq _ (off5_at t h4 ht) _)) $$ [A B]
      · isplitl [A]; · iexact A
        iexact B
      iintro ⟨A, B⟩
      rw [n22, n23, n24, s22, s23]
      iapply (wp_call_spec 𝒱₀ (c : Thread nD τ) (some 1) Set.univ (lookS D c t.val 0) 0
        (fun u hu => by cases hu; exact Nat.lt_succ_self 0) (ih (Nat.zero_le _)))
      rw [lookS_apply]
      isplitl [A B C]
      · unfold look h1
        rw [if_pos rfl, if_pos h4, if_pos ht]
        unfold two
        isplitl [A]; · iexact A
        isplitl [C]; · iexact C
        iexact B
      iintro H
      rw [wp_ret]; imodintro
      iapply Hk; iexact H
    · have h1' : ¬ k0_cond1 (c20 t (n + 1)) (c22 t (n + 1)) = 1#1 := by rw [hc, if_neg h0]; decide
      simp only [if_pos hg, dif_neg h1', Prog.lift, Prog.bind_op, Prog.bind_ret, Prog.pure_eq_ret]
      rw [wp_assume_of 𝒱₀ (c : Thread nD τ) (some (n + 1)) Set.univ k2, wp_assume_of 𝒱₀ (c : Thread nD τ) (some (n + 1)) Set.univ k1,
        n22, n23, n24, s22, s23]
      iintro ⟨H, Hk⟩
      iapply (wp_call_spec 𝒱₀ (c : Thread nD τ) (some (n + 1)) Set.univ (lookS D c t.val n) n
        (fun u hu => by cases hu; exact Nat.lt_succ_self n) (ih (Nat.le_of_succ_le hn)))
      rw [lookS_apply]
      isplitl [H]
      · iapply (look_keep c t D n hn h0) $$ H
      iintro H
      rw [wp_ret]; imodintro
      iapply Hk; iexact H

/-- The trip's own words. -/
theorem part5 {Q : _ → sProp (MT nD τ sig Unit (Elt F) ℕ (UU nD τ) ℕ)} :
    (Q ⟨hw, e7 t, e103 t, e104 t, e105 t, e106 t, e115 t, e116 t, e125 t, e126 t, e130 t, e132 t, 32#32⟩ : sProp 𝕄)
      ⊢ wp frame (wpE (defs₀ (F := F)) 𝒱₀ (c : Thread nD τ) bd) Set.univ
          (app (k0_part5 (F := F)) g1M hg1 g2M hg2 0#32 1#32 t (w9 t) (w12 t) (w13 t) (w12 t) (w13 t) (w9 t) (w17 t) (w18 t) (w19 t)) Q := by
  unfold app
  rw [k0_part5_eq_skeleton]
  unfold k0_part5_skel
  simp only [Prog.lift, Prog.bind_op, Prog.bind_ret, Prog.pure_eq_ret]
  rw [wp_assume_of 𝒱₀ (c : Thread nD τ) bd Set.univ hw, wp_ret]
  iintro H
  imodintro
  iexact H

/-- The start of a weight's fetch. -/
theorem wtFetch (w : Win sig 4 S2048x2048 .bf16) (X : Fin 4 → S2048x2048.Idx → Elt F .bf16) (h : t.val < 127)
    {α : Type} {Q : α → sProp (MT nD τ sig Unit (Elt F) ℕ (UU nD τ) ℕ)}
    {src : Memref sig .tc .hbm S2048x2048 .bf16} (hs : src = w.blk (bk 4 (t.val + 1)))
    {dst : Memref sig .tc .vmem S2048x2048 .bf16} (hd : dst = w.slot (sl 2 (t.val + 1)))
    {sem : DmaSem sig} (hg : sem = w.sem (sl 2 (t.val + 1))) {hsrc : src.view.WordExact} {hdst : dst.view.WordExact}
    {hsem : DmaTarget.Typed (nD := nD) .hbm (.dma sem) (.here (p := (c : Thread nD τ).2) dst)}
    {k : PUnit → Prog (TpuEff nD τ sig (Elt F) (Λ₀ F) .tc) α} :
    (wt0 c w X t.val : sProp 𝕄)
      ⊢ iprop((wt1 c w X t.val -∗ wp frame (wpE (defs₀ (F := F)) 𝒱₀ (c : Thread nD τ) bd) Set.univ (k ⟨⟩) Q)
        -∗ wp frame (wpE (defs₀ (F := F)) 𝒱₀ (c : Thread nD τ) bd) Set.univ (.op (.enqueueDma src (.here dst) (.dma sem) hsrc hdst hsem) k) Q) := by
  unfold wt0 wt1
  rw [if_pos (by omega : t.val < 128), if_pos h]
  unfold one two
  have ne : bk 4 (t.val + 1) ≠ bk 4 t.val := bk_ne (by omega)
  iintro ⟨A, C, B⟩ Hk
  iapply (fetch 𝒱₀ c bd w () X (b := bk 4 (t.val + 1)) (n := t.val + 1) (Finset.mem_erase.mpr ⟨ne, Finset.mem_univ _⟩) (by decide) hs hd hg) $$ [A B]
  · isplitl [A]; · iexact A
    iexact B
  iintro ⟨A, B⟩
  iapply Hk
  isplitl [A]; · iexact A
  isplitl [C]; · iexact C
  iexact B

/-- No fetch at the grid's last point. -/
theorem wt_keep (w : Win sig 4 S2048x2048 .bf16) (X : Fin 4 → S2048x2048.Idx → Elt F .bf16) (h : ¬ t.val < 127) :
    (wt0 c w X t.val : sProp 𝕄) ⊢ wt1 c w X t.val := by
  have ht : t.val < 128 := t.isLt
  unfold wt0 wt1
  rw [if_pos ht, if_neg h]

set_option maxHeartbeats 2000000 in
/-- The first piece: the starts of the fetches. -/
theorem part6 (D : Data F) (a7 v105 v106 v125 v126 v130 v132 k32 : BitVec 32)
    {Q : _ → sProp (MT nD τ sig Unit (Elt F) ℕ (UU nD τ) ℕ)} :
    (iprop(h0 D c t.val ∗ wt0 c upW D.Up t.val ∗ wt0 c dnW D.Dn t.val) : sProp 𝕄)
      ⊢ iprop((iprop(h1 D c t.val ∗ wt1 c upW D.Up t.val ∗ wt1 c dnW D.Dn t.val)
            -∗ Q ⟨c20 t 0, c21 t 0, c24 t 0,
              Scalar.select (Scalar.andi (Scalar.andi (Scalar.cmpi .ne v106 v126) (Scalar.xori (Scalar.cmpi .sge a7 127#32) 1#1)) 1#1)
                (Scalar.addi (w12 t) 1#32) (w12 t),
              Scalar.andi (Scalar.cmpi .ne v106 v126) (Scalar.xori (Scalar.cmpi .sge a7 127#32) 1#1), 1#1⟩)
        -∗ wp frame (wpE (defs₀ (F := F)) 𝒱₀ (c : Thread nD τ) none) Set.univ
          (app (k0_part6 (F := F)) g1M hg1 g2M hg2 t (w8 t) (w9 t) (w10 t) (w11 t) (w12 t) (w13 t) (w12 t) (w13 t) (w9 t) (w17 t) (w18 t) (w19 t) hw
            a7 v105 v106 v125 v126 v130 v132 k32) Q) := by
  unfold app
  rw [k0_part6_eq_skeleton]
  unfold k0_part6_skel
  have ht : t.val < 128 := t.isLt
  have s22 := start22 t
  have s23 := start23 t
  by_cases h : t.val < 127
  · have h2 : k0_cond2 t (w19 t) = 1#1 := by rw [cond2_eq, if_pos h]
    have h3 : k0_cond3 t (w19 t) = 1#1 := by rw [cond3_eq, if_pos h]
    have o8 := off8_eq t
    have o9 := off9_eq t
    have o11 := off11_eq t
    have o12 := off12_eq t
    rw [Nat.min_eq_left (by omega : t.val + 1 ≤ 128)] at o8 o9 o11 o12
    simp only [dif_pos h2, dif_pos h3, Prog.lift, Prog.bind_op, Prog.bind_ret, Prog.pure_eq_ret]
    iintro ⟨H, A, B⟩ Hk
    rw [s22, s23, start20 t, start21 t, start24 t]
    iapply (wp_call_spec 𝒱₀ (c : Thread nD τ) none Set.univ (lookS D c t.val (steps t.val)) (steps t.val)
        (fun u hu => nomatch hu) (look_body c t D _ le_rfl))
    rw [lookS_apply]
    isplitl [H]
    · iapply (look_start c t D) $$ H
    iintro H
    iapply (wtFetch c none t upW D.Up h (up_eq _ (off10_eq t) _ _) (wt_eq _ o9 _ _) (sem_eq _ o8 _)) $$ A
    iintro A
    iapply (wtFetch c none t dnW D.Dn h (dn_eq _ (off13_eq t) _ _) (wt_eq _ o12 _ _) (sem_eq _ o11 _)) $$ B
    iintro B
    rw [wp_ret]; imodintro
    iapply Hk
    isplitl [H]; · iexact H
    isplitl [A]; · iexact A
    iexact B
  · have h2 : ¬ k0_cond2 t (w19 t) = 1#1 := by rw [cond2_eq, if_neg h]; decide
    have h3 : ¬ k0_cond3 t (w19 t) = 1#1 := by rw [cond3_eq, if_neg h]; decide
    simp only [dif_neg h2, dif_neg h3, Prog.lift, Prog.bind_op, Prog.bind_ret, Prog.pure_eq_ret]
    iintro ⟨H, A, B⟩ Hk
    rw [s22, s23, start20 t, start21 t, start24 t]
    iapply (wp_call_spec 𝒱₀ (c : Thread nD τ) none Set.univ (lookS D c t.val (steps t.val)) (steps t.val)
        (fun u hu => nomatch hu) (look_body c t D _ le_rfl))
    rw [lookS_apply]
    isplitl [H]
    · iapply (look_start c t D) $$ H
    iintro H
    rw [wp_ret]; imodintro
    iapply Hk
    isplitl [H]; · iexact H
    isplitl [A]; · iapply (wt_keep c t upW D.Up h) $$ A
    iapply (wt_keep c t dnW D.Dn h) $$ B

/-- What the loop holds before trip `t`. -/
def inv (D : Data F) (c : Dev nD) (g1M : Memref sig .tc .vmem S1x2048 .f32) (g2M : Memref sig .tc .vmem S1x2048 .f32) (t : ℕ) : sProp 𝕄 :=
  iprop(h0 D c t ∗ wt0 c upW D.Up t ∗ wt0 c dnW D.Dn t ∗ uo0 D c t ∗ own (c : Thread nD τ) g1M D.g1 ∗ own (c : Thread nD τ) g2M D.g2
    ∗ waits (c : Thread nD τ) ())

set_option maxHeartbeats 4000000 in
/-- One trip. -/
theorem trip (D : Data F) (x1 x2 x3 y1 y2 y3 y4 y5 y6 y7 y8 : BitVec 32) {Q : _ → sProp (MT nD τ sig Unit (Elt F) ℕ (UU nD τ) ℕ)} :
    (inv D c g1M g2M t.val : sProp 𝕄)
      ⊢ iprop((inv D c g1M g2M (t.val + 1) -∗ Q (W (t.val + 1)))
        -∗ wp frame (wpE (defs₀ (F := F)) 𝒱₀ (c : Thread nD τ) none) Set.univ
          (app (k0_t1_body (F := F)) g1M hg1 g2M hg2 x1 x2 x3 y1 y2 y3 y4 y5 y6 y7 y8 t (W t)) Q) := by
  have hw := chk3 t
  have ht : t.val < 128 := t.isLt
  unfold app k0_t1_body W inv
  dsimp only
  iintro ⟨H, A, B, O, G1, G2, Wt⟩ Hk
  rw [wp_bind]
  iapply (part5 c none t g1M hg1 g2M hg2 hw)
  rw [wp_bind]
  iapply (part6 c t g1M hg1 g2M hg2 hw D) $$ [H A B]
  · isplitl [H]; · iexact H
    isplitl [A]; · iexact A
    iexact B
  iintro ⟨H, A, B⟩
  rw [wp_bind]
  iapply (part7 c none t g1M hg1 g2M hg2 hw D) $$ [H A B O G1 Wt]
  · isplitl [H]; · iexact H
    isplitl [A]; · iexact A
    isplitl [B]; · iexact B
    isplitl [O]; · iexact O
    isplitl [G1]; · iexact G1
    iexact Wt
  iintro ⟨H, A, B, O, G1, Wt⟩
  rw [wp_bind]
  iapply (part8 c none t g1M hg1 g2M hg2 hw D) $$ [H A B O G2]
  · isplitl [H]; · iexact H
    isplitl [A]; · iexact A
    isplitl [B]; · iexact B
    isplitl [O]; · iexact O
    iexact G2
  iintro ⟨H, A, B, O, G2⟩
  rw [wp_bind]
  iapply (part9 c none t g1M hg1 g2M hg2 hw D) $$ [O Wt]
  · isplitl [O]; · iexact O
    iexact Wt
  iintro ⟨O, Wt⟩
  rw [Prog.pure_eq_ret, wp_ret]; imodintro
  dsimp only
  rw [end24 t, next9 t, next12 t, next13 t, next16 t, next17 t, next18 t, next19 t, end20 t, end21 t]
  iapply Hk
  isplitl [H]; · iapply (h_next D c t.val ht) $$ H
  isplitl [A]; · iapply (wt_next c upW D.Up t.val ht) $$ A
  isplitl [B]; · iapply (wt_next c dnW D.Dn t.val ht) $$ B
  isplitl [O]; · iexact O
  isplitl [G1]; · iexact G1
  isplitl [G2]; · iexact G2
  iexact Wt

end Cert.Mlp
-- ==== Proof.Body.lean ====
/- The kernel: the first fetches, the pipeline's loop, and the wait for the last copy-out. -/
module

public import proofs.«01_k».proof.Proof.Trip
public import Idealize.ShloMosaic.Lib.Scf

@[expose] public section

set_option maxRecDepth 16384

noncomputable section

namespace Cert.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (UU nD τ) ℕ

variable (c : Dev nD)
variable (g1M : Memref sig .tc .vmem S1x2048 .f32) (hg1 : g1M.IsWhole) (g2M : Memref sig .tc .vmem S1x2048 .f32) (hg2 : g2M.IsWhole)

theorem start_words : (Scalar.addi 0#32 1#32, (0#32 : BitVec 32), (0#32 : BitVec 32), (0#32 : BitVec 32), Scalar.addi 0#32 1#32, (0#32 : BitVec 32),
    Scalar.addi 0#32 1#32, (0#32 : BitVec 32), (0#32 : BitVec 32), (0#32 : BitVec 32), (0#32 : BitVec 32), (0#32 : BitVec 32)) = W 0 := by
  simp only [W, Prod.mk.injEq]
  decide +kernel
theorem off1_eq : k0_off1 = ![0 % 2] := by decide +kernel
theorem off2_eq : k0_off2 = ![0 % 2, 0, 0] := by decide +kernel
theorem off3_eq : k0_off3 = ![512 * 0, 0] := by decide +kernel
theorem off4_eq : k0_off4 = ![0 % 2, 0, 0] := by decide +kernel
theorem trips_eq : k0_t1_loop.trips = 128 := by decide +kernel

/-- What the kernel starts from. -/
def pre (D : Data F) (c : Dev nD) (g1M : Memref sig .tc .vmem S1x2048 .f32) (g2M : Memref sig .tc .vmem S1x2048 .f32) : sProp 𝕄 :=
  iprop(rest hW c D.H 0 ∗ rest upW c D.Up 0 ∗ rest dnW c D.Dn 0 ∗ free (c : Thread nD τ) uM
    ∗ outs oW c D.out 0 Finset.univ ∗ idle oW c 0 ∗ idle oW c 1
    ∗ own (c : Thread nD τ) g1M D.g1 ∗ own (c : Thread nD τ) g2M D.g2 ∗ waits (c : Thread nD τ) ())
/-- What it leaves. -/
def post (D : Data F) (c : Dev nD) (g1M : Memref sig .tc .vmem S1x2048 .f32) (g2M : Memref sig .tc .vmem S1x2048 .f32) : sProp 𝕄 :=
  iprop(rest hW c D.H 32 ∗ rest upW c D.Up 128 ∗ rest dnW c D.Dn 128 ∗ free (c : Thread nD τ) uM
    ∗ outs oW c D.out 32 Finset.univ ∗ idle oW c 32 ∗ idle oW c 33
    ∗ own (c : Thread nD τ) g1M D.g1 ∗ own (c : Thread nD τ) g2M D.g2 ∗ waits (c : Thread nD τ) ())

theorem inv_zero (D : Data F) :
    (inv D c g1M g2M 0 : sProp 𝕄) = iprop(one hW c () D.H 0 (bk 32 0) ∗ one upW c () D.Up 0 (bk 4 0) ∗ one dnW c () D.Dn 0 (bk 4 0)
      ∗ iprop(free (c : Thread nD τ) uM ∗ iprop(outs oW c D.out 0 Finset.univ ∗ idle oW c 1) ∗ idle oW c 0)
      ∗ own (c : Thread nD τ) g1M D.g1 ∗ own (c : Thread nD τ) g2M D.g2 ∗ waits (c : Thread nD τ) ()) := rfl

theorem inv_last (D : Data F) :
    (inv D c g1M g2M 128 : sProp 𝕄) = iprop(rest hW c D.H 32 ∗ rest upW c D.Up 128 ∗ rest dnW c D.Dn 128
      ∗ iprop(free (c : Thread nD τ) uM ∗ prev oW c () D.out 32 ∗ idle oW c 32)
      ∗ own (c : Thread nD τ) g1M D.g1 ∗ own (c : Thread nD τ) g2M D.g2 ∗ waits (c : Thread nD τ) ()) := rfl

set_option maxHeartbeats 4000000 in
/-- The pipeline's loop. -/
theorem part12 (D : Data F) {Q : _ → sProp (MT nD τ sig Unit (Elt F) ℕ (UU nD τ) ℕ)} :
    (inv D c g1M g2M 0 : sProp 𝕄)
      ⊢ iprop((∀ a b d e, inv D c g1M g2M 128 -∗ Q ⟨w17 128, w18 128, w19 128, chk5, chk4, a, b, d, e⟩)
        -∗ wp frame (wpE (defs₀ (F := F)) 𝒱₀ (c : Thread nD τ) none) Set.univ
          (app (k0_part12 (F := F)) g1M hg1 g2M hg2 (Scalar.addi 0#32 1#32) (Scalar.addi 0#32 1#32) (Scalar.addi 0#32 1#32)
            0#32 0#32 0#32 0#32 0#32 0#32 0#32 0#32) Q) := by
  unfold app
  rw [k0_part12_eq_skeleton]
  unfold k0_part12_skel
  iintro H Hk
  iapply (Scf.wp_for_bind frame (wpE (defs₀ (F := F)) 𝒱₀ (c : Thread nD τ) none) Set.univ k0_t1_loop.lb k0_t1_loop.ub k0_t1_loop.st k0_t1_ok _ _
    (fun k acc => iprop(⌜acc = W k⌝ ∗ inv D c g1M g2M k)) (by
      intro t acc
      iintro ⟨%e, H⟩
      subst e
      iapply (trip c t g1M hg1 g2M hg2 D) $$ H
      iintro H
      isplitr; · ipureintro; rfl
      iexact H)) $$ [H]
  · isplitr; · ipureintro; exact start_words
    iexact H
  iintro %acc ⟨%e, H⟩
  rw [show Scf.trips k0_t1_loop.lb k0_t1_loop.ub k0_t1_loop.st = 128 from trips_eq] at e
  rw [show Scf.trips k0_t1_loop.lb k0_t1_loop.ub k0_t1_loop.st = 128 from trips_eq]
  subst e
  unfold W
  simp only [Prog.lift, Prog.bind_op, Prog.bind_ret, Prog.pure_eq_ret]
  rw [wp_assume_of 𝒱₀ (c : Thread nD τ) none Set.univ chk5, wp_assume_of 𝒱₀ (c : Thread nD τ) none Set.univ chk4, wp_ret]
  imodintro
  iapply Hk; iexact H

set_option maxHeartbeats 4000000 in
/-- The first fetches. -/
theorem part11 (D : Data F) {Q : _ → sProp (MT nD τ sig Unit (Elt F) ℕ (UU nD τ) ℕ)} :
    (iprop(rest hW c D.H 0 ∗ rest upW c D.Up 0 ∗ rest dnW c D.Dn 0) : sProp 𝕄)
      ⊢ iprop((iprop(one hW c () D.H 0 (bk 32 0) ∗ one upW c () D.Up 0 (bk 4 0) ∗ one dnW c () D.Dn 0 (bk 4 0))
          -∗ Q ⟨Scalar.addi 0#32 1#32, Scalar.addi 0#32 1#32, Scalar.addi 0#32 1#32, 0#32, 0#32, 0#32, 0#32, 0#32, 0#32, 0#32, 0#32⟩)
        -∗ wp frame (wpE (defs₀ (F := F)) 𝒱₀ (c : Thread nD τ) none) Set.univ (app (k0_part11 (F := F)) g1M hg1 g2M hg2 (Scalar.addi 0#32 0#32)) Q) := by
  unfold app
  rw [k0_part11_eq_skeleton]
  unfold k0_part11_skel
  simp only [Prog.lift, Prog.bind_op, Prog.bind_ret, Prog.pure_eq_ret]
  unfold rest one
  iintro ⟨⟨A, S, S'⟩, ⟨B, T, T'⟩, ⟨C, R, R'⟩⟩ Hk
  iapply (fetch 𝒱₀ c none hW () D.H (b := bk 32 0) (n := 0) (Finset.mem_univ _) (by decide)
    (blk_eq (Memref.whole main_v0) off3_eq (by decide) _ _) (row_eq _ off2_eq _ _) (sem_eq _ off1_eq _)) $$ [A S]
  · isplitl [A]; · iexact A
    iexact S
  iintro ⟨A, S⟩
  iapply (fetch 𝒱₀ c none upW () D.Up (b := bk 4 0) (n := 0) (Finset.mem_univ _) (by decide)
    (up_eq (Memref.whole main_v4) (n := 0) rfl _ _) (wt_eq _ off4_eq _ _) (sem_eq _ off1_eq _)) $$ [B T]
  · isplitl [B]; · iexact B
    iexact T
  iintro ⟨B, T⟩
  iapply (fetch 𝒱₀ c none dnW () D.Dn (b := bk 4 0) (n := 0) (Finset.mem_univ _) (by decide)
    (dn_eq (Memref.whole main_v6) (n := 0) rfl _ _) (wt_eq _ off4_eq _ _) (sem_eq _ off1_eq _)) $$ [C R]
  · isplitl [C]; · iexact C
    iexact R
  iintro ⟨C, R⟩
  rw [wp_ret]; imodintro
  iapply Hk
  isplitl [A S S']
  · isplitl [A]; · iexact A
    isplitl [S]; · iexact S
    iexact S'
  isplitl [B T T']
  · isplitl [B]; · iexact B
    isplitl [T]; · iexact T
    iexact T'
  isplitl [C]; · iexact C
  isplitl [R]; · iexact R
  iexact R'

set_option maxHeartbeats 4000000 in
/-- The kernel. -/
theorem kernel_run (D : Data F) {Q : PUnit → sProp (MT nD τ sig Unit (Elt F) ℕ (UU nD τ) ℕ)} :
    (pre D c g1M g2M : sProp 𝕄)
      ⊢ iprop((post D c g1M g2M -∗ Q ⟨⟩)
        -∗ wp frame (wpE (defs₀ (F := F)) 𝒱₀ (c : Thread nD τ) none) Set.univ (app (cc0_mlp (F := F)) g1M hg1 g2M hg2) Q) := by
  unfold app
  rw [cc0_mlp_eq_skeleton]
  unfold cc0_mlp_skel
  rw [k0_part10_eq_skeleton]
  unfold k0_part10_skel pre post
  simp only [Prog.bind_ret, Prog.pure_eq_ret]
  iintro ⟨A, B, C, U, O, I, I', G1, G2, Wt⟩ Hk
  rw [wp_bind]
  iapply (part11 c g1M hg1 g2M hg2 D) $$ [A B C]
  · isplitl [A]; · iexact A
    isplitl [B]; · iexact B
    iexact C
  iintro ⟨A, B, C⟩
  rw [wp_bind]
  iapply (part12 c g1M hg1 g2M hg2 D) $$ [A B C U O I I' G1 G2 Wt]
  · rw [inv_zero]
    isplitl [A]; · iexact A
    isplitl [B]; · iexact B
    isplitl [C]; · iexact C
    isplitl [U O I I']
    · isplitl [U]; · iexact U
      isplitl [O I']
      · isplitl [O]; · iexact O
        iexact I'
      iexact I
    isplitl [G1]; · iexact G1
    isplitl [G2]; · iexact G2
    iexact Wt
  rw [inv_last]
  iintro %a %b %d %e ⟨A, B, C, ⟨U, O, I⟩, G1, G2, Wt⟩
  simp only [Prog.lift, Prog.bind_op, Prog.bind_ret]
  iapply (sent 𝒱₀ c none oW () D.out (n := 31) (by decide)
    ((blk_eq (Memref.whole main_v9) off43_eq (by decide) _ _).trans rfl) (sem_eq _ (n := 31) off42_eq _)) $$ [O Wt]
  · isplitl [O]; · iexact O
    iexact Wt
  unfold sofar
  iintro ⟨⟨O, I'⟩, Wt⟩
  rw [wp_ret]; imodintro
  iapply Hk
  isplitl [A]; · iexact A
  isplitl [B]; · iexact B
  isplitl [C]; · iexact C
  isplitl [U]; · iexact U
  isplitl [O]; · iexact O
  isplitl [I]; · iexact I
  isplitl [I']; · iexact I'
  isplitl [G1]; · iexact G1
  isplitl [G2]; · iexact G2
  iexact Wt

end Cert.Mlp
-- ==== Proof.Blocks.lean ====
/- The arrays and the buffers cut into the blocks and slots the windows go over, and put together again. -/
module

public import proofs.«01_k».proof.Proof.Body
public import Idealize.ShloMosaic.Lib.Memref
public import Idealize.ShloMosaic.Lib.Ring

@[expose] public section

set_option maxRecDepth 16384

noncomputable section

namespace Cert.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (UU nD τ) ℕ

/-! ### The rectangles -/

abbrev rBlk (b : Fin 32) : Rect S16384x2048 := Rect.unit (s := S16384x2048) ![512 * b.val, 0] S512x2048.size (inbBlk b)
abbrev rUp (b : Fin 4) : Rect S2048x8192 := Rect.unit (s := S2048x8192) ![0, 2048 * b.val] S2048x2048.size (inbUp b)
abbrev rDn (b : Fin 4) : Rect S8192x2048 := Rect.unit (s := S8192x2048) ![2048 * b.val, 0] S2048x2048.size (inbDn b)
abbrev rRow (s : Fin 2) : Rect S2x512x2048 := Rect.unit (s := S2x512x2048) ![s.val, 0, 0] S1x512x2048.size (inbRow s)
abbrev rWt (s : Fin 2) : Rect S2x2048x2048 := Rect.unit (s := S2x2048x2048) ![s.val, 0, 0] S1x2048x2048.size (inbWt s)

theorem mem_rBlk (b : Fin 32) (i : S16384x2048.Idx) : i ∈ (rBlk b).set ↔ (i 0).val / 512 = b.val := by
  rw [Rect.mem_set_unit]
  have h1 : (i 1).val < 2048 := (i 1).isLt
  constructor
  · intro H
    have a0 : 512 * b.val ≤ (i 0).val ∧ (i 0).val < 512 * b.val + 512 := H 0
    omega
  · intro H a; fin_cases a
    · show 512 * b.val ≤ (i 0).val ∧ (i 0).val < 512 * b.val + 512; omega
    · show 0 ≤ (i 1).val ∧ (i 1).val < 0 + 2048; omega
theorem mem_rUp (b : Fin 4) (i : S2048x8192.Idx) : i ∈ (rUp b).set ↔ (i 1).val / 2048 = b.val := by
  rw [Rect.mem_set_unit]
  have h1 : (i 0).val < 2048 := (i 0).isLt
  constructor
  · intro H
    have a0 : 2048 * b.val ≤ (i 1).val ∧ (i 1).val < 2048 * b.val + 2048 := H 1
    omega
  · intro H a; fin_cases a
    · show 0 ≤ (i 0).val ∧ (i 0).val < 0 + 2048; omega
    · show 2048 * b.val ≤ (i 1).val ∧ (i 1).val < 2048 * b.val + 2048; omega
theorem mem_rDn (b : Fin 4) (i : S8192x2048.Idx) : i ∈ (rDn b).set ↔ (i 0).val / 2048 = b.val := by
  rw [Rect.mem_set_unit]
  have h1 : (i 1).val < 2048 := (i 1).isLt
  constructor
  · intro H
    have a0 : 2048 * b.val ≤ (i 0).val ∧ (i 0).val < 2048 * b.val + 2048 := H 0
    omega
  · intro H a; fin_cases a
    · show 2048 * b.val ≤ (i 0).val ∧ (i 0).val < 2048 * b.val + 2048; omega
    · show 0 ≤ (i 1).val ∧ (i 1).val < 0 + 2048; omega
theorem mem_rRow (s : Fin 2) (i : S2x512x2048.Idx) : i ∈ (rRow s).set ↔ (i 0).val = s.val := by
  rw [Rect.mem_set_unit]
  have h1 : (i 1).val < 512 := (i 1).isLt
  have h2 : (i 2).val < 2048 := (i 2).isLt
  constructor
  · intro H
    have a0 : s.val ≤ (i 0).val ∧ (i 0).val < s.val + 1 := H 0
    omega
  · intro H a; fin_cases a
    · show s.val ≤ (i 0).val ∧ (i 0).val < s.val + 1; omega
    · show 0 ≤ (i 1).val ∧ (i 1).val < 0 + 512; omega
    · show 0 ≤ (i 2).val ∧ (i 2).val < 0 + 2048; omega
theorem mem_rWt (s : Fin 2) (i : S2x2048x2048.Idx) : i ∈ (rWt s).set ↔ (i 0).val = s.val := by
  rw [Rect.mem_set_unit]
  have h1 : (i 1).val < 2048 := (i 1).isLt
  have h2 : (i 2).val < 2048 := (i 2).isLt
  constructor
  · intro H
    have a0 : s.val ≤ (i 0).val ∧ (i 0).val < s.val + 1 := H 0
    omega
  · intro H a; fin_cases a
    · show s.val ≤ (i 0).val ∧ (i 0).val < s.val + 1; omega
    · show 0 ≤ (i 1).val ∧ (i 1).val < 0 + 2048; omega
    · show 0 ≤ (i 2).val ∧ (i 2).val < 0 + 2048; omega

/-- Rectangles told apart by a number of each index. -/
theorem rects_disjoint {sh : Shape} {N : ℕ} {r : Fin N → Rect sh} {f : sh.Idx → ℕ} (h : ∀ b i, i ∈ (r b).set ↔ f i = b.val) :
    ∀ b b', b ≠ b' → Disjoint (r b).set (r b').set := by
  intro b b' hne; rw [Finset.disjoint_left]; intro i hi hi'
  rw [h] at hi hi'; exact hne (Fin.ext (hi.symm.trans hi'))
theorem rects_cover {sh : Shape} {N : ℕ} {r : Fin N → Rect sh} {f : sh.Idx → ℕ} (h : ∀ b i, i ∈ (r b).set ↔ f i = b.val)
    (hf : ∀ i, f i < N) : (Finset.univ : Finset (Fin N)).biUnion (fun b => (r b).set) = Finset.univ := by
  ext i; simp only [Finset.mem_biUnion, Finset.mem_univ, true_and, iff_true]; exact ⟨⟨f i, hf i⟩, (h _ _).mpr rfl⟩

theorem blk_lt (i : S16384x2048.Idx) : (i 0).val / 512 < 32 := by have : (i 0).val < 16384 := (i 0).isLt; omega
theorem up_lt (i : S2048x8192.Idx) : (i 1).val / 2048 < 4 := by have : (i 1).val < 8192 := (i 1).isLt; omega
theorem dn_lt (i : S8192x2048.Idx) : (i 0).val / 2048 < 4 := by have : (i 0).val < 8192 := (i 0).isLt; omega
theorem row_lt (i : S2x512x2048.Idx) : (i 0).val < 2 := (i 0).isLt
theorem wt_lt (i : S2x2048x2048.Idx) : (i 0).val < 2 := (i 0).isLt

/-- The array whose row blocks are these. -/
def glue {α : Type} (R : Fin 32 → S512x2048.Idx → α) : S16384x2048.Idx → α := fun i =>
  R ⟨(i 0).val / 512, blk_lt i⟩ fun a => ⟨(i a).val % S512x2048.size a, Nat.mod_lt _ (by fin_cases a <;> decide)⟩
theorem glue_emb {α : Type} (R : Fin 32 → S512x2048.Idx → α) (b : Fin 32) (j : S512x2048.Idx) : glue R ((rBlk b).emb j) = R b j := by
  have h0 : (j 0).val < 512 := (j 0).isLt
  have h1 : (j 1).val < 2048 := (j 1).isLt
  have e0 : (((rBlk b).emb j) 0).val = 512 * b.val + (j 0).val := Nat.one_mul (j 0).val ▸ rfl
  have e1 : (((rBlk b).emb j) 1).val = 0 + (j 1).val := Nat.one_mul (j 1).val ▸ rfl
  have q0 : (⟨(((rBlk b).emb j) 0).val / 512, blk_lt _⟩ : Fin 32) = b :=
    Fin.ext (by show (((rBlk b).emb j) 0).val / 512 = b.val; rw [e0]; omega)
  have q1 : (fun a => ⟨(((rBlk b).emb j) a).val % S512x2048.size a, Nat.mod_lt _ (by fin_cases a <;> decide)⟩ : S512x2048.Idx) = j := by
    funext a
    fin_cases a
    · exact Fin.ext (by show (((rBlk b).emb j) 0).val % 512 = (j 0).val; rw [e0]; omega)
    · exact Fin.ext (by show (((rBlk b).emb j) 1).val % 2048 = (j 1).val; rw [e1]; omega)
  unfold glue
  rw [q0, q1]

variable (c : Dev nD)

/-! ### A memref and its slots -/

section Slots

variable {sp : Space} {sh s' : Shape} {e : EltTy}

/-- A memref at whatever it contains, as its elements. -/
theorem free_eq (m : Memref sig .tc sp sh e) :
    (free (c : Thread nD τ) m : sProp 𝕄) ⊣⊢ iprop(∃ f, m.view.loc (c : Thread nD τ) ↦[m.view.set]{fullShare} f) := by
  unfold free own owns
  constructor
  · iintro ⟨%X, %f, -, H⟩; iexists f; iexact H
  · iintro ⟨%f, H⟩; iexists _; iexists f
    isplitr; · ipureintro; rfl
    iexact H

theorem free_squeeze (m : Memref sig .tc sp sh e) (hq : sh.Squeezes s') :
    (free (c : Thread nD τ) (m.squeeze s' hq) : sProp 𝕄) ⊣⊢ free (c : Thread nD τ) m := by
  have h : (m.squeeze s' hq).view.set = m.view.set := View.set_reshape m.view hq.numel_eq
  have h' : (iprop(∃ f, (m.squeeze s' hq).view.loc (c : Thread nD τ) ↦[(m.squeeze s' hq).view.set]{fullShare} f) : sProp 𝕄)
      = iprop(∃ f, m.view.loc (c : Thread nD τ) ↦[m.view.set]{fullShare} f) := by rw [h]
  constructor
  · refine (free_eq c _).1.trans ?_; rw [h']; exact (free_eq c _).2
  · refine (free_eq c _).1.trans ?_; rw [← h']; exact (free_eq c _).2

theorem bigSep_two (Φ : Fin 2 → sProp (MT nD τ sig Unit (Elt F) ℕ (UU nD τ) ℕ)) : bigSep Finset.univ Φ = iprop(Φ 0 ∗ Φ 1) :=
  bigSep_univ_eq_bigSepL [(0 : Fin 2), (1 : Fin 2)] (by decide) (by decide) Φ

variable (m : Memref sig .tc sp sh e) (r : Fin 2 → Rect sh) (hr : ∀ t a, (r t).stride a = 1)
  (hd : ∀ t t', t ≠ t' → Disjoint (r t).set (r t').set)
  (hcov : (Finset.univ : Finset (Fin 2)).biUnion (fun t => (r t).set) = Finset.univ) (hq : ∀ t, (r t).shape.Squeezes s')
include hd hcov

theorem slots_split : (free (c : Thread nD τ) m : sProp 𝕄)
    ⊢ iprop(free (c : Thread nD τ) ((m.slice (r 0) (hr 0)).squeeze s' (hq 0)) ∗ free (c : Thread nD τ) ((m.slice (r 1) (hr 1)).squeeze s' (hq 1))) := by
  iintro H
  ihave H' := (show (free (c : Thread nD τ) m : sProp 𝕄) ⊢ iprop(∃ X, own (c : Thread nD τ) m X) from by unfold free; iintro H; iexact H) $$ H
  icases H' with ⟨%X, H⟩
  ihave H2 := ((owns_rects (c : Thread nD τ) m fullShare r hr hd hcov X).trans (Entails.of_eq (bigSep_two _))) $$ H
  icases H2 with ⟨A, B⟩
  isplitl [A]
  · iapply (free_squeeze c (m.slice (r 0) (hr 0)) (hq 0)).2; iapply (free_intro (c : Thread nD τ)) $$ A
  · iapply (free_squeeze c (m.slice (r 1) (hr 1)) (hq 1)).2; iapply (free_intro (c : Thread nD τ)) $$ B

theorem slots_join : (iprop(free (c : Thread nD τ) ((m.slice (r 0) (hr 0)).squeeze s' (hq 0)) ∗ free (c : Thread nD τ) ((m.slice (r 1) (hr 1)).squeeze s' (hq 1))) : sProp 𝕄)
    ⊢ free (c : Thread nD τ) m := by
  iintro ⟨A, B⟩
  ihave A' := (free_squeeze c _ (hq 0)).1 $$ A
  ihave B' := (free_squeeze c _ (hq 1)).1 $$ B
  unfold free
  icases A' with ⟨%X, A⟩
  icases B' with ⟨%Y, B⟩
  iexists ((r 1).overlay ((r 0).overlay (fun _ => Classical.arbitrary _) X) Y)
  iapply (owns_of_rects (c : Thread nD τ) m fullShare r hr hd hcov _)
  irw [bigSep_two]
  have eX : (fun j => (r 1).overlay ((r 0).overlay (fun _ => Classical.arbitrary _) X) Y ((r 0).emb j)) = X := by
    funext j
    exact (Rect.overlay_of_not_mem _ _ _ (Finset.disjoint_left.mp (hd 0 1 (by decide)) ((r 0).idx_mem j))).trans (Rect.overlay_emb _ _ _ j)
  have eY : (fun j => (r 1).overlay ((r 0).overlay (fun _ => Classical.arbitrary _) X) Y ((r 1).emb j)) = Y := by
    funext j; rw [Rect.overlay_emb]
  rw [eX, eY]
  isplitl [A]; · iexact A
  iexact B

end Slots

theorem rows_split (M : Memref sig .tc .vmem S2x512x2048 .f32) :
    (free (c : Thread nD τ) M : sProp 𝕄) ⊢ iprop(free (c : Thread nD τ) (rowSlot M 0) ∗ free (c : Thread nD τ) (rowSlot M 1)) :=
  slots_split c M rRow (fun _ _ => rfl) (rects_disjoint mem_rRow) (rects_cover mem_rRow row_lt) (fun _ => squeezes_S1x512x2048_S512x2048)
theorem rows_join (M : Memref sig .tc .vmem S2x512x2048 .f32) :
    (iprop(free (c : Thread nD τ) (rowSlot M 0) ∗ free (c : Thread nD τ) (rowSlot M 1)) : sProp 𝕄) ⊢ free (c : Thread nD τ) M :=
  slots_join c M rRow (fun _ _ => rfl) (rects_disjoint mem_rRow) (rects_cover mem_rRow row_lt) (fun _ => squeezes_S1x512x2048_S512x2048)
theorem wts_split (M : Memref sig .tc .vmem S2x2048x2048 .bf16) :
    (free (c : Thread nD τ) M : sProp 𝕄) ⊢ iprop(free (c : Thread nD τ) (wtSlot M 0) ∗ free (c : Thread nD τ) (wtSlot M 1)) :=
  slots_split c M rWt (fun _ _ => rfl) (rects_disjoint mem_rWt) (rects_cover mem_rWt wt_lt) (fun _ => squeezes_S1x2048x2048_S2048x2048)
theorem wts_join (M : Memref sig .tc .vmem S2x2048x2048 .bf16) :
    (iprop(free (c : Thread nD τ) (wtSlot M 0) ∗ free (c : Thread nD τ) (wtSlot M 1)) : sProp 𝕄) ⊢ free (c : Thread nD τ) M :=
  slots_join c M rWt (fun _ _ => rfl) (rects_disjoint mem_rWt) (rects_cover mem_rWt wt_lt) (fun _ => squeezes_S1x2048x2048_S2048x2048)

/-! ### An array and its blocks -/

theorem hW_homes (X : S16384x2048.Idx → Elt F .f32) :
    (own (c : Thread nD τ) (Memref.whole main_v0) X : sProp 𝕄) ⊢ homes hW c (fun b j => X ((rBlk b).emb j)) Finset.univ :=
  owns_rects (c : Thread nD τ) (Memref.whole main_v0) fullShare rBlk (fun _ _ => rfl) (rects_disjoint mem_rBlk) (rects_cover mem_rBlk blk_lt) X
theorem upW_homes (X : S2048x8192.Idx → Elt F .bf16) :
    (own (c : Thread nD τ) (Memref.whole main_v4) X : sProp 𝕄) ⊢ homes upW c (fun b j => X ((rUp b).emb j)) Finset.univ :=
  owns_rects (c : Thread nD τ) (Memref.whole main_v4) fullShare rUp (fun _ _ => rfl) (rects_disjoint mem_rUp) (rects_cover mem_rUp up_lt) X
theorem dnW_homes (X : S8192x2048.Idx → Elt F .bf16) :
    (own (c : Thread nD τ) (Memref.whole main_v6) X : sProp 𝕄) ⊢ homes dnW c (fun b j => X ((rDn b).emb j)) Finset.univ :=
  owns_rects (c : Thread nD τ) (Memref.whole main_v6) fullShare rDn (fun _ _ => rfl) (rects_disjoint mem_rDn) (rects_cover mem_rDn dn_lt) X
theorem oW_outs (R : Fin 32 → S512x2048.Idx → Elt F .f32) (X : S16384x2048.Idx → Elt F .f32) :
    (own (c : Thread nD τ) (Memref.whole main_v9) X : sProp 𝕄) ⊢ outs oW c R 0 Finset.univ := by
  refine (owns_rects (c : Thread nD τ) (Memref.whole main_v9) fullShare rBlk (fun _ _ => rfl) (rects_disjoint mem_rBlk) (rects_cover mem_rBlk blk_lt) X).trans ?_
  unfold outs
  refine bigSep_mono fun b _ => ?_
  show (own (c : Thread nD τ) (oW.blk b) (fun j => X ((rBlk b).emb j)) : sProp 𝕄) ⊢ out oW c R 0 b
  unfold out
  iintro H
  iexists (fun j => X ((rBlk b).emb j))
  isplitr; · ipureintro; exact fun h => absurd h (Nat.not_lt_zero _)
  iexact H
theorem outs_done (R : Fin 32 → S512x2048.Idx → Elt F .f32) :
    (outs oW c R 32 Finset.univ : sProp 𝕄) ⊢ own (c : Thread nD τ) (Memref.whole main_v9) (glue R) := by
  refine BIBase.Entails.trans ?_ (owns_of_rects (c : Thread nD τ) (Memref.whole main_v9) fullShare rBlk (fun _ _ => rfl) (rects_disjoint mem_rBlk) (rects_cover mem_rBlk blk_lt) (glue R))
  unfold outs
  refine bigSep_mono fun b _ => ?_
  refine BIBase.Entails.trans ?_ (Entails.of_eq (congrArg (fun x => (own (c : Thread nD τ) (oW.blk b) x : sProp 𝕄)) (funext fun j => (glue_emb R b j).symm)))
  show (out oW c R 32 b : sProp 𝕄) ⊢ own (c : Thread nD τ) (oW.blk b) (R b)
  unfold out
  iintro ⟨%x, %h, H⟩
  rw [← h b.isLt]
  iexact H

end Cert.Mlp
-- ==== Proof.Launch.lean ====
/- The call: the arrays it starts from, and the kernel as the body of its pipeline. -/
module

public import proofs.«01_k».proof.Proof.Blocks
public import proofs.«01_k».proof.Proof.Gen.KernelIdeal.Launch
public import proofs.«01_k».proof.Proof.Gen.KernelIdeal.Points
public import Idealize.ShloMosaic.Lib.Pipeline.KitQuiescent
public import Idealize.ShloMosaic.Lib.Pipeline.Frame

@[expose] public section

set_option maxRecDepth 16384

noncomputable section

namespace Cert.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)
open Idealize.ShloMosaic.Pipeline (Dat Cfg Window BodyObligation cellOf)

variable {F : FTy → Type} [FloatOps F]

local notation "𝕄" => MT nD τ sig Unit (Elt F) ℕ (UU nD τ) ℕ

abbrev EP : Emb (UR sig nD τ) (MT nD τ sig Unit (Elt F) ℕ (UU nD τ) ℕ) := embL

variable (m : (ℓ : Loc nD τ sig) → Buf (Elt F) ℓ) (ρ : Dev nD → PrngReg)

/-! ### The arrays when the kernel is called -/

/-- Core `c`'s arrays after the operations before the kernel. -/
abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := StableHlo.forall_fresh_of_map rfl

/-- The operations before the kernel leave the arguments as they are. -/
theorem not_written (b : Ref sig .tc) (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8) :
    ∀ op ∈ (hostOps0 (F := F)), Proc.devRef .tc b ∉ op.writes := by
  obtain ⟨h0, h1, h2, h3, h4, h5, h6, h7, h8⟩ := hb
  intro op hop
  simp only [List.mem_cons, List.mem_nil_iff, or_false] at hop
  rcases hop with rfl | rfl | rfl | rfl | rfl | rfl | rfl | rfl | rfl <;>
    simp only [StableHlo.unary_writes, StableHlo.reshape_writes, Finset.mem_singleton] <;>
    exact StableHlo.devRef_ne_of_ne ‹_›
theorem V_arg (c : Dev nD) (b : Ref sig .tc) (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8) :
    V m c b = m ((c : Thread nD τ).loc b) :=
  StableHlo.after_of_forall_not_mem (b := Proc.devRef .tc b) hostOps0 (fun b => m (c, b)) (not_written b hb)

/-- Window `w`'s block, the whole of its array. -/
def iblk (c : Dev nD) (w : Fin (cfg0 (F := F)).W) (t : Fin (cfg0 (F := F)).N) : ((cfg0.win w).xblock (cfg0.grid.coords t)).Idx → Elt F (cfg0.win w).elt :=
  ((cfg0.win w).blk t).view.read (Elt F) (V m c (Pipeline.arrRef spec0 w))

/-- What the kernel is given. -/
def D (c : Dev nD) : Data F where
  H b j := V m c main_v0 ((rBlk b).emb j)
  Up b j := V m c main_v4 ((rUp b).emb j)
  Dn b j := V m c main_v6 ((rDn b).emb j)
  g1 := iblk m c 0 t0_0
  g2 := iblk m c 1 t0_0

/-! ### The pipeline's proof data -/

/-- Before (`n = 0`) and after (`n = 1`) the kernel. -/
def Φ (c : Dev nD) (n : ℕ) : sProp 𝕄 :=
  iprop(rest hW c (D m c).H (32 * n) ∗ rest upW c (D m c).Up (128 * n) ∗ rest dnW c (D m c).Dn (128 * n) ∗ free (c : Thread nD τ) uM
    ∗ outs oW c (D m c).out (32 * n) Finset.univ ∗ idle oW c (32 * n) ∗ idle oW c (32 * n + 1))

def dats (_ : Fin 1) (c : Dev nD) : Dat τ (Elt F) Unit ℕ (UU nD τ) ℕ (cfg0 (F := F)) c where
  A w := V m c (Pipeline.arrRef spec0 w)
  after w t := match w with
    | ⟨0, _⟩ => iblk m c 0 t
    | ⟨1, _⟩ => iblk m c 1 t
  Φ t := Φ m c t.val
  q _ := fullShare
  owed _ := 0

theorem before_w0 (c : Dev nD) (t : Fin (cfg0 (F := F)).N) (d) : (dats m 0 c).before 0 t d = iblk m c 0 t := by
  unfold Dat.before; rw [if_pos (fetch0_0 t)]; unfold Dat.fetched Dat.blockOf iblk; dsimp only [dats]; rfl
theorem before_w1 (c : Dev nD) (t : Fin (cfg0 (F := F)).N) (d) : (dats m 0 c).before 1 t d = iblk m c 1 t := by
  unfold Dat.before; rw [if_pos (fetch0_1 t)]; unfold Dat.fetched Dat.blockOf iblk; dsimp only [dats]; rfl
theorem after_w0 (c : Dev nD) (t : Fin (cfg0 (F := F)).N) : (dats m 0 c).after 0 t = iblk m c 0 t := by dsimp only [dats]; rfl
theorem after_w1 (c : Dev nD) (t : Fin (cfg0 (F := F)).N) : (dats m 0 c).after 1 t = iblk m c 1 t := by dsimp only [dats]; rfl

/-! ### The body -/

theorem defs_tc : (defs₀ (F := F)) .tc (cfg0 (F := F)).body
    = fun a => app (cc0_mlp (F := F)) (win0_0.stage (a.2 0)) (hstage0_0 0) (win0_1.stage (a.2 1)) (hstage0_1 0) := rfl
theorem prog_eq (t : Fin (cfg0 (F := F)).N) : (defs₀ (F := F)) .tc (cfg0 (F := F)).body (cfg0.bodyArgs t (cfg0.slots t))
    = app (cc0_mlp (F := F)) (st0_0 t) (hstage0_0 0) (st0_1 t) (hstage0_1 0) :=
  (congrFun defs_tc _).trans rfl

theorem Φ_pre (c : Dev nD) (g1M g2M : Memref sig .tc .vmem S1x2048 .f32) :
    (iprop(Φ m c 0 ∗ own (c : Thread nD τ) g1M (D m c).g1 ∗ own (c : Thread nD τ) g2M (D m c).g2 ∗ waits (c : Thread nD τ) ()) : sProp 𝕄)
      ⊢ pre (D m c) c g1M g2M := by
  unfold Φ pre
  iintro ⟨⟨A, B, C, U, O, I, I'⟩, G1, G2, W⟩
  isplitl [A]; · iexact A
  isplitl [B]; · iexact B
  isplitl [C]; · iexact C
  isplitl [U]; · iexact U
  isplitl [O]; · iexact O
  isplitl [I]; · iexact I
  isplitl [I']; · iexact I'
  isplitl [G1]; · iexact G1
  isplitl [G2]; · iexact G2
  iexact W
theorem post_Φ (c : Dev nD) (g1M g2M : Memref sig .tc .vmem S1x2048 .f32) :
    (post (D m c) c g1M g2M : sProp 𝕄)
      ⊢ iprop(Φ m c 1 ∗ waits (c : Thread nD τ) () ∗ own (c : Thread nD τ) g1M (D m c).g1 ∗ own (c : Thread nD τ) g2M (D m c).g2) := by
  unfold Φ post
  iintro ⟨A, B, C, U, O, I, I', G1, G2, W⟩
  isplitl [A B C U O I I']
  · isplitl [A]; · iexact A
    isplitl [B]; · iexact B
    isplitl [C]; · iexact C
    isplitl [U]; · iexact U
    isplitl [O]; · iexact O
    isplitl [I]; · iexact I
    iexact I'
  isplitl [W]; · iexact W
  isplitl [G1]; · iexact G1
  iexact G2

set_option backward.isDefEq.respectTransparency.types false in
theorem body_obligation (c : Dev nD) : BodyObligation (dats (F := F) m 0 c) (defs₀ (F := F)) 𝒱₀ () Set.univ := fun t => by
  rw [fin_N0 t]
  rw [bigSep_W0, bigSep_W0]
  dsimp only
  simp only [before_w0, before_w1, after_w0, after_w1]
  rw [show (dats m 0 c).Φ t0_0.castSucc = Φ m c 0 from rfl, show (dats m 0 c).Φ t0_0.succ = Φ m c 1 from rfl]
  unfold Dat.owesAt Pipeline.owesWithin
  rw [show (dats m 0 c).owed t0_0.castSucc = 0 from rfl, show (dats m 0 c).owed t0_0.succ = 0 from rfl]
  iintro ⟨HΦ, ⟨%W, -, HW⟩, ⟨%d0, G1⟩, ⟨%d1, G2⟩⟩
  sl_rw [prog_eq t0_0]
  iapply (kernel_run c (st0_0 t0_0) (hstage0_0 0) (st0_1 t0_0) (hstage0_1 0) (D m c)) $$ [HΦ G1 G2 HW]
  · iapply (Φ_pre m c (st0_0 t0_0) (st0_1 t0_0))
    isplitl [HΦ]; · iexact HΦ
    isplitl [G1]; · iexact G1
    isplitl [G2]; · iexact G2
    unfold waits
    iexists W; iexact HW
  iintro HP
  ihave H := (post_Φ m c (st0_0 t0_0) (st0_1 t0_0)) $$ HP
  icases H with ⟨HΦ, HW, G1, G2⟩
  isplitl [HΦ]; · iexact HΦ
  isplitl [HW]
  · ihave H' := (show (waits (c : Thread nD τ) () : sProp 𝕄) ⊢ iprop(∃ W : Waits sig Unit, owes (c : Thread nD τ) 0 W) from by unfold waits; iintro H; iexact H) $$ HW
    icases H' with ⟨%W', HW⟩
    iexists W'; isplitr; · ipureintro; exact fun _ _ => Or.inl trivial
    iexact HW
  isplitl [G1]; · iexact G1
  iexact G2

end Cert.Mlp
-- ==== Proof.Run.lean ====
/- The run of the whole program, for any float values. -/
module

public import proofs.«01_k».proof.Proof.Launch
public import proofs.«01_k».proof.Proof.Gen.KernelIdeal.Launch
public import proofs.«01_k».proof.Proof.Gen.KernelIdeal.Points
public import Idealize.ShloMosaic.Lib.Pipeline.KitQuiescent
public import Idealize.ShloMosaic.Lib.Pipeline.Frame

@[expose] public section

set_option maxRecDepth 16384

noncomputable section

namespace Cert.Mlp

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ### The kernel's own semaphores and slots -/

abbrev osem : Fin 8 → SemLoc sig := fun k => .dma
  ((![semOf cc0_scoped1 0, semOf cc0_scoped1 1, semOf cc0_scoped3 0, semOf cc0_scoped3 1,
    semOf cc0_scoped5 0, semOf cc0_scoped5 1, semOf cc0_scoped7 0, semOf cc0_scoped7 1] : Fin 8 → DmaSem sig) k)
theorem ownSemFacts : Pipeline.OwnSemFacts spec0 osem := by decide +kernel

theorem ownSems0_eq (c : Dev nD) : (Pipeline.ownSems0 (Ix := Unit) (Name := ℕ) (U := UU nD τ) (Lvl := ℕ) (Val := Elt F) (τ := τ) osem c : sProp 𝕄)
    = iprop(cell (c : Thread nD τ) (hW.sem 0) ∗ cell (c : Thread nD τ) (hW.sem 1) ∗ cell (c : Thread nD τ) (upW.sem 0) ∗ cell (c : Thread nD τ) (upW.sem 1)
      ∗ cell (c : Thread nD τ) (dnW.sem 0) ∗ cell (c : Thread nD τ) (dnW.sem 1) ∗ cell (c : Thread nD τ) (oW.sem 0) ∗ cell (c : Thread nD τ) (oW.sem 1)) :=
  bigSep_univ_eq_bigSepL [(0 : Fin 8), 1, 2, 3, 4, 5, 6, 7] (by decide) (by decide) _

theorem free_whole (c : Dev nD) (b : Ref sig .tc) :
    (iprop(∃ f : Buf (Elt F) ((c : Thread nD τ).loc b), ((c : Thread nD τ).loc b) ↦{fullShare} f) : sProp 𝕄) ⊣⊢ free (c : Thread nD τ) (Memref.whole b) := by
  unfold free own
  constructor
  · iintro ⟨%f, H⟩
    iexists f
    iapply (Entails.of_eq (owns_whole (c : Thread nD τ) b fullShare f).symm) $$ H
  · iintro ⟨%f, H⟩
    iexists f
    iapply (Entails.of_eq (owns_whole (c : Thread nD τ) b fullShare f)) $$ H

section Idles

variable {N : ℕ} {s : Shape} {e : EltTy} (w : Win sig N s e) (c : Dev nD)

/-- Both slots free, their semaphores at zero. -/
theorem idles (n : ℕ) (h : n % 2 = 0) :
    (iprop(idle w c n ∗ idle w c (n + 1)) : sProp 𝕄)
      = iprop((free (c : Thread nD τ) (w.slot 0) ∗ cell (c : Thread nD τ) (w.sem 0)) ∗ free (c : Thread nD τ) (w.slot 1) ∗ cell (c : Thread nD τ) (w.sem 1)) := by
  have e0 : sl 2 n = 0 := Fin.ext h
  have e1 : sl 2 (n + 1) = 1 := Fin.ext (by show (n + 1) % 2 = 1; omega)
  unfold idle
  rw [e0, e1]

theorem idles_in (n : ℕ) (h : n % 2 = 0) :
    (iprop((free (c : Thread nD τ) (w.slot 0) ∗ free (c : Thread nD τ) (w.slot 1)) ∗ cell (c : Thread nD τ) (w.sem 0) ∗ cell (c : Thread nD τ) (w.sem 1)) : sProp 𝕄)
      ⊢ iprop(idle w c n ∗ idle w c (n + 1)) := by
  rw [idles w c n h]
  iintro ⟨⟨A, B⟩, C, D⟩
  isplitl [A C]
  · isplitl [A]; · iexact A
    iexact C
  isplitl [B]; · iexact B
  iexact D
theorem idles_out (n : ℕ) (h : n % 2 = 0) :
    (iprop(idle w c n ∗ idle w c (n + 1)) : sProp 𝕄)
      ⊢ iprop((free (c : Thread nD τ) (w.slot 0) ∗ free (c : Thread nD τ) (w.slot 1)) ∗ cell (c : Thread nD τ) (w.sem 0) ∗ cell (c : Thread nD τ) (w.sem 1)) := by
  rw [idles w c n h]
  iintro ⟨⟨A, C⟩, B, D⟩
  isplitl [A B]
  · isplitl [A]; · iexact A
    iexact B
  isplitl [C]; · iexact C
  iexact D

end Idles

/-! ### Into the kernel and out of it -/

abbrev buffers (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scoped0), ((c : Thread nD τ).loc cc0_scoped0) ↦{fullShare} f)
    ∗ (∃ f : Buf (Elt F) ((c : Thread nD τ).loc cc0_scoped2), ((c : Thread nD τ).loc cc0_scoped2) ↦{fullShare} f)
    ∗ (∃ f : Buf (Elt F) ((c : Thread nD τ).loc cc0_scoped4), ((c : Thread nD τ).loc cc0_scoped4) ↦{fullShare} f)
    ∗ (∃ f : Buf (Elt F) ((c : Thread nD τ).loc cc0_scoped6), ((c : Thread nD τ).loc cc0_scoped6) ↦{fullShare} f))
abbrev slots (c : Dev nD) : sProp 𝕄 :=
  iprop(free (c : Thread nD τ) uM
    ∗ (free (c : Thread nD τ) (hW.slot 0) ∗ free (c : Thread nD τ) (hW.slot 1))
    ∗ (free (c : Thread nD τ) (upW.slot 0) ∗ free (c : Thread nD τ) (upW.slot 1))
    ∗ (free (c : Thread nD τ) (dnW.slot 0) ∗ free (c : Thread nD τ) (dnW.slot 1))
    ∗ (free (c : Thread nD τ) (oW.slot 0) ∗ free (c : Thread nD τ) (oW.slot 1)))

theorem slots_of (c : Dev nD) : (buffers c : sProp 𝕄) ⊢ slots c := by
  iintro ⟨U, A, B, C, O⟩
  isplitl [U]; · iapply (free_whole c cc0_scratch0).1 $$ U
  isplitl [A]; · iapply ((free_whole c cc0_scoped0).1.trans (rows_split c (Memref.whole cc0_scoped0))) $$ A
  isplitl [B]; · iapply ((free_whole c cc0_scoped2).1.trans (wts_split c (Memref.whole cc0_scoped2))) $$ B
  isplitl [C]; · iapply ((free_whole c cc0_scoped4).1.trans (wts_split c (Memref.whole cc0_scoped4))) $$ C
  iapply ((free_whole c cc0_scoped6).1.trans (rows_split c (Memref.whole cc0_scoped6))) $$ O
theorem of_slots (c : Dev nD) : (slots c : sProp 𝕄) ⊢ buffers c := by
  iintro ⟨U, A, B, C, O⟩
  isplitl [U]; · iapply (free_whole c cc0_scratch0).2 $$ U
  isplitl [A]
  · iapply (show iprop(free (c : Thread nD τ) (hW.slot 0) ∗ free (c : Thread nD τ) (hW.slot 1)) ⊢ _ from
      ((rows_join c (Memref.whole cc0_scoped0)).trans (free_whole c cc0_scoped0).2)) $$ A
  isplitl [B]
  · iapply (show iprop(free (c : Thread nD τ) (upW.slot 0) ∗ free (c : Thread nD τ) (upW.slot 1)) ⊢ _ from
      ((wts_join c (Memref.whole cc0_scoped2)).trans (free_whole c cc0_scoped2).2)) $$ B
  isplitl [C]
  · iapply (show iprop(free (c : Thread nD τ) (dnW.slot 0) ∗ free (c : Thread nD τ) (dnW.slot 1)) ⊢ _ from
      ((wts_join c (Memref.whole cc0_scoped4)).trans (free_whole c cc0_scoped4).2)) $$ C
  · iapply (show iprop(free (c : Thread nD τ) (oW.slot 0) ∗ free (c : Thread nD τ) (oW.slot 1)) ⊢ _ from
      ((rows_join c (Memref.whole cc0_scoped6)).trans (free_whole c cc0_scoped6).2)) $$ O

/-- What goes into the kernel; -/
def into (c : Dev nD) : sProp 𝕄 :=
  iprop((own (c : Thread nD τ) (Memref.whole main_v0) (V m c main_v0) ∗ own (c : Thread nD τ) (Memref.whole main_v4) (V m c main_v4)
    ∗ own (c : Thread nD τ) (Memref.whole main_v6) (V m c main_v6) ∗ own (c : Thread nD τ) (Memref.whole main_v9) (V m c main_v9)) ∗ Pipeline.ownSems0 osem c)
/-- what comes out of it; -/
def outOf (c : Dev nD) : sProp 𝕄 := own (c : Thread nD τ) (Memref.whole main_v9) (glue (D m c).out)
/-- and what goes by. -/
def past (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2) ∗ (((c : Thread nD τ).loc main_arg3) ↦{fullShare} V m c main_arg3)
    ∗ (((c : Thread nD τ).loc main_arg4) ↦{fullShare} V m c main_arg4))

theorem Φ_in (c : Dev nD) : (iprop(into m c ∗ buffers c) : sProp 𝕄) ⊢ Φ m c 0 := by
  unfold into Φ rest
  rw [ownSems0_eq]
  iintro ⟨⟨⟨H, P, N, R⟩, S0, S1, S2, S3, S4, S5, S6, S7⟩, HS⟩
  ihave HS' := (slots_of c) $$ HS
  icases HS' with ⟨U, A, B, C, O⟩
  ihave IO := (idles_in oW c (32 * 0) (by decide)) $$ [O S6 S7]
  · isplitl [O]; · iexact O
    isplitl [S6]; · iexact S6
    iexact S7
  icases IO with ⟨I, I'⟩
  isplitl [H A S0 S1]
  · isplitl [H]; · iapply (hW_homes c _) $$ H
    iapply (idles_in hW c (32 * 0) (by decide))
    isplitl [A]; · iexact A
    isplitl [S0]; · iexact S0
    iexact S1
  isplitl [P B S2 S3]
  · isplitl [P]; · iapply (upW_homes c _) $$ P
    iapply (idles_in upW c (128 * 0) (by decide))
    isplitl [B]; · iexact B
    isplitl [S2]; · iexact S2
    iexact S3
  isplitl [N C S4 S5]
  · isplitl [N]; · iapply (dnW_homes c _) $$ N
    iapply (idles_in dnW c (128 * 0) (by decide))
    isplitl [C]; · iexact C
    isplitl [S4]; · iexact S4
    iexact S5
  isplitl [U]; · iexact U
  isplitl [R]; · iapply (oW_outs c _ _) $$ R
  isplitl [I]; · iexact I
  iexact I'

theorem Φ_out (c : Dev nD) : (Φ m c 1 : sProp 𝕄) ⊢ iprop(outOf m c ∗ Pipeline.ownSems0 osem c ∗ buffers c) := by
  unfold outOf Φ rest
  rw [ownSems0_eq]
  iintro ⟨⟨-, A⟩, ⟨-, B⟩, ⟨-, C⟩, U, R, I⟩
  ihave A' := (idles_out hW c (32 * 1) (by decide)) $$ A
  ihave B' := (idles_out upW c (128 * 1) (by decide)) $$ B
  ihave C' := (idles_out dnW c (128 * 1) (by decide)) $$ C
  ihave I' := (idles_out oW c (32 * 1) (by decide)) $$ I
  icases A' with ⟨A, S0, S1⟩
  icases B' with ⟨B, S2, S3⟩
  icases C' with ⟨C, S4, S5⟩
  icases I' with ⟨O, S6, S7⟩
  isplitl [R]; · iapply (outs_done c _) $$ R
  isplitl [S0 S1 S2 S3 S4 S5 S6 S7]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iapply (of_slots c)
  isplitl [U]; · iexact U
  isplitl [A]; · iexact A
  isplitl [B]; · iexact B
  isplitl [C]; · iexact C
  iexact O

/-! ### The run -/

def u₀ : UU nD τ := (initOf (Pipeline.cells (cfgs (F := F)) cellOf_inj) (Pipeline.launchToks (cfgs (F := F)) cellOf_inj), 1)

/-- The arguments as they were, the result as computed. -/
def QY (c : Dev nD) (s : MemSt nD τ sig (Elt F)) : Prop :=
  s.mem ((c : Thread nD τ).loc main_v9) = glue (D m c).out
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)

theorem read_out (c : Dev nD) (s' : Phys nD τ sig (Elt F)) :
    (iprop(outOf m c ∗ past m c ∗ SI s') : sProp 𝕄) ⊢ |={Set.univ}=> iprop(⌜QY m c s'.mem⌝ ∗ SI s') := by
  unfold outOf past own
  rw [owns_whole, V_arg m c main_arg0 (by decide), V_arg m c main_arg1 (by decide), V_arg m c main_arg2 (by decide),
    V_arg m c main_arg3 (by decide), V_arg m c main_arg4 (by decide)]
  iintro ⟨H, ⟨H0, H1, H2, H3, H4⟩, HSI⟩
  icombine HSI H gives %h
  icombine HSI H0 gives %h0
  icombine HSI H1 gives %h1
  icombine HSI H2 gives %h2
  icombine HSI H3 gives %h3
  icombine HSI H4 gives %h4
  imodintro
  isplitr
  · ipureintro
    exact ⟨Buf.eq_of_forall_mem_univ h, Buf.eq_of_forall_mem_univ h0, Buf.eq_of_forall_mem_univ h1, Buf.eq_of_forall_mem_univ h2,
      Buf.eq_of_forall_mem_univ h3, Buf.eq_of_forall_mem_univ h4⟩
  iexact HSI

theorem past_of (c : Dev nD) : (iprop(Pipeline.unscopedRest spec0 c (V m c) ∗ Pipeline.ownSems0 osem c) : sProp 𝕄) ⊢ iprop(into m c ∗ past m c) := by
  rw [unscopedRest0_eq]
  unfold into past own
  rw [owns_whole, owns_whole, owns_whole, owns_whole]
  iintro ⟨⟨H0, H1, H2, H3, H4, A, -, -, B, -, C, -, R⟩, S⟩
  isplitl [A B C R S]
  · isplitl [A B C R]
    · isplitl [A]; · iexact A
      isplitl [B]; · iexact B
      isplitl [C]; · iexact C
      iexact R
    iexact S
  isplitl [H0]; · iexact H0
  isplitl [H1]; · iexact H1
  isplitl [H2]; · iexact H2
  isplitl [H3]; · iexact H3
  iexact H4

set_option backward.isDefEq.respectTransparency.types false in
set_option maxHeartbeats 800000 in
/-- Every run ends, with the result as computed, the arguments unchanged and every counter at zero. -/
theorem run_main : θ_run defs (onTc (τ := τ) (main (F := F))) (s₀ m ρ) (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀ (F := F))
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs (0 : Fin 1) defs₀ 𝒱₀ m main hostOps0 hostOps0_sub hostOps0_fresh main_chain)
    (hA := fun _ _ => rfl)
    (X := into m) (Y := outOf m) (Z := past m)
    (hX := fun c => by
      iintro ⟨H0, HS, -, -, -⟩; imodintro
      iapply (past_of m c)
      isplitl [H0]; · iexact H0
      iexact HS)
    (hin := fun c => by
      rw [scopedRest0_eq, show (dats m 0 c).Φ 0 = Φ m c 0 from rfl]
      exact Φ_in m c)
    (hout := fun c => by
      rw [scopedRest0_eq, show (dats m 0 c).Φ (Fin.last (cfg0 (F := F)).N) = Φ m c 1 from rfl]
      exact Φ_out m c)
    (QY := QY m)
    (hY := read_out m)
    (hQ := fun _ hh hz => ⟨fun c => (hh c).2, hz⟩)

end Cert.Mlp
-- ==== Proof.Values.lean ====
/- What the kernel computes, over the extended reals: every row of the result is the MLP of its row. -/
module

public import proofs.«01_k».proof.Proof.State
public import Idealize.ShloMosaic.PureOps.Ideal
public import Idealize.ShloMosaic.Lib.Pointwise
public import Idealize.ShloMosaic.Lib.Pipeline.ValueKit.Acc

@[expose] public section

set_option maxRecDepth 16384

noncomputable section

namespace Cert.Mlp

open Cert.KernelIdeal Cert.KernelIdeal.Gen
open Idealize.ShloMosaic
open Idealize.ShloMosaic.Ring (sl bk)

/-! ### The MLP of a row -/

/-- A row over its root mean square, times a gain. -/
def nrm (x g : Fin 2048 → EReal) (j : Fin 2048) : EReal :=
  x j * Ideal.rsqrt (Ideal.div (∑ k, x k * x k) (Ideal.ofBits .f32 0x45000000#32) + Ideal.ofBits .f32 0x358637BD#32) * g j
/-- One hidden unit: the square of a product where it is positive, else zero. -/
def act {n : ℕ} (u : Fin 2048 → EReal) (A : Fin 2048 → Fin n → EReal) (f : Fin n) : EReal :=
  max (∑ k, u k * A k f) 0 * max (∑ k, u k * A k f) 0
/-- The hidden units through the second weight. -/
def ffn {n : ℕ} (u : Fin 2048 → EReal) (A : Fin 2048 → Fin n → EReal) (B : Fin n → Fin 2048 → EReal) (j : Fin 2048) : EReal :=
  ∑ f, act u A f * B f j
/-- The layer's second half: the row and the normed MLP of the normed row. -/
def mlp (x g1 g2 : Fin 2048 → EReal) (A : Fin 2048 → Fin 8192 → EReal) (B : Fin 8192 → Fin 2048 → EReal) (j : Fin 2048) : EReal :=
  x j + nrm (ffn (nrm x g1) A B) g2 j

/-- Row `r` of an array of rows. -/
abbrev row {n l : ℕ} (X : (⟨2, ![n, l]⟩ : Shape).Idx → EReal) (r : Fin n) (k : Fin l) : EReal := X (ix2 r k)

/-- Four blocks of hidden units are all of them. -/
theorem ffn_blocks (u : Fin 2048 → EReal) (A : Fin 2048 → Fin 8192 → EReal) (B : Fin 8192 → Fin 2048 → EReal)
    (A' : Fin 4 → Fin 2048 → Fin 2048 → EReal) (B' : Fin 4 → Fin 2048 → Fin 2048 → EReal)
    (hA : ∀ (b : Fin 4) (k f : Fin 2048) (h : b.val * 2048 + f.val < 8192), A' b k f = A k ⟨b.val * 2048 + f.val, h⟩)
    (hB : ∀ (b : Fin 4) (f j : Fin 2048) (h : b.val * 2048 + f.val < 8192), B' b f j = B ⟨b.val * 2048 + f.val, h⟩ j) (j : Fin 2048) :
    ∑ b : Fin 4, ffn u (A' b) (B' b) j = ffn u A B j := by
  unfold ffn
  refine Fin.sum_mul_add_congr (fun b f h => ?_) (by decide)
  rw [hB b f j h]
  unfold act
  simp only [hA b _ f h]

/-! ### The pieces of a step -/

theorem pay1_row (X : S256x2048.Idx → Elt Ideal .f32) (g : S1x2048.Idx → Elt Ideal .f32) (r : Fin 256) (j : Fin 2048) :
    k0_pay1 (F := Ideal) X g (ix2 r j) = nrm (row X r) (row g 0) j := by
  pointwise [k0_pay1]
  rfl
theorem pay4_row (X : S256x2048.Idx → Elt Ideal .f32) (g : S1x2048.Idx → Elt Ideal .f32) (r : Fin 256) (j : Fin 2048) :
    k0_pay4 (F := Ideal) (k0_pay2 X) (k0_pay3 g) (ix2 r j) = nrm (row X r) (row g 0) j := by
  pointwise [k0_pay4, k0_pay2, k0_pay3]
  rfl
theorem pay5_row (u : S256x2048.Idx → Elt Ideal .bf16) (A B : S2048x2048.Idx → Elt Ideal .bf16) (r : Fin 256) (j : Fin 2048) :
    k0_pay5 (F := Ideal) u (w3 A) (w3 B) (ix2 r j) = ffn (row u r) (row A) (row B) j := by
  pointwise [k0_pay5, w3]
  rfl
theorem pay6_row (u : S256x2048.Idx → Elt Ideal .bf16) (A B : S2048x2048.Idx → Elt Ideal .bf16) (r : Fin 256) (j : Fin 2048) :
    k0_pay6 (F := Ideal) u (w3 A) (w3 B) (ix2 r j) = ffn (row u r) (row A) (row B) j := by
  pointwise [k0_pay6, w3]
  rfl
theorem pay12_row (X : S512x2048.Idx → Elt Ideal .f32) (u : S512x2048.Idx → Elt Ideal .bf16) (A B : S2048x2048.Idx → Elt Ideal .bf16)
    (r : Fin 512) (j : Fin 2048) :
    o2 (k0_pay12 (F := Ideal) (o3 X) u (w3 A) (w3 B)) (ix2 r j) = X (ix2 r j) + ffn (row u r) (row A) (row B) j := by
  pointwise [k0_pay12, o2, o3, w3]
  rfl
theorem pay7_row (S : S256x2048.Idx → Elt Ideal .f32) (u : S256x2048.Idx → Elt Ideal .bf16) (A B : S2048x2048.Idx → Elt Ideal .bf16)
    (X : S256x2048.Idx → Elt Ideal .f32) (g : S1x2048.Idx → Elt Ideal .f32) (r : Fin 256) (j : Fin 2048) :
    k0_pay7 (F := Ideal) S u (w3 A) (w3 B) X g (ix2 r j)
      = X (ix2 r j) + nrm (fun k => S (ix2 r k) + ffn (row u r) (row A) (row B) k) (row g 0) j := by
  pointwise [k0_pay7, w3]
  rfl
theorem pay13_row (S : S256x2048.Idx → Elt Ideal .f32) (u : S256x2048.Idx → Elt Ideal .bf16) (A B : S2048x2048.Idx → Elt Ideal .bf16)
    (X : S256x2048.Idx → Elt Ideal .f32) (g : S1x2048.Idx → Elt Ideal .f32) (r : Fin 256) (j : Fin 2048) :
    k0_pay13 (F := Ideal) (k0_pay8 S u (w3 A) (w3 B)) (k0_pay9 X) (k0_pay10 g) (k0_pay11 S u (w3 A) (w3 B)) (ix2 r j)
      = X (ix2 r j) + nrm (fun k => S (ix2 r k) + ffn (row u r) (row A) (row B) k) (row g 0) j := by
  pointwise [k0_pay13, k0_pay8, k0_pay9, k0_pay10, k0_pay11, w3]
  rfl

/-! ### Rows of a half, rows of a block -/

section Halves

variable {α : Type}

theorem lo_ix (X : S512x2048.Idx → α) (r : Fin 256) (j : Fin 2048) : lo X (ix2 r j) = X (ix2 ⟨r.val, by omega⟩ j) := by
  unfold lo
  congr 1
  funext a
  fin_cases a <;> exact Fin.ext (by show 0 + 1 * _ = _; rw [Nat.one_mul, Nat.zero_add]; rfl)
theorem hi_ix (X : S512x2048.Idx → α) (r : Fin 256) (j : Fin 2048) : hi X (ix2 r j) = X (ix2 ⟨256 + r.val, by omega⟩ j) := by
  unfold hi
  congr 1
  funext a
  fin_cases a
  · exact Fin.ext (by show 256 + 1 * _ = _; rw [Nat.one_mul]; rfl)
  · exact Fin.ext (by show 0 + 1 * _ = _; rw [Nat.one_mul, Nat.zero_add]; rfl)
theorem halves_lo_hi (X : S512x2048.Idx → α) : halves (lo X) (hi X) = X := by
  rw [← overlay_halves X (lo X) (hi X)]
  funext i
  by_cases h : i ∈ rHi.set
  · obtain ⟨j, rfl⟩ := rHi.exists_idx_of_mem h
    exact Rect.overlay_emb _ _ _ j
  · rw [Rect.overlay_of_not_mem _ _ _ h]
    obtain ⟨j, rfl⟩ := rLo.exists_idx_of_mem ((cover i).resolve_right h)
    exact Rect.overlay_emb _ _ _ j
/-- A block is known by its halves. -/
theorem halves_eq (p q : S256x2048.Idx → α) (X : S512x2048.Idx → α)
    (hp : ∀ (r : Fin 256) (j : Fin 2048), p (ix2 r j) = X (ix2 ⟨r.val, by omega⟩ j))
    (hq : ∀ (r : Fin 256) (j : Fin 2048), q (ix2 r j) = X (ix2 ⟨256 + r.val, by omega⟩ j)) : halves p q = X := by
  rw [← halves_lo_hi X]
  congr 1
  · funext i; idx_vars i; rw [hp, lo_ix]
  · funext i; idx_vars i; rw [hq, hi_ix]

end Halves

/-! ### The row blocks -/

variable (H : Fin 32 → S512x2048.Idx → Elt Ideal .f32) (Up Dn : Fin 4 → S2048x2048.Idx → Elt Ideal .bf16)
variable (g1 g2 : S1x2048.Idx → Elt Ideal .f32)

/-- The normed block. -/
def uI (i : Fin 32) : S512x2048.Idx → EReal := fun x => nrm (row (H i) (x 0)) (row g1 0) (x 1)
theorem uV_eq (i : Fin 32) : uV (F := Ideal) H g1 i = uI H g1 i := by
  refine halves_eq _ _ _ (fun r j => ?_) (fun r j => ?_)
  · rw [pay1_row]; unfold uI row; simp only [lo_ix]; rfl
  · rw [pay4_row]; unfold uI row; simp only [hi_ix]; rfl

/-- What width block `b` adds to row block `i`. -/
def addI (i : Fin 32) (b : Fin 4) : S512x2048.Idx → EReal :=
  fun x => ffn (nrm (row (H i) (x 0)) (row g1 0)) (row (Up b)) (row (Dn b)) (x 1)

theorem acc1_eq (i : Fin 32) : accV (F := Ideal) H Up Dn g1 i 1 = addI H Up Dn g1 i 0 := by
  unfold accV
  refine halves_eq _ _ _ (fun r j => ?_) (fun r j => ?_)
  · rw [pay5_row, uV_eq]; unfold addI row; simp only [lo_ix]; rfl
  · rw [pay6_row, uV_eq]; unfold addI row; simp only [hi_ix]; rfl
theorem acc_succ (i : Fin 32) (k : ℕ) (x : S512x2048.Idx) :
    accV (F := Ideal) H Up Dn g1 i (k + 2) x = accV (F := Ideal) H Up Dn g1 i (k + 1) x + addI H Up Dn g1 i (bk 4 (k + 1)) x := by
  idx_vars x
  show o2 _ _ = _
  rw [pay12_row, uV_eq]
  rfl
theorem acc3_eq (i : Fin 32) (x : S512x2048.Idx) :
    accV (F := Ideal) H Up Dn g1 i 3 x = addI H Up Dn g1 i 0 x + addI H Up Dn g1 i 1 x + addI H Up Dn g1 i 2 x := by
  rw [acc_succ, acc_succ, acc1_eq]
  rfl

theorem out_row (i : Fin 32) (r : Fin 512) (j : Fin 2048) :
    outV (F := Ideal) H Up Dn g1 g2 i (ix2 r j)
      = H i (ix2 r j) + nrm (fun k => ∑ b : Fin 4, addI H Up Dn g1 i b (ix2 r k)) (row g2 0) j := by
  have key : outV (F := Ideal) H Up Dn g1 g2 i
      = fun x => H i (ix2 (x 0) (x 1)) + nrm (fun k => accV (F := Ideal) H Up Dn g1 i 3 (ix2 (x 0) k) + addI H Up Dn g1 i 3 (ix2 (x 0) k)) (row g2 0) (x 1) := by
    refine halves_eq _ _ _ (fun r j => ?_) (fun r j => ?_)
    · rw [pay7_row, uV_eq]; unfold addI row; simp only [lo_ix]; rfl
    · rw [pay13_row, uV_eq]; unfold addI row; simp only [hi_ix]; rfl
  rw [key]
  simp only [acc3_eq, Fin.sum_univ_four]
  rfl

/-- A row of the result is the MLP of its row. -/
theorem out_mlp (A : Fin 2048 → Fin 8192 → EReal) (B : Fin 8192 → Fin 2048 → EReal)
    (hA : ∀ (b : Fin 4) (k f : Fin 2048) (h : b.val * 2048 + f.val < 8192), Up b (ix2 k f) = A k ⟨b.val * 2048 + f.val, h⟩)
    (hB : ∀ (b : Fin 4) (f j : Fin 2048) (h : b.val * 2048 + f.val < 8192), Dn b (ix2 f j) = B ⟨b.val * 2048 + f.val, h⟩ j)
    (i : Fin 32) (r : Fin 512) (j : Fin 2048) :
    outV (F := Ideal) H Up Dn g1 g2 i (ix2 r j) = mlp (row (H i) r) (row g1 0) (row g2 0) A B j := by
  rw [out_row]
  unfold mlp
  have e : (fun k => ∑ b : Fin 4, addI H Up Dn g1 i b (ix2 r k)) = ffn (nrm (row (H i) r) (row g1 0)) A B := by
    funext k
    exact ffn_blocks _ A B (fun b => row (Up b)) (fun b => row (Dn b)) hA hB k
  rw [e]

end Cert.Mlp
-- ==== Proof.Tie.lean ====
/- The kernel's result and the reference's, element by element. -/
module

public import proofs.«01_k».proof.Proof.Run
public import proofs.«01_k».proof.Proof.Values
public import proofs.«01_k».proof.Proof.Gen.ReferenceIdeal.Run
public import Idealize.ShloMosaic.Lib.Pipeline.ValueKit
public import Idealize.ShloMosaic.Lib.Tactic.CleanTypes

@[expose] public section

set_option maxRecDepth 16384

noncomputable section

namespace Cert.Mlp

open Cert.KernelIdeal Cert.KernelIdeal.Gen
open Idealize.ShloMosaic Idealize.ShloMosaic.TcCoe

/-- The MLP of token `r`, from the five arguments. -/
def token (h : S8x2048x2048.Idx → EReal) (g1 : S1x2048.Idx → EReal) (up : S1x2048x8192.Idx → EReal) (dn : S1x8192x2048.Idx → EReal)
    (g2 : S1x2048.Idx → EReal) (r : Fin 16384) (j : Fin 2048) : EReal :=
  mlp (fun k => h (ix3 ⟨r.val / 2048, by omega⟩ ⟨r.val % 2048, by omega⟩ k)) (row g1 0) (row g2 0)
    (fun k f => up (ix3 0 k f)) (fun f k => dn (ix3 0 f k)) j

/-! ### The reference -/

theorem ref_token (m : (ℓ : Loc Cert.ReferenceIdeal.nD Cert.ReferenceIdeal.τ Cert.ReferenceIdeal.sig) → Buf (Elt Ideal) ℓ)
    (c : Dev Cert.ReferenceIdeal.nD) (r : Fin 16384) (j : Fin 2048) :
    Cert.ReferenceIdeal.Value.res_out0 (F := Ideal) m c (ix2 r j)
      = token (m ((c : Thread Cert.ReferenceIdeal.nD Cert.ReferenceIdeal.τ).loc Cert.ReferenceIdeal.main_arg0))
          (m ((c : Thread Cert.ReferenceIdeal.nD Cert.ReferenceIdeal.τ).loc Cert.ReferenceIdeal.main_arg1))
          (m ((c : Thread Cert.ReferenceIdeal.nD Cert.ReferenceIdeal.τ).loc Cert.ReferenceIdeal.main_arg2))
          (m ((c : Thread Cert.ReferenceIdeal.nD Cert.ReferenceIdeal.τ).loc Cert.ReferenceIdeal.main_arg3))
          (m ((c : Thread Cert.ReferenceIdeal.nD Cert.ReferenceIdeal.τ).loc Cert.ReferenceIdeal.main_arg4)) r j := by
  unfold Cert.ReferenceIdeal.Value.res_out0 Cert.ReferenceIdeal.Value.res_main_v35
  clean_types
  pointwise
  rfl

/-! ### The arrays the kernel is given -/

variable (m : (ℓ : Loc nD τ sig) → Buf (Elt Ideal) ℓ)

theorem rows_at (c : Dev nD) (r : Fin 16384) (j : Fin 2048) :
    V (F := Ideal) m c main_v0 (ix2 r j) = m ((c : Thread nD τ).loc main_arg0) (ix3 ⟨r.val / 2048, by omega⟩ ⟨r.val % 2048, by omega⟩ j) := by
  have e : V m c main_v0 = shapeCast S16384x2048 (m ((c : Thread nD τ).loc main_arg0)) shapeCasts_S8x2048x2048_S16384x2048 := by
    unfold V V0 hostOps0
    after_results_simp <;> rfl
  rw [e]
  clean_types
  pointwise
theorem up_at (c : Dev nD) (r : Fin 2048) (j : Fin 8192) :
    V (F := Ideal) m c main_v4 (ix2 r j) = m ((c : Thread nD τ).loc main_arg2) (ix3 0 r j) := by
  have e : V m c main_v4 = (truncf (F := Ideal) .bf16 (shapeCast S2048x8192 (m ((c : Thread nD τ).loc main_arg2))
      shapeCasts_S1x2048x8192_S2048x8192 : FVec Ideal S2048x8192 .f32) bitsLt_bf16_f32 : FVec Ideal S2048x8192 .bf16) := by
    unfold V V0 hostOps0
    after_results_simp <;> rfl
  rw [e]
  clean_types
  pointwise
theorem dn_at (c : Dev nD) (r : Fin 8192) (j : Fin 2048) :
    V (F := Ideal) m c main_v6 (ix2 r j) = m ((c : Thread nD τ).loc main_arg3) (ix3 0 r j) := by
  have e : V m c main_v6 = (truncf (F := Ideal) .bf16 (shapeCast S8192x2048 (m ((c : Thread nD τ).loc main_arg3))
      shapeCasts_S1x8192x2048_S8192x2048 : FVec Ideal S8192x2048 .f32) bitsLt_bf16_f32 : FVec Ideal S8192x2048 .bf16) := by
    unfold V V0 hostOps0
    after_results_simp <;> rfl
  rw [e]
  clean_types
  pointwise
theorem gain1_at (c : Dev nD) (j : Fin 2048) : (D (F := Ideal) m c).g1 (ix2 0 j) = m ((c : Thread nD τ).loc main_arg1) (ix2 0 j) := by
  have e : V m c main_v2 = (broadcastInDim S1x2048 ![1] bcast_S2048_S1x2048_1 (shapeCast S2048 (m ((c : Thread nD τ).loc main_arg1))
      shapeCasts_S1x2048_S2048 : FVec Ideal S2048 .f32) : FVec Ideal S1x2048 .f32) := by
    unfold V V0 hostOps0
    after_results_simp <;> rfl
  have h : V (F := Ideal) m c main_v2 (ix2 0 j) = m ((c : Thread nD τ).loc main_arg1) (ix2 0 j) := by
    rw [e]
    clean_types
    pointwise
  refine Eq.trans ?_ h
  have i0 : win0_0.index t0_0 0 = 0 := by decide +kernel
  have i1 : win0_0.index t0_0 1 = 0 := by decide +kernel
  show iblk m c 0 t0_0 _ = _
  blk_ext [iblk, i0, i1]
theorem gain2_at (c : Dev nD) (j : Fin 2048) : (D (F := Ideal) m c).g2 (ix2 0 j) = m ((c : Thread nD τ).loc main_arg4) (ix2 0 j) := by
  have e : V m c main_v8 = (broadcastInDim S1x2048 ![1] bcast_S2048_S1x2048_1 (shapeCast S2048 (m ((c : Thread nD τ).loc main_arg4))
      shapeCasts_S1x2048_S2048 : FVec Ideal S2048 .f32) : FVec Ideal S1x2048 .f32) := by
    unfold V V0 hostOps0
    after_results_simp <;> rfl
  have h : V (F := Ideal) m c main_v8 (ix2 0 j) = m ((c : Thread nD τ).loc main_arg4) (ix2 0 j) := by
    rw [e]
    clean_types
    pointwise
  refine Eq.trans ?_ h
  have i0 : win0_1.index t0_0 0 = 0 := by decide +kernel
  have i1 : win0_1.index t0_0 1 = 0 := by decide +kernel
  show iblk m c 1 t0_0 _ = _
  blk_ext [iblk, i0, i1]

/-! ### The blocks' places -/

theorem rBlk_ix (b : Fin 32) (r : Fin 512) (j : Fin 2048) : (rBlk b).emb (ix2 r j) = ix2 ⟨512 * b.val + r.val, by omega⟩ j := by
  funext a
  fin_cases a
  · exact Fin.ext (by show 512 * b.val + 1 * _ = _; rw [Nat.one_mul]; rfl)
  · exact Fin.ext (by show 0 + 1 * _ = _; rw [Nat.one_mul, Nat.zero_add]; rfl)
theorem rUp_ix (b : Fin 4) (r j : Fin 2048) (h : b.val * 2048 + j.val < 8192) : (rUp b).emb (ix2 r j) = ix2 r ⟨b.val * 2048 + j.val, h⟩ := by
  funext a
  fin_cases a
  · exact Fin.ext (by show 0 + 1 * _ = _; rw [Nat.one_mul, Nat.zero_add]; rfl)
  · exact Fin.ext (by show 2048 * b.val + 1 * _ = _; rw [Nat.one_mul, Nat.mul_comm]; rfl)
theorem rDn_ix (b : Fin 4) (r j : Fin 2048) (h : b.val * 2048 + r.val < 8192) : (rDn b).emb (ix2 r j) = ix2 ⟨b.val * 2048 + r.val, h⟩ j := by
  funext a
  fin_cases a
  · exact Fin.ext (by show 2048 * b.val + 1 * _ = _; rw [Nat.one_mul, Nat.mul_comm]; rfl)
  · exact Fin.ext (by show 0 + 1 * _ = _; rw [Nat.one_mul, Nat.zero_add]; rfl)
theorem glue_ix {α : Type} (R : Fin 32 → S512x2048.Idx → α) (r : Fin 16384) (j : Fin 2048) :
    glue R (ix2 r j) = R ⟨r.val / 512, by omega⟩ (ix2 ⟨r.val % 512, by omega⟩ j) := by
  have e : (ix2 r j : S16384x2048.Idx) = (rBlk ⟨r.val / 512, by omega⟩).emb (ix2 ⟨r.val % 512, by omega⟩ j) := by
    rw [rBlk_ix]
    exact congrArg (fun q => (ix2 q j : S16384x2048.Idx)) (Fin.ext (by show r.val = 512 * (r.val / 512) + r.val % 512; omega))
  rw [e, glue_emb]

/-! ### The kernel -/

theorem kernel_token (c : Dev nD) (r : Fin 16384) (j : Fin 2048) :
    glue (D (F := Ideal) m c).out (ix2 r j)
      = token (m ((c : Thread nD τ).loc main_arg0)) (m ((c : Thread nD τ).loc main_arg1)) (m ((c : Thread nD τ).loc main_arg2))
          (m ((c : Thread nD τ).loc main_arg3)) (m ((c : Thread nD τ).loc main_arg4)) r j := by
  rw [glue_ix]
  refine (out_mlp _ _ _ _ _ (fun k f => m ((c : Thread nD τ).loc main_arg2) (ix3 0 k f)) (fun f k => m ((c : Thread nD τ).loc main_arg3) (ix3 0 f k))
    (fun b k f h => ?_) (fun b f k h => ?_) _ _ _).trans ?_
  · exact (congrArg (V (F := Ideal) m c main_v4) (rUp_ix b k f h)).trans (up_at m c k _)
  · exact (congrArg (V (F := Ideal) m c main_v6) (rDn_ix b f k h)).trans (dn_at m c _ k)
  · unfold token
    have hx : (row ((D (F := Ideal) m c).H ⟨r.val / 512, by omega⟩) ⟨r.val % 512, by omega⟩ : Fin 2048 → EReal)
        = fun k => m ((c : Thread nD τ).loc main_arg0) (ix3 ⟨r.val / 2048, by omega⟩ ⟨r.val % 2048, by omega⟩ k) := by
      funext k
      refine (congrArg (V (F := Ideal) m c main_v0) ((rBlk_ix _ _ k).trans (congrArg (fun q => (ix2 q k : S16384x2048.Idx)) (Fin.ext ?_)))).trans (rows_at m c r k)
      show 512 * (r.val / 512) + r.val % 512 = r.val
      omega
    have h1 : (row (D (F := Ideal) m c).g1 0 : Fin 2048 → EReal) = row (m ((c : Thread nD τ).loc main_arg1)) 0 := funext (gain1_at m c)
    have h2 : (row (D (F := Ideal) m c).g2 0 : Fin 2048 → EReal) = row (m ((c : Thread nD τ).loc main_arg4)) 0 := funext (gain2_at m c)
    rw [hx, h1, h2]

end Cert.Mlp
-- ==== Proof.In.Names.lean ====
/- The projection kernel: what it works on, by name.

The kernel keeps the weight in HBM and narrows it once, at its first point, into a scratch buffer: 64 blocks of
32 rows pass through a buffer of four slots, three blocks ahead of the one that is read. `blk`, `slot` and
`sem` are the blocks, the slots and the slots' semaphores; `Bufs` are the sixteen staged buffers, which the
pipeline picks anew at each point. -/
module

public import proofs.«01_k».proof.Proof.Rules
public import proofs.«01_k».proof.Proof.Gen.Kernel2Ideal.Loops
public import Idealize.ShloMosaic.Lib.Ring
public import Idealize.ShloMosaic.Lib.Memref

@[expose] public section

set_option maxRecDepth 16384

noncomputable section

namespace Cert.InProj

open Cert.Kernel2Ideal Cert.Kernel2Ideal.Gen
open Idealize.ShloMosaic
open Idealize.ShloMosaic.TcCoe Idealize.ShloMosaic.Tactic
open Idealize.ShloMosaic.Ring (sl bk)

/-- The staged buffers: seven operands, nine results. -/
structure Bufs where
  x : Memref sig .tc .vmem S256x2048 .f32
  hx : x.IsWhole
  g : Memref sig .tc .vmem S1x2048 .f32
  hg : g.IsWhole
  p : Memref sig .tc .vmem S16x2048 .f32
  hp : p.IsWhole
  q : Memref sig .tc .vmem S16x2048 .f32
  hq : q.IsWhole
  o : Memref sig .tc .vmem S32x2048 .f32
  ho : o.IsWhole
  u : Memref sig .tc .vmem S32x8192 .f32
  hu : u.IsWhole
  d : Memref sig .tc .vmem S128x2048 .f32
  hd : d.IsWhole
  z : Memref sig .tc .vmem S256x1024 .f32
  hz : z.IsWhole
  a : Memref sig .tc .vmem S256x1024 .f32
  ha : a.IsWhole
  s : Memref sig .tc .vmem S256x2048 .bf16
  hs : s.IsWhole
  r : Memref sig .tc .vmem S256x2048 .bf16
  hr : r.IsWhole
  p' : Memref sig .tc .vmem S16x2048 .bf16
  hp' : p'.IsWhole
  q' : Memref sig .tc .vmem S16x2048 .bf16
  hq' : q'.IsWhole
  o' : Memref sig .tc .vmem S32x2048 .bf16
  ho' : o'.IsWhole
  u' : Memref sig .tc .vmem S32x8192 .bf16
  hu' : u'.IsWhole
  d' : Memref sig .tc .vmem S128x2048 .bf16
  hd' : d'.IsWhole

/-- A part of the kernel on what it works on. -/
abbrev app {β : Type 1}
    (f : (arg1 : Memref sig .tc .vmem S256x2048 .f32) → (harg1 : arg1.IsWhole) → (arg2 : Memref sig .tc .vmem S1x2048 .f32) → (harg2 : arg2.IsWhole) →
      (arg3 : Memref sig .tc .hbm S2048x7168 .f32) → (harg3 : arg3.IsWhole) → (arg4 : Memref sig .tc .vmem S16x2048 .f32) → (harg4 : arg4.IsWhole) →
      (arg5 : Memref sig .tc .vmem S16x2048 .f32) → (harg5 : arg5.IsWhole) → (arg6 : Memref sig .tc .vmem S32x2048 .f32) → (harg6 : arg6.IsWhole) →
      (arg7 : Memref sig .tc .vmem S32x8192 .f32) → (harg7 : arg7.IsWhole) → (arg8 : Memref sig .tc .vmem S128x2048 .f32) → (harg8 : arg8.IsWhole) →
      (arg9 : Memref sig .tc .vmem S256x1024 .f32) → (harg9 : arg9.IsWhole) → (arg10 : Memref sig .tc .vmem S256x1024 .f32) → (harg10 : arg10.IsWhole) →
      (arg11 : Memref sig .tc .vmem S256x2048 .bf16) → (harg11 : arg11.IsWhole) → (arg12 : Memref sig .tc .vmem S256x2048 .bf16) → (harg12 : arg12.IsWhole) →
      (arg13 : Memref sig .tc .vmem S16x2048 .bf16) → (harg13 : arg13.IsWhole) → (arg14 : Memref sig .tc .vmem S16x2048 .bf16) → (harg14 : arg14.IsWhole) →
      (arg15 : Memref sig .tc .vmem S32x2048 .bf16) → (harg15 : arg15.IsWhole) → (arg16 : Memref sig .tc .vmem S32x8192 .bf16) → (harg16 : arg16.IsWhole) →
      (arg17 : Memref sig .tc .vmem S128x2048 .bf16) → (harg17 : arg17.IsWhole) → (arg18 : Memref sig .tc .vmem S2048x7168 .bf16) → (harg18 : arg18.IsWhole) →
      (arg19 : Memref sig .tc .vmem S4x32x7168 .f32) → (harg19 : arg19.IsWhole) → (arg20 : DmaSems sig S4) → β) (B : Bufs) : β :=
  f B.x B.hx B.g B.hg (Memref.whole main_v3) (Memref.isWhole_whole _) B.p B.hp B.q B.hq B.o B.ho B.u B.hu B.d B.hd B.z B.hz B.a B.ha B.s B.hs B.r B.hr
    B.p' B.hp' B.q' B.hq' B.o' B.ho' B.u' B.hu' B.d' B.hd'
    (Memref.whole cc0_scratch0) (Memref.isWhole_whole _) (Memref.whole cc0_scratch1) (Memref.isWhole_whole _) cc0_scratch2

/-! ### The blocks and the slots -/

theorem inbSem (s : Fin 4) : ∀ a, (![s.val] : Fin 1 → ℕ) a + S1.size a ≤ S4.size a := by
  have := s.isLt; intro a; fin_cases a; show s.val + 1 ≤ 4; omega
theorem inbSlot (s : Fin 4) : ∀ a, (![s.val, 0, 0] : Fin 3 → ℕ) a + S1x32x7168.size a ≤ S4x32x7168.size a := by
  have := s.isLt; intro a; fin_cases a
  · show s.val + 1 ≤ 4; omega
  · show 0 + 32 ≤ 32; omega
  · show 0 + 7168 ≤ 7168; omega
theorem inbBlk (b : Fin 64) : ∀ a, (![32 * b.val, 0] : Fin 2 → ℕ) a + S32x7168.size a ≤ S2048x7168.size a := by
  have := b.isLt; intro a; fin_cases a
  · show 32 * b.val + 32 ≤ 2048; omega
  · show 0 + 7168 ≤ 7168; omega

abbrev rBlk (b : Fin 64) : Rect S2048x7168 := Rect.unit (s := S2048x7168) ![32 * b.val, 0] S32x7168.size (inbBlk b)
abbrev rSlot (s : Fin 4) : Rect S4x32x7168 := Rect.unit (s := S4x32x7168) ![s.val, 0, 0] S1x32x7168.size (inbSlot s)

/-- The weight, its narrowed copy, and the buffer of four slots. -/
abbrev wM : Memref sig .tc .hbm S2048x7168 .f32 := Memref.whole main_v3
abbrev kM : Memref sig .tc .vmem S2048x7168 .bf16 := Memref.whole cc0_scratch0
abbrev gM : Memref sig .tc .vmem S4x32x7168 .f32 := Memref.whole cc0_scratch1

def blk (b : Fin 64) : Memref sig .tc .hbm S32x7168 .f32 := wM.slice (rBlk b) (fun _ => rfl)
abbrev slot (s : Fin 4) : Memref sig .tc .vmem S32x7168 .f32 := (gM.slice (rSlot s) (fun _ => rfl)).squeeze S32x7168 squeezes_S1x32x7168_S32x7168
def sem (s : Fin 4) : DmaSem sig := ((cc0_scratch2.slice (Rect.unit (s := S4) ![s.val] S1.size (inbSem s))).squeeze S_ squeezes_S1_S_).sem

/-! ### A slice as the program spells it -/

theorem sem_eq {off : Fin 1 → ℕ} {n : ℕ} (e : off = ![n % 4]) (hh) :
    ((cc0_scratch2.slice (Rect.unit (s := S4) off S1.size hh)).squeeze S_ squeezes_S1_S_).sem = sem (sl 4 n) := by subst e; rfl
theorem slot_eq {off : Fin 3 → ℕ} {n : ℕ} (e : off = ![n % 4, 0, 0]) (hh hs) :
    (gM.slice (Rect.unit (s := S4x32x7168) off S1x32x7168.size hh) hs).squeeze S32x7168 squeezes_S1x32x7168_S32x7168 = slot (sl 4 n) := by
  subst e; rfl
theorem blk_eq {off : Fin 2 → ℕ} {n : ℕ} (e : off = ![32 * n, 0]) (hn : n < 64) (hh hs) :
    wM.slice (Rect.unit (s := S2048x7168) off S32x7168.size hh) hs = blk (bk 64 n) := by
  subst e; exact Memref.slice_unit_congr _ (by rw [Ring.bk_val hn]) _ _ hs (fun _ => rfl)
theorem slotRect_eq {off : Fin 3 → ℕ} {n : ℕ} (e : off = ![n % 4, 0, 0]) (hh) :
    Rect.unit (s := S4x32x7168) off S1x32x7168.size hh = rSlot (sl 4 n) := by subst e; rfl

/-! ### The kernel's integers -/

theorem trips_eq : k0_t1_loop.trips = 64 := by decide +kernel
theorem ahead_iff : ∀ t : Fin k0_t1_loop.trips, k0_cond2 t = 1#1 ↔ t.val + 3 < 64 := by decide +kernel
theorem off1_eq : ∀ t : Fin k0_t1_loop.trips, k0_off1 t = ![(t.val + 3) % 4] := by decide +kernel
theorem off2_eq : ∀ t : Fin k0_t1_loop.trips, k0_off2 t = ![(t.val + 3) % 4, 0, 0] := by decide +kernel
theorem off3_eq : ∀ t : Fin k0_t1_loop.trips, k0_off3 t = ![32 * (t.val + 3), 0] := by decide +kernel
theorem off4_eq : ∀ t : Fin k0_t1_loop.trips, k0_off4 t = ![t.val % 4] := by decide +kernel
theorem off5_eq : ∀ t : Fin k0_t1_loop.trips, k0_off5 t = ![t.val % 4, 0, 0] := by decide +kernel
theorem off7_eq : ∀ t : Fin k0_t1_loop.trips, k0_off7 t = ![t.val % 4, 0, 0] := by decide +kernel
theorem off8_eq : ∀ t : Fin k0_t1_loop.trips, k0_off8 t = ![32 * t.val, 0] := by decide +kernel
theorem first_iff : ∀ i : grid0.Coords, k0_cond1 i = 1#1 ↔ (i 0).val = 0 := by decide +kernel

end Cert.InProj
-- ==== Proof.In.Ring.lean ====
/- The narrowing of the weight: what is held before each trip of its loop, and a trip.

Before trip `k` blocks `k`, `k + 1` and `k + 2` are on their way to their slots, slot `k + 3` is idle, every other
block of the weight is at home, and the narrowed copy holds the blocks before `k`. -/
module

public import proofs.«01_k».proof.Proof.In.Names
public import Idealize.ShloMosaic.Lib.Pipeline.Kit

@[expose] public section

set_option maxRecDepth 16384

noncomputable section

namespace Cert.InProj

open Cert.Mlp (own free cell waits fly free_intro ld st ldw issue land)
open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

/-- The resources: the pipeline library's, beside the counters of the kernel's own copies. -/
abbrev UU (nD : Nat) (τ : Topo) : Type := UR sig nD τ × Counters
local notation "𝕄" => MT nD τ sig Unit (Elt F) ℕ (UU nD τ) ℕ
abbrev 𝒱₀ : Variants := Variants.nat

/-- The weight narrowed. -/
def narrow (X : S2048x7168.Idx → Elt F .f32) : S2048x7168.Idx → Elt F .bf16 := fun i => (truncf .bf16 (X : FVec F S2048x7168 .f32) bitsLt_bf16_f32) i

section States

variable (c : Dev nD) (X : S2048x7168.Idx → Elt F .f32)

/-- The contents of a block of the weight. -/
def blkV (b : Fin 64) : S32x7168.Idx → Elt F .f32 := fun j => X ((rBlk b).emb j)

/-- Blocks at home. -/
def homes (A : Finset (Fin 64)) : sProp 𝕄 := bigSep A (fun b => own (c : Thread nD τ) (blk b) (blkV X b))

/-- A slot with nothing on its way to it. -/
def idle (n : ℕ) : sProp 𝕄 := iprop(free (c : Thread nD τ) (slot (sl 4 n)) ∗ cell (c : Thread nD τ) (sem (sl 4 n)))

/-- Block `n` on its way to its slot; past the last block, the idle slot. -/
def piece (n : ℕ) : sProp 𝕄 :=
  if n < 64 then fly (c : Thread nD τ) () (sem (sl 4 n)) (slot (sl 4 n)) (blk (bk 64 n)) (blkV X (bk 64 n)) else idle c n

/-- The blocks outside a range. -/
def away (lo hi : ℕ) : Finset (Fin 64) := Finset.univ.filter (fun b => b.val < lo ∨ hi ≤ b.val)

/-- The narrowed copy, done up to block `k`. -/
def done (k : ℕ) : sProp 𝕄 := iprop(∃ Y, ⌜∀ i : S2048x7168.Idx, (i 0).val < 32 * k → Y i = narrow X i⌝ ∗ own (c : Thread nD τ) kM Y)

/-- What is held before trip `k`. -/
def inv (k : ℕ) : sProp 𝕄 :=
  iprop(homes c X (away k (k + 3)) ∗ piece c X k ∗ piece c X (k + 1) ∗ piece c X (k + 2) ∗ idle c (k + 3) ∗ done c X k ∗ waits (c : Thread nD τ) ())

theorem homes_take {A : Finset (Fin 64)} {b : Fin 64} (h : b ∈ A) :
    (homes c X A : sProp 𝕄) = iprop(own (c : Thread nD τ) (blk b) (blkV X b) ∗ homes c X (A.erase b)) := by
  unfold homes
  conv_lhs => rw [← Finset.insert_erase h, bigSep_insert (Finset.notMem_erase _ _)]
  rfl

theorem away_take {k n : ℕ} (hk : k ≤ n) (hn : n < 64) :
    (homes c X (away k n) : sProp 𝕄) = iprop(own (c : Thread nD τ) (blk (bk 64 n)) (blkV X (bk 64 n)) ∗ homes c X (away k (n + 1))) := by
  have e : (away k n).erase (bk 64 n) = away k (n + 1) := by
    ext b
    simp only [away, Finset.mem_erase, Finset.mem_filter, Finset.mem_univ, true_and, ne_eq, Fin.ext_iff, Ring.bk_val hn]
    omega
  rw [homes_take c X (b := bk 64 n) (by simp only [away, Finset.mem_filter, Finset.mem_univ, true_and, Ring.bk_val hn]; omega), e]

theorem away_put {k n : ℕ} (hk : k < n) (hn : k < 64) :
    (homes c X (away (k + 1) n) : sProp 𝕄) = iprop(own (c : Thread nD τ) (blk (bk 64 k)) (blkV X (bk 64 k)) ∗ homes c X (away k n)) := by
  have e : (away (k + 1) n).erase (bk 64 k) = away k n := by
    ext b
    simp only [away, Finset.mem_erase, Finset.mem_filter, Finset.mem_univ, true_and, ne_eq, Fin.ext_iff, Ring.bk_val hn]
    omega
  rw [homes_take c X (b := bk 64 k) (by simp only [away, Finset.mem_filter, Finset.mem_univ, true_and, Ring.bk_val hn]; omega), e]

theorem away_past {k n : ℕ} (hn : 64 ≤ n) : away k n = away k (n + 1) := by
  ext b
  have := b.isLt
  simp only [away, Finset.mem_filter, Finset.mem_univ, true_and]
  omega

theorem piece_fly {n : ℕ} (h : n < 64) :
    (fly (c : Thread nD τ) () (sem (sl 4 n)) (slot (sl 4 n)) (blk (bk 64 n)) (blkV X (bk 64 n)) : sProp 𝕄) ⊢ piece c X n := by
  unfold piece; rw [if_pos h]

theorem piece_idle {n : ℕ} (h : ¬ n < 64) : (idle c n : sProp 𝕄) ⊢ piece c X n := by unfold piece; rw [if_neg h]

theorem idle_turn (n : ℕ) : (idle c (n + 4) : sProp 𝕄) = idle c n := by
  unfold idle
  rw [show sl 4 (n + 4) = sl 4 n from Fin.ext (by show (n + 4) % 4 = n % 4; omega)]

end States

/-- What a trip stores is its block of the narrowed weight. -/
theorem pay2_eq (X : S2048x7168.Idx → Elt F .f32) (b : Fin 64) (hc : S32x7168.ShapeCasts S1x32x7168) :
    (k0_pay2 (F := F) (shapeCast S1x32x7168 (blkV X b) hc) : S32x7168.Idx → Elt F .bf16) = fun j => narrow X ((rBlk b).emb j) := by
  funext j
  show (truncf .bf16 (shapeCast S32x7168 (shapeCast S1x32x7168 (blkV X b) hc) _ : FVec F S32x7168 .f32) bitsLt_bf16_f32)
      (Shape.reshapeEquiv _ j) = _
  rw [Shape.reshapeEquiv_self]
  have e : (shapeCast S32x7168 (shapeCast S1x32x7168 (blkV X b) hc) shapeCasts_S1x32x7168_S32x7168 : S32x7168.Idx → Elt F .f32) = blkV X b := by
    funext j
    show blkV X b (Shape.reshapeEquiv hc (Shape.reshapeEquiv _ j)) = _
    rw [Shape.reshapeEquiv_reshapeEquiv, Shape.reshapeEquiv_self]
  rw [e]
  rfl

theorem mem_rBlk (b : Fin 64) (i : S2048x7168.Idx) : i ∈ (rBlk b).set ↔ 32 * b.val ≤ (i 0).val ∧ (i 0).val < 32 * b.val + 32 := by
  rw [Rect.mem_set_unit]
  constructor
  · intro h; exact h 0
  · intro h a
    fin_cases a
    · exact h
    · exact ⟨Nat.zero_le _, by have := (i 1).isLt; show (i 1).val < 0 + 7168; have h7 : S2048x7168.size 1 = 7168 := rfl; omega⟩

/-- The narrowed copy after a trip's store. -/
theorem done_step {X : S2048x7168.Idx → Elt F .f32} {Y : S2048x7168.Idx → Elt F .bf16} {n : ℕ} (hn : n < 64)
    {off : Fin 2 → ℕ} (e : off = ![32 * n, 0]) (hh) (hc : S32x7168.ShapeCasts S1x32x7168)
    (h : ∀ i : S2048x7168.Idx, (i 0).val < 32 * n → Y i = narrow X i) :
    ∀ i : S2048x7168.Idx, (i 0).val < 32 * (n + 1) →
      (Rect.unit (s := S2048x7168) off S32x7168.size hh).overlay Y (k0_pay2 (F := F) (shapeCast S1x32x7168 (blkV X (bk 64 n)) hc)) i = narrow X i := by
  have hb : (bk 64 n).val = n := Ring.bk_val hn
  obtain rfl : off = ![32 * (bk 64 n).val, 0] := by rw [e, hb]
  intro i hi
  rw [pay2_eq]
  by_cases hm : i ∈ (rBlk (bk 64 n)).set
  · obtain ⟨j, rfl⟩ := (rBlk (bk 64 n)).exists_idx_of_mem hm
    change (rBlk (bk 64 n)).overlay Y _ ((rBlk (bk 64 n)).emb j) = _
    rw [Rect.overlay_emb]; rfl
  · rw [Rect.overlay_of_not_mem _ _ _ hm]
    rw [mem_rBlk, hb] at hm
    exact h i (by omega)

variable (c : Dev nD) (X : S2048x7168.Idx → Elt F .f32)

theorem casts_slot : S32x7168.ShapeCasts S1x32x7168 := by decide

theorem numel_pos : 0 < S32x7168.numel := by decide

/-- A trip once the block three ahead is on its way: its own block is waited for, narrowed and stored. -/
theorem turn (t : Fin k0_t1_loop.trips) {Q : PUnit → sProp 𝕄} {sm : DmaSem sig} {src : Memref sig .tc .hbm S32x7168 .f32}
    {dst : Memref sig .tc .vmem S32x7168 .f32} (hd : dst = slot (sl 4 t.val)) (hg : sm = sem (sl 4 t.val))
    {hsrc : src.view.WordExact} {hdst : dst.view.WordExact} {h7 : ∀ a, k0_off7 t a + S1x32x7168.size a ≤ S4x32x7168.size a}
    {h8 : ∀ a, k0_off8 t a + S32x7168.size a ≤ S2048x7168.size a} {l7 l8 hx hm} :
    (iprop(homes c X (away t.val (t.val + 4)) ∗ piece c X t.val ∗ piece c X (t.val + 1) ∗ piece c X (t.val + 2) ∗ piece c X (t.val + 3)
        ∗ done c X t.val ∗ waits (c : Thread nD τ) ()) : sProp 𝕄)
      ⊢ iprop((inv c X (t.val + 1) -∗ Q ⟨⟩)
        -∗ wp frame (wpE (defs₀ (F := F)) 𝒱₀ (c : Thread nD τ) none) Set.univ
          (.op (.waitDma2 sm src dst hsrc hdst) fun _ =>
            .op (.load gM (Rect.unit (s := S4x32x7168) (k0_off7 t) S1x32x7168.size h7).toLoadRect l7) fun v =>
            .op (.load kM (Rect.unit (s := S2048x7168) (k0_off8 t) S32x7168.size h8).toLoadRect l8) fun _ =>
            .op (.store kM (Rect.unit (s := S2048x7168) (k0_off8 t) S32x7168.size h8) (k0_pay2 (F := F) v) Finset.univ hx hm) fun _ =>
            .ret ⟨⟩) Q) := by
  have ht : t.val < 64 := t.isLt
  rw [show piece c X t.val = (fly (c : Thread nD τ) () (sem (sl 4 t.val)) (slot (sl 4 t.val)) (blk (bk 64 t.val)) (blkV X (bk 64 t.val)) : sProp 𝕄)
    from if_pos ht]
  iintro ⟨H, P, P1, P2, N, D, W⟩ Hk
  iapply (land 𝒱₀ (c : Thread nD τ) none () (src₀ := blk (bk 64 t.val)) hd hg) $$ [P W]
  · isplitl [P]; · iexact P
    iexact W
  iintro ⟨L, S, C, W⟩
  iapply (ldw 𝒱₀ (c : Thread nD τ) none (B := gM) (h₁ := fun _ => rfl) (hq := squeezes_S1x32x7168_S32x7168) (slotRect_eq (off7_eq t) h7) casts_slot) $$ L
  iintro L
  unfold done
  icases D with ⟨%Y, %hY, D⟩
  iapply (ld 𝒱₀ (c : Thread nD τ) none rfl) $$ D
  iintro D
  iapply (st 𝒱₀ (c : Thread nD τ) none rfl) $$ D
  iintro D
  rw [wp_ret]; imodintro
  iapply Hk
  unfold inv
  rw [away_put c X (by omega) ht, idle_turn]
  unfold idle done
  isplitl [S H]
  · isplitl [S]; · iexact S
    iexact H
  isplitl [P1]; · iexact P1
  isplitl [P2]; · iexact P2
  isplitl [N]; · iexact N
  isplitl [L C]
  · isplitl [L]; · iapply (free_intro (c : Thread nD τ) (slot (sl 4 t.val)) _) $$ L
    iexact C
  isplitl [D]
  · iexists _
    isplitr; · ipureintro; exact done_step ht (off8_eq t) h8 casts_slot hY
    iexact D
  iexact W

/-- A trip. -/
theorem trip (B : Bufs) (i : grid0.Coords) (h1 : k0_cond1 i = 1#1) (t : Fin k0_t1_loop.trips) {Q : Unit → sProp 𝕄} :
    (inv c X t.val : sProp 𝕄)
      ⊢ iprop((inv c X (t.val + 1) -∗ Q ())
        -∗ wp frame (wpE (defs₀ (F := F)) 𝒱₀ (c : Thread nD τ) none) Set.univ (app (k0_t1_body (F := F) i) B h1 t ()) Q) := by
  unfold app k0_t1_body
  rw [inv]
  by_cases h : t.val + 3 < 64
  · rw [dif_pos ((ahead_iff t).2 h), away_take c X (by omega) h]
    simp only [Prog.lift, Prog.bind_op, Prog.bind_ret, Prog.pure_eq_ret]
    rw [show idle c (t.val + 3) = (iprop(free (c : Thread nD τ) (slot (sl 4 (t.val + 3))) ∗ cell (c : Thread nD τ) (sem (sl 4 (t.val + 3)))) : sProp 𝕄) from rfl]
    iintro ⟨⟨S, H⟩, P, P1, P2, ⟨N, C⟩, D, W⟩ Hk
    iapply (issue 𝒱₀ (c : Thread nD τ) none () (blk_eq (off3_eq t) h _ _) (slot_eq (off2_eq t) _ _) (sem_eq (off1_eq t) _) numel_pos) $$ [S N C]
    · isplitl [S]; · iexact S
      isplitl [N]; · iexact N
      iexact C
    iintro N
    ihave N := (piece_fly c X h) $$ N
    iapply (turn c X t (slot_eq (off5_eq t) _ _) (sem_eq (off4_eq t) _)) $$ [H P P1 P2 N D W]
    · isplitl [H]; · iexact H
      isplitl [P]; · iexact P
      isplitl [P1]; · iexact P1
      isplitl [P2]; · iexact P2
      isplitl [N]; · iexact N
      isplitl [D]; · iexact D
      iexact W
    iexact Hk
  · rw [dif_neg (fun e => h ((ahead_iff t).1 e)), away_past (k := t.val) (n := t.val + 3) (by omega)]
    simp only [Prog.lift, Prog.bind_op, Prog.bind_ret, Prog.pure_eq_ret]
    iintro ⟨H, P, P1, P2, N, D, W⟩ Hk
    ihave N := (piece_idle c X h) $$ N
    iapply (turn c X t (slot_eq (off5_eq t) _ _) (sem_eq (off4_eq t) _)) $$ [H P P1 P2 N D W]
    · isplitl [H]; · iexact H
      isplitl [P]; · iexact P
      isplitl [P1]; · iexact P1
      isplitl [P2]; · iexact P2
      isplitl [N]; · iexact N
      isplitl [D]; · iexact D
      iexact W
    iexact Hk

end Cert.InProj
-- ==== Proof.In.Body.lean ====
/- The projection kernel's body at one grid point.

At the first point it narrows the weight into scratch; at each it multiplies the point's normalised rows by the seven
column blocks of the narrowed weight, and narrows the point's piece of each of the five other weights. -/
module

public import proofs.«01_k».proof.Proof.In.Ring
public import Idealize.ShloMosaic.Lib.Pointwise

@[expose] public section

set_option maxRecDepth 16384

noncomputable section

namespace Cert.InProj

open Cert.Mlp (own free cell waits fly free_intro ld st issue)
open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (UU nD τ) ℕ

/-! ### A load and a store of a whole buffer -/

section Whole

theorem zeros : ∀ a, (![0, 0] : Fin 2 → ℕ) a = 0 := by decide

theorem whole_emb {s : Shape} {off : Fin s.rank → ℕ} (h0 : ∀ a, off a = 0) (inb : ∀ a, off a + s.size a ≤ s.size a) (j : s.Idx) :
    (Rect.unit (s := s) off s.size inb).emb j = j :=
  funext fun a => Fin.ext (by show off a + 1 * _ = _; rw [h0, Nat.zero_add, Nat.one_mul])

variable (c : Thread nD τ) {α : Type} {cs : CoreSpace} {s : Shape} {e : EltTy}

theorem ldf {M : Memref sig c.2.kind cs s e} {off : Fin s.rank → ℕ} (h0 : ∀ a, off a = 0) {inb : ∀ a, off a + s.size a ≤ s.size a}
    {hl : M.view.LoadsAt (Rect.unit (s := s) off s.size inb).toLoadRect}
    {k : (s.Idx → Elt F e) → Prog (TpuEff nD τ sig (Elt F) Λ₀ c.2) α} {X : s.Idx → Elt F e} {Q : α → sProp 𝕄} :
    (own c M X : sProp 𝕄)
      ⊢ iprop((own c M X -∗ wp frame (wpE (defs₀ (F := F)) 𝒱₀ c none) Set.univ (k X) Q)
        -∗ wp frame (wpE (defs₀ (F := F)) 𝒱₀ c none) Set.univ (.op (.load M (Rect.unit (s := s) off s.size inb).toLoadRect hl) k) Q) := by
  have e : (fun j => X ((Rect.unit (s := s) off s.size inb).emb j)) = X := funext fun j => congrArg X (whole_emb h0 inb j)
  have h := ld 𝒱₀ c none (defs := defs₀ (F := F)) (M := M) (hl := hl) rfl (k := k) (X := X) (Q := Q)
  rw [e] at h
  exact h

theorem stf {M : Memref sig c.2.kind cs s e} {off : Fin s.rank → ℕ} (h0 : ∀ a, off a = 0) {inb : ∀ a, off a + s.size a ≤ s.size a}
    {w : s.Idx → Elt F e} {hx : (M.access (Rect.unit (s := s) off s.size inb)).Stores Finset.univ} {hm}
    {k : PUnit → Prog (TpuEff nD τ sig (Elt F) Λ₀ c.2) α} {X : s.Idx → Elt F e} {Q : α → sProp 𝕄} :
    (own c M X : sProp 𝕄)
      ⊢ iprop((own c M w -∗ wp frame (wpE (defs₀ (F := F)) 𝒱₀ c none) Set.univ (k ⟨⟩) Q)
        -∗ wp frame (wpE (defs₀ (F := F)) 𝒱₀ c none) Set.univ
          (.op (.store M (Rect.unit (s := s) off s.size inb) w Finset.univ hx hm) k) Q) := by
  have e : (Rect.unit (s := s) off s.size inb).overlay X w = w := funext fun j => by
    have h := Rect.overlay_emb (Rect.unit (s := s) off s.size inb) X w j
    exact (congrArg _ (whole_emb h0 inb j).symm).trans h
  have h := st 𝒱₀ c none (defs := defs₀ (F := F)) (M := M) (w := w) (hx := hx) (hm := hm) rfl (k := k) (X := X) (Q := Q)
  rw [e] at h
  exact h

end Whole

/-! ### Column halves -/

/-- Two halves side by side. -/
def cols {α : Type} (p q : S256x1024.Idx → α) : S256x2048.Idx → α := fun i =>
  if h : (i 1).val < 1024 then p (ix2 (i 0) ⟨(i 1).val, h⟩)
  else q (ix2 (i 0) ⟨(i 1).val - 1024, by have : (i 1).val < 2048 := (i 1).isLt; show _ < 1024; omega⟩)

theorem overlay_cols {α : Type} (X : S256x2048.Idx → α) (p q : S256x1024.Idx → α) (hl hr) :
    (Rect.unit (s := S256x2048) ![0, 1024] S256x1024.size hr).overlay ((Rect.unit (s := S256x2048) ![0, 0] S256x1024.size hl).overlay X p) q
      = cols p q := by
  funext i
  have h1 : (i 1).val < 2048 := (i 1).isLt
  by_cases h : (i 1).val < 1024
  · rw [Rect.overlay_of_not_mem _ _ _ (fun hm => by
      have := (Rect.mem_set_unit.mp hm 1).1
      have h' : 1024 ≤ (i 1).val := this
      omega)]
    obtain ⟨j, rfl⟩ := (Rect.unit (s := S256x2048) ![0, 0] S256x1024.size hl).exists_idx_of_mem (Rect.mem_set_unit.mpr fun a => by
      fin_cases a
      · exact ⟨Nat.zero_le _, by have h0 : (i 0).val < 256 := (i 0).isLt; show (i 0).val < 0 + 256; omega⟩
      · exact ⟨Nat.zero_le _, by show (i 1).val < 0 + 1024; omega⟩)
    refine (Rect.overlay_emb _ _ _ j).trans ?_
    unfold cols
    rw [dif_pos h]
    refine congrArg p (funext fun a => Fin.ext ?_)
    fin_cases a
    · show (j 0).val = 0 + 1 * (j 0).val; omega
    · show (j 1).val = 0 + 1 * (j 1).val; omega
  · obtain ⟨j, rfl⟩ := (Rect.unit (s := S256x2048) ![0, 1024] S256x1024.size hr).exists_idx_of_mem (Rect.mem_set_unit.mpr fun a => by
      fin_cases a
      · exact ⟨Nat.zero_le _, by have h0 : (i 0).val < 256 := (i 0).isLt; show (i 0).val < 0 + 256; omega⟩
      · exact ⟨by show 1024 ≤ (i 1).val; omega, by show (i 1).val < 1024 + 1024; omega⟩)
    refine (Rect.overlay_emb _ _ _ j).trans ?_
    unfold cols
    rw [dif_neg h]
    refine congrArg q (funext fun a => Fin.ext ?_)
    fin_cases a
    · show (j 0).val = 0 + 1 * (j 0).val; omega
    · show (j 1).val = 1024 + 1 * (j 1).val - 1024; omega

/-! ### What a point works on, and what it leaves -/

/-- What a point is given. -/
structure Given (F : FTy → Type) where
  x : S256x2048.Idx → Elt F .f32
  g : S1x2048.Idx → Elt F .f32
  p : S16x2048.Idx → Elt F .f32
  q : S16x2048.Idx → Elt F .f32
  o : S32x2048.Idx → Elt F .f32
  u : S32x8192.Idx → Elt F .f32
  d : S128x2048.Idx → Elt F .f32

/-- A block of 1024 columns. -/
abbrev cut {α : Type} (Y : S2048x7168.Idx → α) (k : ℕ) (h : ∀ a, (![0, k] : Fin 2 → ℕ) a + S2048x1024.size a ≤ S2048x7168.size a) : S2048x1024.Idx → α :=
  fun j => Y ((Rect.unit (s := S2048x7168) ![0, k] S2048x1024.size h).emb j)

variable (D : Given F) (W : S2048x7168.Idx → Elt F .f32)

abbrev c0 := cut (narrow W) 0 inb_S2048x7168_S2048x1024_0_0
abbrev c1 := cut (narrow W) 1024 inb_S2048x7168_S2048x1024_0_1024
abbrev c2 := cut (narrow W) 2048 inb_S2048x7168_S2048x1024_0_2048
abbrev c3 := cut (narrow W) 3072 inb_S2048x7168_S2048x1024_0_3072
abbrev c4 := cut (narrow W) 4096 inb_S2048x7168_S2048x1024_0_4096
abbrev c5 := cut (narrow W) 5120 inb_S2048x7168_S2048x1024_0_5120
abbrev c6 := cut (narrow W) 6144 inb_S2048x7168_S2048x1024_0_6144

/-- The point's results. -/
abbrev zV : S256x1024.Idx → Elt F .f32 := k0_pay4 D.x D.g (c0 W)
abbrev aV : S256x1024.Idx → Elt F .f32 := k0_pay7 (k0_pay5 D.x D.g (c1 W)) (k0_pay6 D.x D.g (c2 W))
abbrev sV : S256x2048.Idx → Elt F .bf16 := cols (k0_pay8 (k0_pay3 D.x D.g) (c3 W)) (k0_pay9 (k0_pay3 D.x D.g) (c4 W))
abbrev rV : S256x2048.Idx → Elt F .bf16 := cols (k0_pay11 (k0_pay10 (k0_pay3 D.x D.g) (c5 W))) (k0_pay12 (k0_pay3 D.x D.g) (c6 W))

variable (c : Dev nD) (B : Bufs) (i : grid0.Coords)

/-- The whole weight, the ring at rest. -/
def ring : sProp 𝕄 := iprop(homes c W Finset.univ ∗ idle c 0 ∗ idle c 1 ∗ idle c 2 ∗ idle c 3)

/-- The narrowed copy before a point: nothing is known of it before the first. -/
def copy : sProp 𝕄 := if k0_cond1 i = 1#1 then free (c : Thread nD τ) kM else own (c : Thread nD τ) kM (narrow W)

theorem inv_start : (iprop(homes c W (away 0 3) ∗ piece c W 0 ∗ piece c W 1 ∗ piece c W 2 ∗ idle c 3 ∗ free (c : Thread nD τ) kM ∗ waits (c : Thread nD τ) ()) : sProp 𝕄)
    ⊢ inv c W 0 := by
  unfold inv done free
  iintro ⟨H, A, B, C, I, ⟨%Y, D⟩, W⟩
  isplitl [H]; · iexact H
  isplitl [A]; · iexact A
  isplitl [B]; · iexact B
  isplitl [C]; · iexact C
  isplitl [I]; · iexact I
  isplitl [D]
  · iexists Y
    isplitr; · ipureintro; intro i hi; exact absurd hi (by omega)
    iexact D
  iexact W

theorem inv_end : (inv c W 64 : sProp 𝕄) ⊢ iprop(ring W c ∗ own (c : Thread nD τ) kM (narrow W) ∗ waits (c : Thread nD τ) ()) := by
  have e : away 64 (64 + 3) = Finset.univ := by ext b; simp [away, b.isLt]
  have e0 : (piece c W 64 : sProp 𝕄) = idle c 0 := if_neg (by decide)
  have e1 : (piece c W (64 + 1) : sProp 𝕄) = idle c 1 := if_neg (by decide)
  have e2 : (piece c W (64 + 2) : sProp 𝕄) = idle c 2 := if_neg (by decide)
  have e3 : (idle c (64 + 3) : sProp 𝕄) = idle c 3 := rfl
  unfold inv done ring
  rw [e, e0, e1, e2, e3]
  iintro ⟨H, A, B, C, I, ⟨%Y, %hY, D⟩, W⟩
  obtain rfl : Y = narrow W := funext fun i => hY i (i 0).isLt
  isplitl [H A B C I]
  · isplitl [H]; · iexact H
    isplitl [A]; · iexact A
    isplitl [B]; · iexact B
    isplitl [C]; · iexact C
    iexact I
  isplitl [D]; · iexact D
  iexact W

/-- A load of a column block of the narrowed weight. -/
theorem ldc (Y : S2048x7168.Idx → Elt F .bf16) {α : Type} {Q : α → sProp 𝕄} {n : ℕ}
    {h : ∀ a, (![0, n] : Fin 2 → ℕ) a + S2048x1024.size a ≤ S2048x7168.size a}
    {hl : kM.view.LoadsAt (Rect.unit (s := S2048x7168) ![0, n] S2048x1024.size h).toLoadRect}
    {k : (S2048x1024.Idx → Elt F .bf16) → Prog (TpuEff nD τ sig (Elt F) Λ₀ .tc) α} :
    (own (c : Thread nD τ) kM Y : sProp 𝕄)
      ⊢ iprop((own (c : Thread nD τ) kM Y -∗ wp frame (wpE (defs₀ (F := F)) 𝒱₀ (c : Thread nD τ) none) Set.univ (k (cut Y n h)) Q)
        -∗ wp frame (wpE (defs₀ (F := F)) 𝒱₀ (c : Thread nD τ) none) Set.univ
          (.op (.load kM (Rect.unit (s := S2048x7168) ![0, n] S2048x1024.size h).toLoadRect hl) k) Q) := by
  unfold cut
  iintro H Hk
  iapply (ld 𝒱₀ (c : Thread nD τ) none rfl) $$ H
  iintro H
  iapply Hk; iexact H

/-- The first part's arithmetic: the normalised rows by the first three column blocks. -/
theorem mul1 {Q : (Σ' (_ : FVec F S256x2048 .bf16) (_ : FVec F S256x1024 .f32), FVec F S256x1024 .f32) → sProp 𝕄}
    {l1 l2 l3 l4 l5 l6 hx hm} :
    (iprop(own (c : Thread nD τ) B.x D.x ∗ own (c : Thread nD τ) B.g D.g ∗ own (c : Thread nD τ) kM (narrow W) ∗ free (c : Thread nD τ) B.z) : sProp 𝕄)
      ⊢ iprop((iprop(own (c : Thread nD τ) B.x D.x ∗ own (c : Thread nD τ) B.g D.g ∗ own (c : Thread nD τ) kM (narrow W) ∗ own (c : Thread nD τ) B.z (zV D W))
            -∗ Q ⟨k0_pay3 D.x D.g, k0_pay5 D.x D.g (c1 W), k0_pay6 D.x D.g (c2 W)⟩)
        -∗ wp frame (wpE (defs₀ (F := F)) 𝒱₀ (c : Thread nD τ) none) Set.univ
          (.op (.load B.x (Rect.unit (s := S256x2048) ![0, 0] S256x2048.size inb_S256x2048_S256x2048_0_0).toLoadRect l1) fun v3 =>
            .op (.load B.g (Rect.unit (s := S1x2048) ![0, 0] S1x2048.size inb_S1x2048_S1x2048_0_0).toLoadRect l2) fun v5 =>
            .op (.load kM (Rect.unit (s := S2048x7168) ![0, 0] S2048x1024.size inb_S2048x7168_S2048x1024_0_0).toLoadRect l3) fun v20 =>
            .op (.load B.z (Rect.unit (s := S256x1024) ![0, 0] S256x1024.size inb_S256x1024_S256x1024_0_0).toLoadRect l4) fun _ =>
            .op (.store B.z (Rect.unit (s := S256x1024) ![0, 0] S256x1024.size inb_S256x1024_S256x1024_0_0) (k0_pay4 v3 v5 v20) Finset.univ hx hm) fun _ =>
            .op (.load kM (Rect.unit (s := S2048x7168) ![0, 1024] S2048x1024.size inb_S2048x7168_S2048x1024_0_1024).toLoadRect l5) fun v23 =>
            .op (.load kM (Rect.unit (s := S2048x7168) ![0, 2048] S2048x1024.size inb_S2048x7168_S2048x1024_0_2048).toLoadRect l6) fun v25 =>
            .ret ⟨k0_pay3 v3 v5, k0_pay5 v3 v5 v23, k0_pay6 v3 v5 v25⟩) Q) := by
  unfold free
  iintro ⟨X, G, K, ⟨%Y, Z⟩⟩ Hk
  iapply (ldf (c : Thread nD τ) zeros) $$ X
  iintro X
  iapply (ldf (c : Thread nD τ) zeros) $$ G
  iintro G
  iapply (ldc c (narrow W)) $$ K
  iintro K
  iapply (ldf (c : Thread nD τ) zeros) $$ Z
  iintro Z
  iapply (stf (c : Thread nD τ) zeros) $$ Z
  iintro Z
  iapply (ldc c (narrow W)) $$ K
  iintro K
  iapply (ldc c (narrow W)) $$ K
  iintro K
  rw [wp_ret]; imodintro
  iapply Hk
  isplitl [X]; · iexact X
  isplitl [G]; · iexact G
  isplitl [K]; · iexact K
  iexact Z

/-- The ring at rest, opened for the first three fetches. -/
theorem ring_open : (ring W c : sProp 𝕄) ⊢ iprop((own (c : Thread nD τ) (blk (bk 64 0)) (blkV W (bk 64 0)) ∗ own (c : Thread nD τ) (blk (bk 64 1)) (blkV W (bk 64 1))
      ∗ own (c : Thread nD τ) (blk (bk 64 2)) (blkV W (bk 64 2)) ∗ homes c W (away 0 3))
    ∗ (free (c : Thread nD τ) (slot (sl 4 0)) ∗ cell (c : Thread nD τ) (sem (sl 4 0)))
    ∗ (free (c : Thread nD τ) (slot (sl 4 1)) ∗ cell (c : Thread nD τ) (sem (sl 4 1)))
    ∗ (free (c : Thread nD τ) (slot (sl 4 2)) ∗ cell (c : Thread nD τ) (sem (sl 4 2))) ∗ idle c 3) := by
  unfold ring
  rw [show (Finset.univ : Finset (Fin 64)) = away 0 0 from by ext b; simp [away],
    away_take c W (k := 0) (n := 0) (le_refl _) (by decide), away_take c W (k := 0) (n := 1) (by decide) (by decide),
    away_take c W (k := 0) (n := 2) (by decide) (by decide)]
  exact BI.Entails.refl _

/-- The first part. -/
theorem part1 {Q : _ → sProp 𝕄} :
    (iprop(ring W c ∗ copy W c i ∗ own (c : Thread nD τ) B.x D.x ∗ own (c : Thread nD τ) B.g D.g ∗ free (c : Thread nD τ) B.z ∗ waits (c : Thread nD τ) ()) : sProp 𝕄)
      ⊢ iprop((iprop(ring W c ∗ own (c : Thread nD τ) kM (narrow W) ∗ own (c : Thread nD τ) B.x D.x ∗ own (c : Thread nD τ) B.g D.g ∗ own (c : Thread nD τ) B.z (zV D W)
              ∗ waits (c : Thread nD τ) ())
            -∗ Q ⟨k0_pay3 D.x D.g, k0_pay5 D.x D.g (c1 W), k0_pay6 D.x D.g (c2 W)⟩)
        -∗ wp frame (wpE (defs₀ (F := F)) 𝒱₀ (c : Thread nD τ) none) Set.univ (app (k0_part1 (F := F) i) B) Q) := by
  unfold app
  rw [k0_part1_eq_skeleton]
  unfold k0_part1_skel copy
  by_cases h1 : k0_cond1 i = 1#1
  · rw [dif_pos h1, if_pos h1]
    simp only [Prog.lift, Prog.bind_op, Prog.bind_ret, Prog.pure_eq_ret]
    iintro ⟨R, K, X, G, Z, W⟩ Hk
    ihave R := (ring_open W c) $$ R
    icases R with ⟨⟨S0, S1, S2, H⟩, ⟨N0, C0⟩, ⟨N1, C1⟩, ⟨N2, C2⟩, I⟩
    iapply (issue 𝒱₀ (c : Thread nD τ) none () (blk_eq (n := 0) rfl (by decide) _ _) (slot_eq (n := 0) rfl _ _) (sem_eq (n := 0) rfl _) numel_pos) $$ [S0 N0 C0]
    · isplitl [S0]; · iexact S0
      isplitl [N0]; · iexact N0
      iexact C0
    iintro P0
    iapply (issue 𝒱₀ (c : Thread nD τ) none () (blk_eq (n := 1) rfl (by decide) _ _) (slot_eq (n := 1) rfl _ _) (sem_eq (n := 1) rfl _) numel_pos) $$ [S1 N1 C1]
    · isplitl [S1]; · iexact S1
      isplitl [N1]; · iexact N1
      iexact C1
    iintro P1
    iapply (issue 𝒱₀ (c : Thread nD τ) none () (blk_eq (n := 2) rfl (by decide) _ _) (slot_eq (n := 2) rfl _ _) (sem_eq (n := 2) rfl _) numel_pos) $$ [S2 N2 C2]
    · isplitl [S2]; · iexact S2
      isplitl [N2]; · iexact N2
      iexact C2
    iintro P2
    ihave P0 := (piece_fly c W (n := 0) (by decide)) $$ P0
    ihave P1 := (piece_fly c W (n := 1) (by decide)) $$ P1
    ihave P2 := (piece_fly c W (n := 2) (by decide)) $$ P2
    ihave J := (inv_start W c) $$ [H P0 P1 P2 I K W]
    · isplitl [H]; · iexact H
      isplitl [P0]; · iexact P0
      isplitl [P1]; · iexact P1
      isplitl [P2]; · iexact P2
      isplitl [I]; · iexact I
      isplitl [K]; · iexact K
      iexact W
    iapply (Scf.wp_for_bind frame (wpE (defs₀ (F := F)) 𝒱₀ (c : Thread nD τ) none) Set.univ k0_t1_loop.lb k0_t1_loop.ub k0_t1_loop.st (k0_t1_ok i h1) _ _
      (fun k _ => inv c W k) (by
        intro t acc
        iintro J
        iapply (trip c W B i h1 t) $$ J
        iintro J
        iexact J)) $$ J
    iintro %acc J
    rw [show Scf.trips k0_t1_loop.lb k0_t1_loop.ub k0_t1_loop.st = 64 from trips_eq]
    ihave J := (inv_end W c) $$ J
    icases J with ⟨R, K, W⟩
    iapply (mul1 D W c B) $$ [X G K Z]
    · isplitl [X]; · iexact X
      isplitl [G]; · iexact G
      isplitl [K]; · iexact K
      iexact Z
    iintro ⟨X, G, K, Z⟩
    iapply Hk
    isplitl [R]; · iexact R
    isplitl [K]; · iexact K
    isplitl [X]; · iexact X
    isplitl [G]; · iexact G
    isplitl [Z]; · iexact Z
    iexact W
  · rw [dif_neg h1, if_neg h1]
    simp only [Prog.lift, Prog.bind_op, Prog.bind_ret, Prog.pure_eq_ret]
    iintro ⟨R, K, X, G, Z, W⟩ Hk
    iapply (mul1 D W c B) $$ [X G K Z]
    · isplitl [X]; · iexact X
      isplitl [G]; · iexact G
      isplitl [K]; · iexact K
      iexact Z
    iintro ⟨X, G, K, Z⟩
    iapply Hk
    isplitl [R]; · iexact R
    isplitl [K]; · iexact K
    isplitl [X]; · iexact X
    isplitl [G]; · iexact G
    isplitl [Z]; · iexact Z
    iexact W

/-- The second part: the gated value, and the first gate. -/
theorem part2 (v19 : FVec F S256x2048 .bf16) (v24 v33 : FVec F S256x1024 .f32) {Q : _ → sProp 𝕄} :
    (iprop(own (c : Thread nD τ) kM (narrow W) ∗ free (c : Thread nD τ) B.a ∗ free (c : Thread nD τ) B.s) : sProp 𝕄)
      ⊢ iprop((iprop(own (c : Thread nD τ) kM (narrow W) ∗ own (c : Thread nD τ) B.a (k0_pay7 v24 v33)
              ∗ own (c : Thread nD τ) B.s (cols (k0_pay8 v19 (c3 W)) (k0_pay9 v19 (c4 W)))) -∗ Q (k0_pay10 v19 (c5 W)))
        -∗ wp frame (wpE (defs₀ (F := F)) 𝒱₀ (c : Thread nD τ) none) Set.univ (app (k0_part2 (F := F) i) B v19 v24 v33) Q) := by
  unfold app
  rw [k0_part2_eq_skeleton]
  unfold k0_part2_skel free
  simp only [Prog.lift, Prog.bind_op, Prog.bind_ret, Prog.pure_eq_ret]
  iintro ⟨K, ⟨%Y, A⟩, ⟨%Z, S⟩⟩ Hk
  iapply (ldf (c : Thread nD τ) zeros) $$ A
  iintro A
  iapply (stf (c : Thread nD τ) zeros) $$ A
  iintro A
  iapply (ldc c (narrow W)) $$ K
  iintro K
  iapply (ld 𝒱₀ (c : Thread nD τ) none rfl) $$ S
  iintro S
  iapply (st 𝒱₀ (c : Thread nD τ) none rfl) $$ S
  iintro S
  iapply (ldc c (narrow W)) $$ K
  iintro K
  iapply (ld 𝒱₀ (c : Thread nD τ) none rfl) $$ S
  iintro S
  iapply (st 𝒱₀ (c : Thread nD τ) none rfl) $$ S
  iintro S
  iapply (ldc c (narrow W)) $$ K
  iintro K
  rw [wp_ret]; imodintro
  rw [overlay_cols]
  iapply Hk
  isplitl [K]; · iexact K
  isplitl [A]; · iexact A
  iexact S

/-- The third part: the second gate, and three of the narrowed weights. -/
theorem part3 (v19 : FVec F S256x2048 .bf16) (v66 : FVec F S256x1024 .f32) {Q : _ → sProp 𝕄} :
    (iprop(own (c : Thread nD τ) kM (narrow W) ∗ free (c : Thread nD τ) B.r ∗ own (c : Thread nD τ) B.p D.p ∗ free (c : Thread nD τ) B.p'
        ∗ own (c : Thread nD τ) B.q D.q ∗ free (c : Thread nD τ) B.q' ∗ own (c : Thread nD τ) B.o D.o ∗ free (c : Thread nD τ) B.o'
        ∗ own (c : Thread nD τ) B.u D.u ∗ free (c : Thread nD τ) B.u') : sProp 𝕄)
      ⊢ iprop((iprop(own (c : Thread nD τ) kM (narrow W) ∗ own (c : Thread nD τ) B.r (cols (k0_pay11 v66) (k0_pay12 v19 (c6 W)))
              ∗ own (c : Thread nD τ) B.p D.p ∗ own (c : Thread nD τ) B.p' (k0_pay13 D.p) ∗ own (c : Thread nD τ) B.q D.q ∗ own (c : Thread nD τ) B.q' (k0_pay14 D.q)
              ∗ own (c : Thread nD τ) B.o D.o ∗ own (c : Thread nD τ) B.o' (k0_pay15 D.o) ∗ own (c : Thread nD τ) B.u D.u ∗ free (c : Thread nD τ) B.u')
            -∗ Q (k0_pay16 D.u))
        -∗ wp frame (wpE (defs₀ (F := F)) 𝒱₀ (c : Thread nD τ) none) Set.univ (app (k0_part3 (F := F) i) B v19 v66) Q) := by
  unfold app
  rw [k0_part3_eq_skeleton]
  unfold k0_part3_skel free
  simp only [Prog.lift, Prog.bind_op, Prog.bind_ret, Prog.pure_eq_ret]
  iintro ⟨K, ⟨%Y0, R⟩, P, ⟨%Y1, P'⟩, S, ⟨%Y2, S'⟩, O, ⟨%Y3, O'⟩, U, ⟨%Y4, U'⟩⟩ Hk
  iapply (ld 𝒱₀ (c : Thread nD τ) none rfl) $$ R
  iintro R
  iapply (st 𝒱₀ (c : Thread nD τ) none rfl) $$ R
  iintro R
  iapply (ldc c (narrow W)) $$ K
  iintro K
  iapply (ld 𝒱₀ (c : Thread nD τ) none rfl) $$ R
  iintro R
  iapply (st 𝒱₀ (c : Thread nD τ) none rfl) $$ R
  iintro R
  iapply (ldf (c : Thread nD τ) zeros) $$ P
  iintro P
  iapply (ldf (c : Thread nD τ) zeros) $$ P'
  iintro P'
  iapply (stf (c : Thread nD τ) zeros) $$ P'
  iintro P'
  iapply (ldf (c : Thread nD τ) zeros) $$ S
  iintro S
  iapply (ldf (c : Thread nD τ) zeros) $$ S'
  iintro S'
  iapply (stf (c : Thread nD τ) zeros) $$ S'
  iintro S'
  iapply (ldf (c : Thread nD τ) zeros) $$ O
  iintro O
  iapply (ldf (c : Thread nD τ) zeros) $$ O'
  iintro O'
  iapply (stf (c : Thread nD τ) zeros) $$ O'
  iintro O'
  iapply (ldf (c : Thread nD τ) zeros) $$ U
  iintro U
  iapply (ldf (c : Thread nD τ) zeros) $$ U'
  iintro U'
  rw [wp_ret]; imodintro
  rw [overlay_cols]
  iapply Hk
  isplitl [K]; · iexact K
  isplitl [R]; · iexact R
  isplitl [P]; · iexact P
  isplitl [P']; · iexact P'
  isplitl [S]; · iexact S
  isplitl [S']; · iexact S'
  isplitl [O]; · iexact O
  isplitl [O']; · iexact O'
  isplitl [U]; · iexact U
  iexists _; iexact U'

/-- The body at a point. -/
theorem body {Q : _ → sProp 𝕄} :
    (iprop(ring W c ∗ copy W c i ∗ waits (c : Thread nD τ) ()
        ∗ own (c : Thread nD τ) B.x D.x ∗ own (c : Thread nD τ) B.g D.g ∗ own (c : Thread nD τ) B.p D.p ∗ own (c : Thread nD τ) B.q D.q
        ∗ own (c : Thread nD τ) B.o D.o ∗ own (c : Thread nD τ) B.u D.u ∗ own (c : Thread nD τ) B.d D.d
        ∗ free (c : Thread nD τ) B.z ∗ free (c : Thread nD τ) B.a ∗ free (c : Thread nD τ) B.s ∗ free (c : Thread nD τ) B.r
        ∗ free (c : Thread nD τ) B.p' ∗ free (c : Thread nD τ) B.q' ∗ free (c : Thread nD τ) B.o' ∗ free (c : Thread nD τ) B.u' ∗ free (c : Thread nD τ) B.d') : sProp 𝕄)
      ⊢ iprop((iprop(ring W c ∗ own (c : Thread nD τ) kM (narrow W) ∗ waits (c : Thread nD τ) ()
            ∗ own (c : Thread nD τ) B.x D.x ∗ own (c : Thread nD τ) B.g D.g ∗ own (c : Thread nD τ) B.p D.p ∗ own (c : Thread nD τ) B.q D.q
            ∗ own (c : Thread nD τ) B.o D.o ∗ own (c : Thread nD τ) B.u D.u ∗ own (c : Thread nD τ) B.d D.d
            ∗ own (c : Thread nD τ) B.z (zV D W) ∗ own (c : Thread nD τ) B.a (aV D W) ∗ own (c : Thread nD τ) B.s (sV D W) ∗ own (c : Thread nD τ) B.r (rV D W)
            ∗ own (c : Thread nD τ) B.p' (k0_pay13 D.p) ∗ own (c : Thread nD τ) B.q' (k0_pay14 D.q) ∗ own (c : Thread nD τ) B.o' (k0_pay15 D.o)
            ∗ own (c : Thread nD τ) B.u' (k0_pay16 D.u) ∗ own (c : Thread nD τ) B.d' (k0_pay1 D.d))
          -∗ Q ⟨⟩)
        -∗ wp frame (wpE (defs₀ (F := F)) 𝒱₀ (c : Thread nD τ) none) Set.univ (app (cc0_in_proj (F := F) i) B) Q) := by
  unfold app
  rw [cc0_in_proj_eq_skeleton]
  unfold cc0_in_proj_skel
  iintro ⟨R, K, Wt, X, G, P, S, O, U, D, Z, A, SA, SB, P', S', O', U', D'⟩ Hk
  rw [wp_bind]
  iapply (part1 D W c B i) $$ [R K Wt X G Z]
  · isplitl [R]; · iexact R
    isplitl [K]; · iexact K
    isplitl [X]; · iexact X
    isplitl [G]; · iexact G
    isplitl [Z]; · iexact Z
    iexact Wt
  iintro ⟨R, K, X, G, Z, Wt⟩
  rw [wp_bind]
  iapply (part2 W c B i _ _ _) $$ [K A SA]
  · isplitl [K]; · iexact K
    isplitl [A]; · iexact A
    iexact SA
  iintro ⟨K, A, SA⟩
  rw [wp_bind]
  iapply (part3 D W c B i _ _) $$ [K SB P P' S S' O O' U U']
  · isplitl [K]; · iexact K
    isplitl [SB]; · iexact SB
    isplitl [P]; · iexact P
    isplitl [P']; · iexact P'
    isplitl [S]; · iexact S
    isplitl [S']; · iexact S'
    isplitl [O]; · iexact O
    isplitl [O']; · iexact O'
    isplitl [U]; · iexact U
    iexact U'
  iintro ⟨K, SB, P, P', S, S', O, O', U, U'⟩
  simp only [Prog.lift, Prog.bind_op, Prog.bind_ret, Prog.pure_eq_ret]
  unfold free
  icases U' with ⟨%Y0, U'⟩
  icases D' with ⟨%Y1, D'⟩
  iapply (stf (c : Thread nD τ) zeros) $$ U'
  iintro U'
  iapply (ldf (c : Thread nD τ) zeros) $$ D
  iintro D
  iapply (ldf (c : Thread nD τ) zeros) $$ D'
  iintro D'
  iapply (stf (c : Thread nD τ) zeros) $$ D'
  iintro D'
  rw [wp_ret]; imodintro
  iapply Hk
  isplitl [R]; · iexact R
  isplitl [K]; · iexact K
  isplitl [Wt]; · iexact Wt
  isplitl [X]; · iexact X
  isplitl [G]; · iexact G
  isplitl [P]; · iexact P
  isplitl [S]; · iexact S
  isplitl [O]; · iexact O
  isplitl [U]; · iexact U
  isplitl [D]; · iexact D
  isplitl [Z]; · iexact Z
  isplitl [A]; · iexact A
  isplitl [SA]; · iexact SA
  isplitl [SB]; · iexact SB
  isplitl [P']; · iexact P'
  isplitl [S']; · iexact S'
  isplitl [O']; · iexact O'
  isplitl [U']; · iexact U'
  iexact D'

end Cert.InProj
-- ==== Proof.In.Launch.lean ====
/- The projection's call: the arrays it starts from, and the kernel as the body of its pipeline. -/
module

public import proofs.«01_k».proof.Proof.In.Body
public import proofs.«01_k».proof.Proof.Gen.Kernel2Ideal.Launch
public import proofs.«01_k».proof.Proof.Gen.Kernel2Ideal.Points
public import Idealize.ShloMosaic.Lib.Pipeline.KitQuiescent
public import Idealize.ShloMosaic.Lib.Pipeline.Frame
public import Idealize.ShloMosaic.Lib.Pipeline.FrameBody

@[expose] public section

set_option maxRecDepth 16384

noncomputable section

namespace Cert.InProj

open Cert.Mlp (own free cell waits fly free_intro)
open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

abbrev EP : Emb (UR sig nD τ) (MT nD τ sig Unit (Elt F) ℕ (UU nD τ) ℕ) := embL

variable (m : (ℓ : Loc nD τ sig) → Buf (Elt F) ℓ) (ρ : Dev nD → PrngReg)

/-! ### The arrays when the kernel is called -/

/-- Core `c`'s arrays after the operations before the kernel. -/
abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := StableHlo.forall_fresh_of_map rfl

/-- The operations before the kernel leave the arguments as they are. -/
theorem not_written (b : Ref sig .tc) (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8) :
    ∀ op ∈ (hostOps0 (F := F)), Proc.devRef .tc b ∉ op.writes := by
  obtain ⟨h0, h1, h2, h3, h4, h5, h6, h7, h8⟩ := hb
  intro op hop
  simp only [List.mem_cons, List.mem_nil_iff, or_false] at hop
  rcases hop with rfl | rfl | rfl | rfl | rfl | rfl | rfl | rfl | rfl <;>
    simp only [StableHlo.unary_writes, StableHlo.reshape_writes, Finset.mem_singleton] <;>
    exact StableHlo.devRef_ne_of_ne ‹_›
theorem V_arg (c : Dev nD) (b : Ref sig .tc) (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8) :
    V m c b = m ((c : Thread nD τ).loc b) :=
  StableHlo.after_of_forall_not_mem (b := Proc.devRef .tc b) hostOps0 (fun b => m (c, b)) (not_written b hb)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the kernel is given at point `t`, -/
def given (c : Dev nD) (t : Fin cfg0.N) : Given F where
  x := iblk m c 0 t
  g := iblk m c 1 t
  p := iblk m c 2 t
  q := iblk m c 3 t
  o := iblk m c 4 t
  u := iblk m c 5 t
  d := iblk m c 6 t
/-- beside the weight. -/
abbrev weight (c : Dev nD) : S2048x7168.Idx → Elt F .f32 := V m c main_v3

/-! ### The pipeline's proof data -/

/-- Before point `n`: nothing is known of the narrowed copy before the first. -/
def Φ (c : Dev nD) (n : ℕ) : sProp 𝕄 :=
  iprop(ring (weight m c) c ∗ if n = 0 then free (c : Thread nD τ) kM else own (c : Thread nD τ) kM (narrow (weight m c)))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => zV (given m c t) (weight m c)
    | ⟨8, _⟩ => aV (given m c t) (weight m c)
    | ⟨9, _⟩ => sV (given m c t) (weight m c)
    | ⟨10, _⟩ => rV (given m c t) (weight m c)
    | ⟨11, _⟩ => k0_pay13 (given m c t).p
    | ⟨12, _⟩ => k0_pay14 (given m c t).q
    | ⟨13, _⟩ => k0_pay15 (given m c t).o
    | ⟨14, _⟩ => k0_pay16 (given m c t).u
    | ⟨15, _⟩ => k0_pay1 (given m c t).d
    | ⟨_ + 16, h⟩ => absurd h (Nat.not_lt.2 (Nat.le_add_left _ _))
  Φ t := Φ m c t.val
  q _ := fullShare
  owed _ := 0

section Before

variable (c : Dev nD) (t : Fin cfg0.N)

theorem before_w0 (d) : (dats m 0 c).before 0 t d = iblk m c 0 t :=
  (Dat.before_in_eq_fetched (dats m 0 c) 0 rfl (fun _ => rfl) (fun _ _ _ => rfl) (fun _ => rfl) t d).trans rfl
theorem before_w1 (d) : (dats m 0 c).before 1 t d = iblk m c 1 t :=
  (Dat.before_in_eq_fetched (dats m 0 c) 1 rfl (fun _ => rfl) (fun _ _ _ => rfl) (fun _ => rfl) t d).trans rfl
theorem before_w2 (d) : (dats m 0 c).before 2 t d = iblk m c 2 t :=
  (Dat.before_in_eq_fetched (dats m 0 c) 2 rfl (fun _ => rfl) (fun _ _ _ => rfl) (fun _ => rfl) t d).trans rfl
theorem before_w3 (d) : (dats m 0 c).before 3 t d = iblk m c 3 t :=
  (Dat.before_in_eq_fetched (dats m 0 c) 3 rfl (fun _ => rfl) (fun _ _ _ => rfl) (fun _ => rfl) t d).trans rfl
theorem before_w4 (d) : (dats m 0 c).before 4 t d = iblk m c 4 t :=
  (Dat.before_in_eq_fetched (dats m 0 c) 4 rfl (fun _ => rfl) (fun _ _ _ => rfl) (fun _ => rfl) t d).trans rfl
theorem before_w5 (d) : (dats m 0 c).before 5 t d = iblk m c 5 t :=
  (Dat.before_in_eq_fetched (dats m 0 c) 5 rfl (fun _ => rfl) (fun _ _ _ => rfl) (fun _ => rfl) t d).trans rfl
theorem before_w6 (d) : (dats m 0 c).before 6 t d = iblk m c 6 t :=
  (Dat.before_in_eq_fetched (dats m 0 c) 6 rfl (fun _ => rfl) (fun _ _ _ => rfl) (fun _ => rfl) t d).trans rfl

end Before

/-! ### The body -/

/-- The staged buffers at point `t`. -/
abbrev bufs (t : Fin cfg0.N) : Bufs where
  x := st0_0 t
  hx := hstage0_0 ((cfg0.slots t 0).cast nbuf0_0)
  g := st0_1 t
  hg := hstage0_1 ((cfg0.slots t 1).cast nbuf0_1)
  p := st0_2 t
  hp := hstage0_2 ((cfg0.slots t 2).cast nbuf0_2)
  q := st0_3 t
  hq := hstage0_3 ((cfg0.slots t 3).cast nbuf0_3)
  o := st0_4 t
  ho := hstage0_4 ((cfg0.slots t 4).cast nbuf0_4)
  u := st0_5 t
  hu := hstage0_5 ((cfg0.slots t 5).cast nbuf0_5)
  d := st0_6 t
  hd := hstage0_6 ((cfg0.slots t 6).cast nbuf0_6)
  z := st0_7 t
  hz := hstage0_7 ((cfg0.slots t 7).cast nbuf0_7)
  a := st0_8 t
  ha := hstage0_8 ((cfg0.slots t 8).cast nbuf0_8)
  s := st0_9 t
  hs := hstage0_9 ((cfg0.slots t 9).cast nbuf0_9)
  r := st0_10 t
  hr := hstage0_10 ((cfg0.slots t 10).cast nbuf0_10)
  p' := st0_11 t
  hp' := hstage0_11 ((cfg0.slots t 11).cast nbuf0_11)
  q' := st0_12 t
  hq' := hstage0_12 ((cfg0.slots t 12).cast nbuf0_12)
  o' := st0_13 t
  ho' := hstage0_13 ((cfg0.slots t 13).cast nbuf0_13)
  u' := st0_14 t
  hu' := hstage0_14 ((cfg0.slots t 14).cast nbuf0_14)
  d' := st0_15 t
  hd' := hstage0_15 ((cfg0.slots t 15).cast nbuf0_15)

theorem prog_eq (t : Fin cfg0.N) : (defs₀ (F := F)) .tc cfg0.body (cfg0.bodyArgs t (cfg0.slots t))
    = app (cc0_in_proj (F := F) (grid0.coords t)) (bufs t) :=
  (show _ = bodyAt0 (F := F) t from rfl).trans rfl

theorem at_first : ∀ t : Fin grid0.N, k0_cond1 (grid0.coords t) = 1#1 ↔ t.val = 0 := by decide +kernel

theorem Φ_pre (c : Dev nD) (t : Fin cfg0.N) :
    (Φ m c t.val : sProp 𝕄) = iprop(ring (weight m c) c ∗ copy (weight m c) c (grid0.coords t)) := by
  unfold Φ copy
  by_cases h : t.val = 0
  · rw [if_pos h, if_pos ((at_first t).mpr h)]
  · rw [if_neg h, if_neg fun h' => h ((at_first t).mp h')]
theorem Φ_post (c : Dev nD) (n : ℕ) : (Φ m c (n + 1) : sProp 𝕄) = iprop(ring (weight m c) c ∗ own (c : Thread nD τ) kM (narrow (weight m c))) := by
  unfold Φ
  rw [if_neg (Nat.succ_ne_zero n)]

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, before_w4, before_w5, before_w6]
  rw [show (dats m 0 c).Φ t.castSucc = Φ m c t.val from rfl, show (dats m 0 c).Φ t.succ = Φ m c (t.val + 1) from rfl, Φ_pre, Φ_post]
  unfold Dat.owesAt Pipeline.owesWithin
  rw [show (dats m 0 c).owed t.castSucc = 0 from rfl, show (dats m 0 c).owed t.succ = 0 from rfl]
  iintro ⟨⟨R, K⟩, ⟨%W, -, HW⟩, ⟨%d0, X⟩, ⟨%d1, G⟩, ⟨%d2, P⟩, ⟨%d3, S⟩, ⟨%d4, O⟩, ⟨%d5, U⟩, ⟨%d6, E⟩, ⟨%d7, Z⟩, ⟨%d8, A⟩, ⟨%d9, SA⟩,
    ⟨%d10, SB⟩, ⟨%d11, P'⟩, ⟨%d12, S'⟩, ⟨%d13, O'⟩, ⟨%d14, U'⟩, ⟨%d15, E'⟩⟩
  sl_rw [prog_eq t]
  iapply (body (given m c t) (weight m c) c (bufs t) (grid0.coords t)) $$ [R K HW X G P S O U E Z A SA SB P' S' O' U' E']
  · isplitl [R]; · iexact R
    isplitl [K]; · iexact K
    isplitl [HW]; · unfold waits; iexists W; iexact HW
    isplitl [X]; · iexact X
    isplitl [G]; · iexact G
    isplitl [P]; · iexact P
    isplitl [S]; · iexact S
    isplitl [O]; · iexact O
    isplitl [U]; · iexact U
    isplitl [E]; · iexact E
    isplitl [Z]; · iapply (free_intro (c : Thread nD τ)) $$ Z
    isplitl [A]; · iapply (free_intro (c : Thread nD τ)) $$ A
    isplitl [SA]; · iapply (free_intro (c : Thread nD τ)) $$ SA
    isplitl [SB]; · iapply (free_intro (c : Thread nD τ)) $$ SB
    isplitl [P']; · iapply (free_intro (c : Thread nD τ)) $$ P'
    isplitl [S']; · iapply (free_intro (c : Thread nD τ)) $$ S'
    isplitl [O']; · iapply (free_intro (c : Thread nD τ)) $$ O'
    isplitl [U']; · iapply (free_intro (c : Thread nD τ)) $$ U'
    iapply (free_intro (c : Thread nD τ)) $$ E'
  iintro ⟨R, K, HW, X, G, P, S, O, U, E, Z, A, SA, SB, P', S', O', U', E'⟩
  isplitl [R K]
  · isplitl [R]; · iexact R
    iexact K
  isplitl [HW]
  · ihave H' := (show (waits (c : Thread nD τ) () : sProp 𝕄) ⊢ iprop(∃ W : Waits sig Unit, owes (c : Thread nD τ) 0 W) from by unfold waits; iintro H; iexact H) $$ HW
    icases H' with ⟨%W', HW⟩
    iexists W'; isplitr; · ipureintro; exact fun _ _ => Or.inl trivial
    iexact HW
  isplitl [X]; · iexact X
  isplitl [G]; · iexact G
  isplitl [P]; · iexact P
  isplitl [S]; · iexact S
  isplitl [O]; · iexact O
  isplitl [U]; · iexact U
  isplitl [E]; · iexact E
  isplitl [Z]; · iexact Z
  isplitl [A]; · iexact A
  isplitl [SA]; · iexact SA
  isplitl [SB]; · iexact SB
  isplitl [P']; · iexact P'
  isplitl [S']; · iexact S'
  isplitl [O']; · iexact O'
  isplitl [U']; · iexact U'
  iexact E'

end Cert.InProj
-- ==== Proof.In.Run.lean ====
/- The run of the projection's whole program, for any float values. -/
module

public import proofs.«01_k».proof.Proof.In.Launch
public import proofs.«01_k».proof.Proof.Blocks

@[expose] public section

set_option maxRecDepth 16384

noncomputable section

namespace Cert.InProj

open Cert.Mlp (own free cell waits fly free_intro rects_disjoint rects_cover)
open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ### The four slots and the blocks -/

/-- Contents for each of a family of disjoint rectangles are the contents of one array. -/
theorem exists_glue {α : Type} [Nonempty α] {sh : Shape} {N : ℕ} {r : Fin N → Rect sh}
    (hd : ∀ t t', t ≠ t' → Disjoint (r t).set (r t').set) (R : ∀ t, (r t).shape.Idx → α) : ∃ f : sh.Idx → α, ∀ t j, f ((r t).emb j) = R t j := by
  classical
  refine ⟨fun i => if h : ∃ p : (t : Fin N) × (r t).shape.Idx, (r p.1).emb p.2 = i then R h.choose.1 h.choose.2 else Classical.arbitrary _, fun t j => ?_⟩
  have h : ∃ p : (t : Fin N) × (r t).shape.Idx, (r p.1).emb p.2 = (r t).emb j := ⟨⟨t, j⟩, rfl⟩
  dsimp only
  rw [dif_pos h]
  generalize e : h.choose = p
  have hs : (r p.1).emb p.2 = (r t).emb j := e ▸ h.choose_spec
  obtain ⟨t', j'⟩ := p
  by_cases ht : t' = t
  · subst ht
    rw [(r t').emb.injective hs]
  · exact absurd ((r t).idx_mem j) (Finset.disjoint_left.mp (hd t' t ht) (show (r t).emb j ∈ (r t').set from (show (r t').emb j' = (r t).emb j from hs) ▸ (r t').idx_mem j'))

theorem mem_rSlot (s : Fin 4) (i : S4x32x7168.Idx) : i ∈ (rSlot s).set ↔ (i 0).val = s.val := by
  rw [Rect.mem_set_unit]
  have h1 : (i 1).val < 32 := (i 1).isLt
  have h2 : (i 2).val < 7168 := (i 2).isLt
  constructor
  · intro H
    have a0 : s.val ≤ (i 0).val ∧ (i 0).val < s.val + 1 := H 0
    omega
  · intro H a; fin_cases a
    · show s.val ≤ (i 0).val ∧ (i 0).val < s.val + 1; omega
    · show 0 ≤ (i 1).val ∧ (i 1).val < 0 + 32; omega
    · show 0 ≤ (i 2).val ∧ (i 2).val < 0 + 7168; omega
theorem blk_of (b : Fin 64) (i : S2048x7168.Idx) : i ∈ (rBlk b).set ↔ (i 0).val / 32 = b.val := by
  rw [mem_rBlk]; omega
theorem blk_lt (i : S2048x7168.Idx) : (i 0).val / 32 < 64 := by have : (i 0).val < 2048 := (i 0).isLt; omega

variable (c : Dev nD)

section Free

variable {sp : Space} {sh s' : Shape} {e : EltTy}

/-- A memref at whatever it contains, as its elements. -/
theorem free_eq (M : Memref sig .tc sp sh e) :
    (free (c : Thread nD τ) M : sProp 𝕄) ⊣⊢ iprop(∃ f, M.view.loc (c : Thread nD τ) ↦[M.view.set]{fullShare} f) := by
  unfold free Cert.Mlp.own owns
  constructor
  · iintro ⟨%X, %f, -, H⟩; iexists f; iexact H
  · iintro ⟨%f, H⟩; iexists _; iexists f
    isplitr; · ipureintro; rfl
    iexact H

theorem free_squeeze (M : Memref sig .tc sp sh e) (hq : sh.Squeezes s') :
    (free (c : Thread nD τ) (M.squeeze s' hq) : sProp 𝕄) ⊣⊢ free (c : Thread nD τ) M := by
  have h : (M.squeeze s' hq).view.set = M.view.set := View.set_reshape M.view hq.numel_eq
  have h' : (iprop(∃ f, (M.squeeze s' hq).view.loc (c : Thread nD τ) ↦[(M.squeeze s' hq).view.set]{fullShare} f) : sProp 𝕄)
      = iprop(∃ f, M.view.loc (c : Thread nD τ) ↦[M.view.set]{fullShare} f) := by rw [h]
  constructor
  · refine (free_eq c _).1.trans ?_; rw [h']; exact (free_eq c _).2
  · refine (free_eq c _).1.trans ?_; rw [← h']; exact (free_eq c _).2

end Free

theorem bigSep_four (Ψ : Fin 4 → sProp (MT nD τ sig Unit (Elt F) ℕ (UU nD τ) ℕ)) : bigSep Finset.univ Ψ = iprop(Ψ 0 ∗ Ψ 1 ∗ Ψ 2 ∗ Ψ 3) :=
  bigSep_univ_eq_bigSepL [(0 : Fin 4), 1, 2, 3] (by decide) (by decide) Ψ

theorem slot_free (s : Fin 4) (X : (rSlot s).shape.Idx → Elt F .f32) :
    (own (c : Thread nD τ) (gM.slice (rSlot s) (fun _ => rfl)) X : sProp 𝕄) ⊢ free (c : Thread nD τ) (slot s) :=
  (free_intro (c : Thread nD τ) _ _).trans (free_squeeze c (gM.slice (rSlot s) (fun _ => rfl)) squeezes_S1x32x7168_S32x7168).2

theorem slots_split : (free (c : Thread nD τ) gM : sProp 𝕄)
    ⊢ iprop(free (c : Thread nD τ) (slot 0) ∗ free (c : Thread nD τ) (slot 1) ∗ free (c : Thread nD τ) (slot 2) ∗ free (c : Thread nD τ) (slot 3)) := by
  iintro H
  ihave H' := (show (free (c : Thread nD τ) gM : sProp 𝕄) ⊢ iprop(∃ X, own (c : Thread nD τ) gM X) from by unfold free; iintro H; iexact H) $$ H
  icases H' with ⟨%X, H⟩
  ihave H2 := ((owns_rects (c : Thread nD τ) gM fullShare rSlot (fun _ _ => rfl) (rects_disjoint mem_rSlot) (rects_cover mem_rSlot fun i => (i 0).isLt) X).trans
    (Entails.of_eq (bigSep_four _))) $$ H
  icases H2 with ⟨A, B, C, D⟩
  isplitl [A]; · iapply (slot_free c 0 _) $$ A
  isplitl [B]; · iapply (slot_free c 1 _) $$ B
  isplitl [C]; · iapply (slot_free c 2 _) $$ C
  iapply (slot_free c 3 _) $$ D

theorem slots_join : (iprop(free (c : Thread nD τ) (slot 0) ∗ free (c : Thread nD τ) (slot 1) ∗ free (c : Thread nD τ) (slot 2) ∗ free (c : Thread nD τ) (slot 3)) : sProp 𝕄)
    ⊢ free (c : Thread nD τ) gM := by
  iintro ⟨A, B, C, D⟩
  ihave A' := (free_squeeze c _ squeezes_S1x32x7168_S32x7168).1 $$ A
  ihave B' := (free_squeeze c _ squeezes_S1x32x7168_S32x7168).1 $$ B
  ihave C' := (free_squeeze c _ squeezes_S1x32x7168_S32x7168).1 $$ C
  ihave D' := (free_squeeze c _ squeezes_S1x32x7168_S32x7168).1 $$ D
  unfold free
  icases A' with ⟨%X0, A⟩
  icases B' with ⟨%X1, B⟩
  icases C' with ⟨%X2, C⟩
  icases D' with ⟨%X3, D⟩
  haveI : Nonempty (Elt F .f32) := ⟨X0 fun a => ⟨0, by fin_cases a <;> decide⟩⟩
  obtain ⟨f, hf⟩ := exists_glue (r := rSlot) (rects_disjoint mem_rSlot) (fun t : Fin 4 => (![X0, X1, X2, X3] : Fin 4 → S1x32x7168.Idx → Elt F .f32) t)
  iexists f
  iapply (owns_of_rects (c : Thread nD τ) gM fullShare rSlot (fun _ _ => rfl) (rects_disjoint mem_rSlot) (rects_cover mem_rSlot fun i => (i 0).isLt) f)
  irw [bigSep_four]
  rw [show (fun j => f ((rSlot 0).emb j)) = X0 from funext (hf 0), show (fun j => f ((rSlot 1).emb j)) = X1 from funext (hf 1),
    show (fun j => f ((rSlot 2).emb j)) = X2 from funext (hf 2), show (fun j => f ((rSlot 3).emb j)) = X3 from funext (hf 3)]
  isplitl [A]; · iexact A
  isplitl [B]; · iexact B
  isplitl [C]; · iexact C
  iexact D

theorem homes_of (X : S2048x7168.Idx → Elt F .f32) : (own (c : Thread nD τ) wM X : sProp 𝕄) ⊢ homes c X Finset.univ :=
  owns_rects (c : Thread nD τ) wM fullShare rBlk (fun _ _ => rfl) (rects_disjoint blk_of) (rects_cover blk_of blk_lt) X

theorem free_whole (b : Ref sig .tc) :
    (iprop(∃ f : Buf (Elt F) ((c : Thread nD τ).loc b), ((c : Thread nD τ).loc b) ↦{fullShare} f) : sProp 𝕄) ⊣⊢ free (c : Thread nD τ) (Memref.whole b) := by
  unfold free Cert.Mlp.own
  constructor
  · iintro ⟨%f, H⟩
    iexists f
    iapply (Entails.of_eq (owns_whole (c : Thread nD τ) b fullShare f).symm) $$ H
  · iintro ⟨%f, H⟩
    iexists f
    iapply (Entails.of_eq (owns_whole (c : Thread nD τ) b fullShare f)) $$ H

/-! ### The kernel's own semaphores -/

abbrev osem : Fin 4 → SemLoc sig := fun k => .dma (sem k)
theorem ownSemFacts : Pipeline.OwnSemFacts spec0 osem := by decide +kernel

theorem ownSems0_eq : (Pipeline.ownSems0 (Ix := Unit) (Name := ℕ) (U := UU nD τ) (Lvl := ℕ) (Val := Elt F) (τ := τ) osem c : sProp 𝕄)
    = iprop(cell (c : Thread nD τ) (sem 0) ∗ cell (c : Thread nD τ) (sem 1) ∗ cell (c : Thread nD τ) (sem 2) ∗ cell (c : Thread nD τ) (sem 3)) :=
  bigSep_univ_eq_bigSepL [(0 : Fin 4), 1, 2, 3] (by decide) (by decide) _

/-! ### Into the kernel and out of it -/

abbrev buffers : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- What goes into the kernel, -/
def into : sProp 𝕄 := iprop(own (c : Thread nD τ) wM (weight m c) ∗ Pipeline.ownSems0 osem c)
/-- and what goes by. -/
def past : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2) ∗ (((c : Thread nD τ).loc main_arg3) ↦{fullShare} V m c main_arg3)
    ∗ (((c : Thread nD τ).loc main_arg4) ↦{fullShare} V m c main_arg4) ∗ (((c : Thread nD τ).loc main_arg5) ↦{fullShare} V m c main_arg5)
    ∗ (((c : Thread nD τ).loc main_arg6) ↦{fullShare} V m c main_arg6) ∗ (((c : Thread nD τ).loc main_arg7) ↦{fullShare} V m c main_arg7))

theorem idle_eq (s : Fin 4) : (idle c s.val : sProp 𝕄) = iprop(free (c : Thread nD τ) (slot s) ∗ cell (c : Thread nD τ) (sem s)) := by
  unfold idle
  rw [show sl 4 s.val = s from Fin.ext (Nat.mod_eq_of_lt s.isLt)]

theorem idles_eq : (iprop(idle c 0 ∗ idle c 1 ∗ idle c 2 ∗ idle c 3) : sProp 𝕄)
    = iprop((free (c : Thread nD τ) (slot 0) ∗ cell (c : Thread nD τ) (sem 0)) ∗ (free (c : Thread nD τ) (slot 1) ∗ cell (c : Thread nD τ) (sem 1))
      ∗ (free (c : Thread nD τ) (slot 2) ∗ cell (c : Thread nD τ) (sem 2)) ∗ free (c : Thread nD τ) (slot 3) ∗ cell (c : Thread nD τ) (sem 3)) := by
  rw [← idle_eq c 0, ← idle_eq c 1, ← idle_eq c 2, ← idle_eq c 3]
  rfl

theorem Φ_in : (iprop(into m c ∗ buffers c) : sProp 𝕄) ⊢ Φ m c 0 := by
  unfold into Φ ring
  rw [ownSems0_eq, if_pos rfl, idles_eq]
  iintro ⟨⟨H, S0, S1, S2, S3⟩, K, G⟩
  ihave G' := ((free_whole c cc0_scratch1).1.trans (slots_split c)) $$ G
  icases G' with ⟨A, B, C, D⟩
  isplitl [H S0 S1 S2 S3 A B C D]
  · isplitl [H]; · iapply (homes_of c _) $$ H
    isplitl [A S0]
    · isplitl [A]; · iexact A
      iexact S0
    isplitl [B S1]
    · isplitl [B]; · iexact B
      iexact S1
    isplitl [C S2]
    · isplitl [C]; · iexact C
      iexact S2
    isplitl [D]; · iexact D
    iexact S3
  iapply (free_whole c cc0_scratch0).1 $$ K

theorem Φ_out (n : ℕ) : (Φ m c (n + 1) : sProp 𝕄) ⊢ iprop(emp ∗ Pipeline.ownSems0 osem c ∗ buffers c) := by
  rw [Φ_post, ownSems0_eq]
  unfold ring
  rw [idles_eq]
  iintro ⟨⟨-, ⟨A, S0⟩, ⟨B, S1⟩, ⟨C, S2⟩, D, S3⟩, K⟩
  isplitr; · iempintro
  isplitl [S0 S1 S2 S3]
  · isplitl [S0]; · iexact S0
    isplitl [S1]; · iexact S1
    isplitl [S2]; · iexact S2
    iexact S3
  isplitl [K]; · iapply ((free_intro (c : Thread nD τ) _ _).trans (free_whole c cc0_scratch0).2) $$ K
  iapply ((slots_join c).trans (free_whole c cc0_scratch1).2)
  isplitl [A]; · iexact A
  isplitl [B]; · iexact B
  isplitl [C]; · iexact C
  iexact D

/-! ### The run -/

def u₀ : UU nD τ := (initOf (Pipeline.cells cfgs cellOf_inj) (Pipeline.launchToks cfgs cellOf_inj), 1)

/-- The arguments as they were. -/
def Kept (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)
  ∧ s.mem ((c : Thread nD τ).loc main_arg7) = m ((c : Thread nD τ).loc main_arg7)

theorem read_past (s' : Phys nD τ sig (Elt F)) :
    (iprop(emp ∗ past m c ∗ SI s') : sProp 𝕄) ⊢ |={Set.univ}=> iprop(⌜Kept m c s'.mem⌝ ∗ SI s') := by
  unfold past
  rw [V_arg m c main_arg0 (by decide), V_arg m c main_arg1 (by decide), V_arg m c main_arg2 (by decide),
    V_arg m c main_arg3 (by decide), V_arg m c main_arg4 (by decide), V_arg m c main_arg5 (by decide), V_arg m c main_arg6 (by decide),
    V_arg m c main_arg7 (by decide)]
  iintro ⟨-, ⟨H0, H1, H2, H3, H4, H5, H6, H7⟩, HSI⟩
  icombine HSI H0 gives %h0
  icombine HSI H1 gives %h1
  icombine HSI H2 gives %h2
  icombine HSI H3 gives %h3
  icombine HSI H4 gives %h4
  icombine HSI H5 gives %h5
  icombine HSI H6 gives %h6
  icombine HSI H7 gives %h7
  imodintro
  isplitr
  · ipureintro
    exact ⟨Buf.eq_of_forall_mem_univ h0, Buf.eq_of_forall_mem_univ h1, Buf.eq_of_forall_mem_univ h2, Buf.eq_of_forall_mem_univ h3,
      Buf.eq_of_forall_mem_univ h4, Buf.eq_of_forall_mem_univ h5, Buf.eq_of_forall_mem_univ h6, Buf.eq_of_forall_mem_univ h7⟩
  iexact HSI

theorem past_of : (iprop(Pipeline.unscopedRest spec0 c (V m c) ∗ Pipeline.ownSems0 osem c) : sProp 𝕄) ⊢ iprop(into m c ∗ past m c) := by
  rw [unscopedRest0_eq]
  unfold into past Cert.Mlp.own
  rw [owns_whole]
  iintro ⟨⟨H0, H1, H2, H3, H4, H5, H6, H7, -, A⟩, S⟩
  isplitl [A S]
  · isplitl [A]; · iexact A
    iexact S
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- What the run leaves: each window's array as the points wrote it, the arguments unchanged. -/
def Leaves (s : MemSt nD τ sig (Elt F)) : Prop :=
  (∀ w, s.mem ((spec0 w).arr.view.loc (c : Thread nD τ)) = (dats m 0 c).arrAt w cfg0.N) ∧ Kept m c s

set_option backward.isDefEq.respectTransparency.types false in
set_option maxHeartbeats 800000 in
/-- Every run ends, with the results as computed, the arguments unchanged and every counter at zero. -/
theorem run_main : θ_run defs (onTc (τ := τ) (main (F := F))) (s₀ m ρ) (fun r => (∀ c : Dev nD, Leaves m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs (0 : Fin 1) defs₀ 𝒱₀ m main hostOps0 hostOps0_sub hostOps0_fresh main_chain)
    (hA := fun _ _ => rfl)
    (X := into m) (Y := fun _ => iprop(emp)) (Z := past m)
    (hX := fun c => by
      iintro ⟨H0, HS, -, -, -⟩; imodintro
      iapply (past_of m c)
      isplitl [H0]; · iexact H0
      iexact HS)
    (hin := fun c => by
      rw [scopedRest0_eq, show (dats m 0 c).Φ 0 = Φ m c 0 from rfl]
      exact Φ_in m c)
    (hout := fun c => by
      rw [scopedRest0_eq, show (dats m 0 c).Φ (Fin.last cfg0.N) = Φ m c (63 + 1) from rfl]
      exact Φ_out m c 63)
    (QY := Kept m)
    (hY := read_past m)
    (hQ := fun _ hh hz => ⟨fun c => ⟨(hh c).1, (hh c).2⟩, hz⟩)

end Cert.InProj
-- ==== Proof.In.Values.lean ====
/- What a point of the projection computes, over the extended reals. -/
module

public import proofs.«01_k».proof.Proof.In.Body
public import proofs.«01_k».proof.Proof.Values
public import Idealize.ShloMosaic.Lib.IdealHost

@[expose] public section

set_option maxRecDepth 16384

noncomputable section

namespace Cert.InProj

open Cert.Mlp (nrm row)
open Cert.Kernel2Ideal Cert.Kernel2Ideal.Gen
open Idealize.ShloMosaic

/-! ### The logistic function by the hyperbolic tangent -/

theorem half_bits : Ideal.ofBits .f32 0x3F000000#32 = (((1 : ℝ) / 2 : ℝ) : EReal) := by
  simp [Ideal.ofBits, Ideal.ieee, -EReal.coe_mul]; norm_num

/-- The logistic function as the kernel computes it. -/
def gate (x : EReal) : EReal :=
  Ideal.ofBits .f32 0x3F000000#32 * Ideal.tanh (Ideal.ofBits .f32 0x3F000000#32 * x) + Ideal.ofBits .f32 0x3F000000#32

theorem real_gate (r : ℝ) : 1 / 2 * Real.tanh (1 / 2 * r) + 1 / 2 = (1 + Real.exp (-r))⁻¹ := by
  have hp : Real.exp (1 / 2 * r) * Real.exp (-(1 / 2 * r)) = 1 := by rw [← Real.exp_add, add_neg_cancel, Real.exp_zero]
  have hn : Real.exp (-r) = Real.exp (-(1 / 2 * r)) * Real.exp (-(1 / 2 * r)) := by rw [← Real.exp_add]; congr 1; ring
  have ha := Real.exp_pos (1 / 2 * r)
  have hb := Real.exp_pos (-(1 / 2 * r))
  rw [Real.tanh_eq_sinh_div_cosh, Real.sinh_eq, Real.cosh_eq, hn]
  generalize Real.exp (1 / 2 * r) = a at *
  generalize Real.exp (-(1 / 2 * r)) = b at *
  have h1 : a + b ≠ 0 := by positivity
  have h2 : 1 + b * b ≠ 0 := by positivity
  field_simp
  linear_combination (2 * b) * hp

theorem gate_eq (x : EReal) : gate x = Ideal.logistic x := by
  have hh : (0 : ℝ) < 1 / 2 := by norm_num
  unfold gate
  rw [half_bits]
  induction x with
  | bot =>
    rw [EReal.coe_mul_bot_of_pos hh, Ideal.tanh_bot, Ideal.logistic_bot, show (-1 : EReal) = ((-1 : ℝ) : EReal) from rfl, ← EReal.coe_mul, ← EReal.coe_add]
    norm_num
  | top =>
    rw [EReal.coe_mul_top_of_pos hh, Ideal.tanh_top, Ideal.logistic_top, show (1 : EReal) = ((1 : ℝ) : EReal) from rfl, ← EReal.coe_mul, ← EReal.coe_add]
    norm_num
  | coe r =>
    rw [← EReal.coe_mul, Ideal.tanh_coe, ← EReal.coe_mul, ← EReal.coe_add, Ideal.logistic_coe, real_gate]

/-! ### The stored values, at an element -/

section Payloads

variable (X : S256x2048.Idx → Elt Ideal .f32) (g : S1x2048.Idx → Elt Ideal .f32) (A : S2048x1024.Idx → Elt Ideal .bf16)
variable (r : Fin 256) (j : Fin 1024)

/-- The normed row against a column. -/
def dotc (A : Fin 2048 → EReal) : EReal := ∑ k, nrm (row X r) (row g 0) k * A k

theorem pay3_row (k : Fin 2048) : k0_pay3 (F := Ideal) X g (ix2 r k) = nrm (row X r) (row g 0) k := by
  pointwise [k0_pay3]
  rfl
theorem pay4_row : k0_pay4 (F := Ideal) X g A (ix2 r j) = dotc X g r fun k => A (ix2 k j) := by
  pointwise [k0_pay4]
  unfold dotc
  simp only [pay3_row]
theorem pay5_row : k0_pay5 (F := Ideal) X g A (ix2 r j) = dotc X g r fun k => A (ix2 k j) := by
  pointwise [k0_pay5]
  unfold dotc
  simp only [pay3_row]
theorem pay6_row : k0_pay6 (F := Ideal) X g A (ix2 r j) = gate (dotc X g r fun k => A (ix2 k j)) := by
  pointwise [k0_pay6]
  unfold dotc gate
  simp only [pay3_row]
theorem pay8_row : k0_pay8 (F := Ideal) (k0_pay3 X g) A (ix2 r j) = gate (dotc X g r fun k => A (ix2 k j)) := by
  pointwise [k0_pay8]
  unfold dotc gate
  simp only [pay3_row]
theorem pay9_row : k0_pay9 (F := Ideal) (k0_pay3 X g) A (ix2 r j) = gate (dotc X g r fun k => A (ix2 k j)) := by
  pointwise [k0_pay9]
  unfold dotc gate
  simp only [pay3_row]
theorem pay11_row : k0_pay11 (F := Ideal) (k0_pay10 (k0_pay3 X g) A) (ix2 r j) = gate (dotc X g r fun k => A (ix2 k j)) := by
  pointwise [k0_pay11, k0_pay10]
  unfold dotc gate
  simp only [pay3_row]
theorem pay12_row : k0_pay12 (F := Ideal) (k0_pay3 X g) A (ix2 r j) = gate (dotc X g r fun k => A (ix2 k j)) := by
  pointwise [k0_pay12]
  unfold dotc gate
  simp only [pay3_row]

end Payloads

/-! ### The point's results, at an element -/

theorem cut_ix {α : Type} (Y : S2048x7168.Idx → α) (n : ℕ) (h) (k : Fin 2048) (j : Fin 1024) (hn : n + j.val < 7168) :
    cut Y n h (ix2 k j) = Y (ix2 k ⟨n + j.val, hn⟩) := by
  refine congrArg Y (funext fun a => ?_)
  fin_cases a
  · exact Fin.ext (by show 0 + 1 * _ = _; rw [Nat.one_mul, Nat.zero_add]; rfl)
  · exact Fin.ext (by show n + 1 * _ = _; rw [Nat.one_mul]; rfl)

variable (D : Given Ideal) (W : S2048x7168.Idx → Elt Ideal .f32)

/-- The point's normed row `r` against column `k` of the weight. -/
def at_ (r : Fin 256) (k : Fin 7168) : EReal := dotc D.x D.g r fun l => W (ix2 l k)

theorem col (n : ℕ) (h) (r : Fin 256) (j : Fin 1024) (hn : n + j.val < 7168) :
    dotc D.x D.g r (fun k => cut (narrow (F := Ideal) W) n h (ix2 k j)) = at_ D W r ⟨n + j.val, hn⟩ := by
  unfold at_
  congr 1
  funext k
  exact cut_ix (narrow W) n h k j hn

theorem cols_ix {α : Type} (p q : S256x1024.Idx → α) (r : Fin 256) (j : Fin 2048) (f : Fin 2048 → α)
    (hp : ∀ (i : Fin 1024) (hi : i.val < 2048), p (ix2 r i) = f ⟨i.val, hi⟩)
    (hq : ∀ (i : Fin 1024) (hi : 1024 + i.val < 2048), q (ix2 r i) = f ⟨1024 + i.val, hi⟩) : cols p q (ix2 r j) = f j := by
  have hj := j.isLt
  unfold cols
  by_cases h : j.val < 1024
  · rw [dif_pos (show ((ix2 r j : S256x2048.Idx) 1).val < 1024 from h)]
    exact hp ⟨j.val, h⟩ hj
  · rw [dif_neg (show ¬ ((ix2 r j : S256x2048.Idx) 1).val < 1024 from h)]
    exact (hq ⟨j.val - 1024, by omega⟩ (by show 1024 + (j.val - 1024) < 2048; omega)).trans
      (congrArg f (Fin.ext (by show 1024 + (j.val - 1024) = j.val; omega)))

theorem z_row (r : Fin 256) (j : Fin 1024) : zV D W (ix2 r j) = at_ D W r ⟨0 + j.val, by omega⟩ :=
  (pay4_row _ _ _ _ _).trans (col D W 0 _ r j _)
theorem a_row (r : Fin 256) (j : Fin 1024) :
    aV D W (ix2 r j) = at_ D W r ⟨1024 + j.val, by omega⟩ * Ideal.logistic (at_ D W r ⟨2048 + j.val, by omega⟩) :=
  congrArg₂ (fun a b : EReal => a * b) ((pay5_row _ _ _ _ _).trans (col D W 1024 _ r j _))
    (((pay6_row _ _ _ _ _).trans (congrArg gate (col D W 2048 _ r j _))).trans (gate_eq _))
theorem s_row (r : Fin 256) (j : Fin 2048) : sV D W (ix2 r j) = Ideal.logistic (at_ D W r ⟨3072 + j.val, by omega⟩) :=
  cols_ix _ _ r j (fun j => Ideal.logistic (at_ D W r ⟨3072 + j.val, by omega⟩))
    (fun i _ => ((pay8_row _ _ _ _ _).trans (congrArg gate (col D W 3072 _ r i (by omega)))).trans (gate_eq _))
    (fun i _ => ((pay9_row _ _ _ _ _).trans (congrArg gate (col D W 4096 _ r i (by omega)))).trans ((gate_eq _).trans
      (congrArg (fun k => Ideal.logistic (at_ D W r k)) (Fin.ext (by show 4096 + i.val = 3072 + (1024 + i.val); omega)))))
theorem r_row (r : Fin 256) (j : Fin 2048) : rV D W (ix2 r j) = Ideal.logistic (at_ D W r ⟨5120 + j.val, by omega⟩) :=
  cols_ix _ _ r j (fun j => Ideal.logistic (at_ D W r ⟨5120 + j.val, by omega⟩))
    (fun i _ => ((pay11_row _ _ _ _ _).trans (congrArg gate (col D W 5120 _ r i (by omega)))).trans (gate_eq _))
    (fun i _ => ((pay12_row _ _ _ _ _).trans (congrArg gate (col D W 6144 _ r i (by omega)))).trans ((gate_eq _).trans
      (congrArg (fun k => Ideal.logistic (at_ D W r k)) (Fin.ext (by show 6144 + i.val = 5120 + (1024 + i.val); omega)))))

end Cert.InProj
-- ==== Proof.In.Reference.lean ====
/- The projection by the plain formula, element by element. -/
module

public import proofs.«01_k».proof.Proof.Values
public import proofs.«01_k».proof.Proof.Gen.Reference2Ideal.Run
public import Idealize.ShloMosaic.PureOps.Ideal
public import Idealize.ShloMosaic.Lib.Pointwise
public import Idealize.ShloMosaic.Lib.IdealHost
public import Idealize.ShloMosaic.Lib.Tactic.CleanTypes

@[expose] public section

set_option maxRecDepth 16384

noncomputable section

namespace Cert.InProj

open Cert.Mlp (nrm row)
open Idealize.ShloMosaic Idealize.ShloMosaic.TcCoe

/-! ### The results, as functions of the arguments -/

section Results

variable (x : (⟨3, ![8, 2048, 2048]⟩ : Shape).Idx → EReal) (g : (⟨2, ![1, 2048]⟩ : Shape).Idx → EReal)
variable (w : (⟨3, ![1, 2048, 7168]⟩ : Shape).Idx → EReal)

/-- Token `r`'s normed row against column `k` of the weight. -/
def proj (r : Fin 16384) (k : Fin 7168) : EReal :=
  ∑ l, nrm (fun l => x (ix3 ⟨r.val / 2048, by omega⟩ ⟨r.val % 2048, by omega⟩ l)) (row g 0) l * w (ix3 0 l k)

/-- `b` columns of an array, from column `n`. -/
def from_ {b : ℕ} (n : ℕ) (h : n + b ≤ 7168) (P : Fin 16384 → Fin 7168 → EReal) : (⟨2, ![16384, b]⟩ : Shape).Idx → EReal :=
  fun i => P (i 0) ⟨n + (i 1).val, Nat.lt_of_lt_of_le (Nat.add_lt_add_left (i 1).isLt n) h⟩

/-- The pooled branch, -/
def zR : (⟨2, ![16384, 1024]⟩ : Shape).Idx → EReal := from_ 0 (by decide) (proj x g w)
/-- the gated convolution branch, -/
def aR : (⟨2, ![16384, 1024]⟩ : Shape).Idx → EReal := fun i =>
  from_ (b := 1024) 1024 (by decide) (proj x g w) i * Ideal.logistic (from_ (b := 1024) 2048 (by decide) (proj x g w) i)
/-- and the two gates. -/
def sR : (⟨2, ![16384, 2048]⟩ : Shape).Idx → EReal := fun i => Ideal.logistic (from_ (b := 2048) 3072 (by decide) (proj x g w) i)
def rR : (⟨2, ![16384, 2048]⟩ : Shape).Idx → EReal := fun i => Ideal.logistic (from_ (b := 2048) 5120 (by decide) (proj x g w) i)
/-- A weight, its layer axis dropped. -/
def flat {a b : ℕ} (y : (⟨3, ![1, a, b]⟩ : Shape).Idx → EReal) : (⟨2, ![a, b]⟩ : Shape).Idx → EReal := fun i => y (ix3 0 (i 0) (i 1))

end Results

/-! ### The reference's run -/

section Reference

open Cert.Reference2Ideal Cert.Reference2Ideal.Gen

variable (x : FVec Ideal S8x2048x2048 .f32) (g : FVec Ideal S1x2048 .f32) (w : FVec Ideal S1x2048x7168 .f32)

/-- The reference's projection. -/
def refY : FVec Ideal S16384x7168 .f32 :=
  shapeCast _ (Host.dotGeneral dot_S8x2048x2048_S2048x7168_S8x2048x7168_2_0_01_1_n_n none (mulf (mulf x (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf x x) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ g shapeCasts_S1x2048_S2048)))) (shapeCast _ w shapeCasts_S1x2048x7168_S2048x7168)) shapeCasts_S8x2048x7168_S16384x7168

theorem refY_ix (r : Fin 16384) (k : Fin 7168) : refY x g w (ix2 r k) = proj x g w r k := by
  unfold refY
  clean_types
  pointwise
  rfl

variable (Y : FVec Ideal S16384x7168 .f32)

theorem slice_small (n : ℕ) (hs) (h : n + 1024 ≤ 7168) (i : S16384x1024.Idx) :
    extractStridedSlice S16384x1024 ![0, n] Y hs i = from_ n h (fun r k => Y (ix2 r k)) i := by
  idx_vars i
  pointwise
  rfl
theorem slice_wide (n : ℕ) (hs) (h : n + 2048 ≤ 7168) (i : S16384x2048.Idx) :
    extractStridedSlice S16384x2048 ![0, n] Y hs i = from_ n h (fun r k => Y (ix2 r k)) i := by
  idx_vars i
  pointwise
  rfl

theorem gate_small (y : FVec Ideal S16384x1024 .f32) (i : S16384x1024.Idx) :
    (Host.divf (broadcastInDim S16384x1024 ![] bcast_S_S16384x1024 (constant S_ .f32 0x3F800000#32)) (addf (broadcastInDim S16384x1024 ![] bcast_S_S16384x1024 (constant S_ .f32 0x3F800000#32)) (Host.exp (Host.negf y))) : FVec Ideal S16384x1024 .f32) i = Ideal.logistic (y i) := by
  idx_vars i
  pointwise
  rfl
theorem gate_wide (y : FVec Ideal S16384x2048 .f32) (i : S16384x2048.Idx) :
    (truncf .bf16 (Host.divf (broadcastInDim S16384x2048 ![] bcast_S_S16384x2048 (constant S_ .f32 0x3F800000#32)) (addf (broadcastInDim S16384x2048 ![] bcast_S_S16384x2048 (constant S_ .f32 0x3F800000#32)) (Host.exp (Host.negf y))) : FVec Ideal S16384x2048 .f32) bitsLt_bf16_f32 : FVec Ideal S16384x2048 .bf16) i = Ideal.logistic (y i) := by
  idx_vars i
  pointwise
  rfl

theorem refY_eq : (fun r k => refY x g w (ix2 r k)) = proj x g w := funext fun r => funext fun k => refY_ix x g w r k

variable (m : (ℓ : Loc nD τ sig) → Buf (Elt Ideal) ℓ) (ρ : Dev nD → PrngReg)

/-- Argument `b` of core `c`. -/
abbrev argR (c : Dev nD) (b : Ref sig .tc) : Buf (Elt Ideal) ((c.tc : Thread nD τ).loc b) := m ((c.tc : Thread nD τ).loc b)

/-- The reference's arguments are left as they were. -/
def KeptR (c : Dev nD) (s : MemSt nD τ sig (Elt Ideal)) : Prop :=
  s.mem ((c.tc : Thread nD τ).loc main_arg0) = argR m c main_arg0
  ∧ s.mem ((c.tc : Thread nD τ).loc main_arg1) = argR m c main_arg1
  ∧ s.mem ((c.tc : Thread nD τ).loc main_arg2) = argR m c main_arg2
  ∧ s.mem ((c.tc : Thread nD τ).loc main_arg3) = argR m c main_arg3
  ∧ s.mem ((c.tc : Thread nD τ).loc main_arg4) = argR m c main_arg4
  ∧ s.mem ((c.tc : Thread nD τ).loc main_arg5) = argR m c main_arg5
  ∧ s.mem ((c.tc : Thread nD τ).loc main_arg6) = argR m c main_arg6
  ∧ s.mem ((c.tc : Thread nD τ).loc main_arg7) = argR m c main_arg7

/-- Every run of the reference ends with these results. -/
theorem run_reference : θ_run defs (onTc (τ := τ) (main (F := Ideal))) ⟨m, fun _ => 0, ρ⟩ fun r => ∀ c : Dev nD,
    r.2.mem ((c.tc : Thread nD τ).loc main_v17) = zR (argR m c main_arg0) (argR m c main_arg1) (argR m c main_arg2)
    ∧ r.2.mem ((c.tc : Thread nD τ).loc main_v40) = aR (argR m c main_arg0) (argR m c main_arg1) (argR m c main_arg2)
    ∧ r.2.mem ((c.tc : Thread nD τ).loc main_v41) = sR (argR m c main_arg0) (argR m c main_arg1) (argR m c main_arg2)
    ∧ r.2.mem ((c.tc : Thread nD τ).loc main_v42) = rR (argR m c main_arg0) (argR m c main_arg1) (argR m c main_arg2)
    ∧ r.2.mem ((c.tc : Thread nD τ).loc main_v44) = flat (a := 1024) (b := 2048) (argR m c main_arg3)
    ∧ r.2.mem ((c.tc : Thread nD τ).loc main_v46) = flat (a := 1024) (b := 2048) (argR m c main_arg4)
    ∧ r.2.mem ((c.tc : Thread nD τ).loc main_v48) = flat (a := 2048) (b := 2048) (argR m c main_arg5)
    ∧ r.2.mem ((c.tc : Thread nD τ).loc main_v50) = flat (a := 2048) (b := 8192) (argR m c main_arg6)
    ∧ r.2.mem ((c.tc : Thread nD τ).loc main_v52) = flat (a := 8192) (b := 2048) (argR m c main_arg7)
    ∧ KeptR m c r.2 := by
  refine (θ_run defs _ _).mono (fun r h c => ?_) (Value.run (F := Ideal) m ρ)
  obtain ⟨h0, h1, h2, h3, h4, h5, h6, h7, h8, hk⟩ := h c
  have hY := refY_eq (argR m c main_arg0) (argR m c main_arg1) (argR m c main_arg2)
  refine ⟨h0.trans (funext fun i => (slice_small (refY _ _ _) 0 _ (by decide) i).trans (congrArg (fun P => from_ (b := 1024) 0 (by decide) P i) hY)),
    h1.trans (funext fun i => ?_),
    h2.trans (funext fun i => (gate_wide _ i).trans (congrArg Ideal.logistic ((slice_wide (refY _ _ _) 3072 _ (by decide) i).trans
      (congrArg (fun P => from_ (b := 2048) 3072 (by decide) P i) hY)))),
    h3.trans (funext fun i => (gate_wide _ i).trans (congrArg Ideal.logistic ((slice_wide (refY _ _ _) 5120 _ (by decide) i).trans
      (congrArg (fun P => from_ (b := 2048) 5120 (by decide) P i) hY)))),
    h4.trans (funext fun i => ?_), h5.trans (funext fun i => ?_), h6.trans (funext fun i => ?_), h7.trans (funext fun i => ?_),
    h8.trans (funext fun i => ?_), hk⟩
  · exact congrArg₂ (fun a b : EReal => a * b) ((slice_small (refY _ _ _) 1024 _ (by decide) i).trans
        (congrArg (fun P => from_ (b := 1024) 1024 (by decide) P i) hY))
      ((gate_small _ i).trans (congrArg Ideal.logistic ((slice_small (refY _ _ _) 2048 _ (by decide) i).trans
        (congrArg (fun P => from_ (b := 1024) 2048 (by decide) P i) hY))))
  all_goals
    idx_vars i
    clean_types
    pointwise
    rfl

end Reference

end Cert.InProj
-- ==== Proof.In.Tie.lean ====
/- The projection's results, as functions of its arguments. -/
module

public import proofs.«01_k».proof.Proof.In.Run
public import proofs.«01_k».proof.Proof.In.Values
public import proofs.«01_k».proof.Proof.In.Reference
public import Idealize.ShloMosaic.Lib.Pipeline.ValueKit
public import Idealize.ShloMosaic.Lib.Tactic.CleanTypes

@[expose] public section

set_option maxRecDepth 16384

noncomputable section

namespace Cert.InProj

open Cert.Mlp (nrm row)
open Cert.Kernel2Ideal Cert.Kernel2Ideal.Gen
open Idealize.ShloMosaic Idealize.ShloMosaic.TcCoe
open Idealize.ShloMosaic.Pipeline (Dat Cfg Window)

variable (m : (ℓ : Loc nD τ sig) → Buf (Elt Ideal) ℓ) (c : Dev nD)

/-- Argument `b` of core `c`. -/
abbrev argK (b : Ref sig .tc) : Buf (Elt Ideal) ((c : Thread nD τ).loc b) := m ((c : Thread nD τ).loc b)

/-! ### The arrays the kernel is given -/

theorem rows_at (r : Fin 16384) (j : Fin 2048) :
    V (F := Ideal) m c main_v0 (ix2 r j) = argK m c main_arg0 (ix3 ⟨r.val / 2048, by omega⟩ ⟨r.val % 2048, by omega⟩ j) := by
  have e : V m c main_v0 = shapeCast S16384x2048 (argK m c main_arg0) shapeCasts_S8x2048x2048_S16384x2048 := by
    unfold V V0 hostOps0
    after_results_simp <;> rfl
  rw [e]
  clean_types
  pointwise
theorem gain_at (j : Fin 2048) : V (F := Ideal) m c main_v2 (ix2 0 j) = argK m c main_arg1 (ix2 0 j) := by
  have e : V m c main_v2 = (broadcastInDim S1x2048 ![1] bcast_S2048_S1x2048_1 (shapeCast S2048 (argK m c main_arg1)
      shapeCasts_S1x2048_S2048 : FVec Ideal S2048 .f32) : FVec Ideal S1x2048 .f32) := by
    unfold V V0 hostOps0
    after_results_simp <;> rfl
  rw [e]
  clean_types
  pointwise
theorem weight_at (l : Fin 2048) (k : Fin 7168) : weight (F := Ideal) m c (ix2 l k) = argK m c main_arg2 (ix3 0 l k) := by
  have e : V m c main_v3 = shapeCast S2048x7168 (argK m c main_arg2) shapeCasts_S1x2048x7168_S2048x7168 := by
    unfold V V0 hostOps0
    after_results_simp <;> rfl
  show V m c main_v3 _ = _
  rw [e]
  clean_types
  pointwise
theorem p_at (r : Fin 1024) (j : Fin 2048) : V (F := Ideal) m c main_v4 (ix2 r j) = argK m c main_arg3 (ix3 0 r j) := by
  have e : V m c main_v4 = shapeCast S1024x2048 (argK m c main_arg3) shapeCasts_S1x1024x2048_S1024x2048 := by
    unfold V V0 hostOps0
    after_results_simp <;> rfl
  rw [e]
  clean_types
  pointwise
theorem q_at (r : Fin 1024) (j : Fin 2048) : V (F := Ideal) m c main_v5 (ix2 r j) = argK m c main_arg4 (ix3 0 r j) := by
  have e : V m c main_v5 = shapeCast S1024x2048 (argK m c main_arg4) shapeCasts_S1x1024x2048_S1024x2048 := by
    unfold V V0 hostOps0
    after_results_simp <;> rfl
  rw [e]
  clean_types
  pointwise
theorem o_at (r j : Fin 2048) : V (F := Ideal) m c main_v6 (ix2 r j) = argK m c main_arg5 (ix3 0 r j) := by
  have e : V m c main_v6 = shapeCast S2048x2048 (argK m c main_arg5) shapeCasts_S1x2048x2048_S2048x2048 := by
    unfold V V0 hostOps0
    after_results_simp <;> rfl
  rw [e]
  clean_types
  pointwise
theorem u_at (r : Fin 2048) (j : Fin 8192) : V (F := Ideal) m c main_v7 (ix2 r j) = argK m c main_arg6 (ix3 0 r j) := by
  have e : V m c main_v7 = shapeCast S2048x8192 (argK m c main_arg6) shapeCasts_S1x2048x8192_S2048x8192 := by
    unfold V V0 hostOps0
    after_results_simp <;> rfl
  rw [e]
  clean_types
  pointwise
theorem d_at (r : Fin 8192) (j : Fin 2048) : V (F := Ideal) m c main_v8 (ix2 r j) = argK m c main_arg7 (ix3 0 r j) := by
  have e : V m c main_v8 = shapeCast S8192x2048 (argK m c main_arg7) shapeCasts_S1x8192x2048_S8192x2048 := by
    unfold V V0 hostOps0
    after_results_simp <;> rfl
  rw [e]
  clean_types
  pointwise

/-! ### The blocks' places -/

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![t.val, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![t.val, 0] := (by decide +kernel : ∀ t : Fin grid0.N, _)
theorem ix_6 : ∀ t : Fin cfg0.N, win0_6.index t = ![t.val, 0] := (by decide +kernel : ∀ t : Fin grid0.N, _)
theorem ix_7 : ∀ t : Fin cfg0.N, win0_7.index t = ![t.val, 0] := (by decide +kernel : ∀ t : Fin grid0.N, _)
theorem ix_8 : ∀ t : Fin cfg0.N, win0_8.index t = ![t.val, 0] := (by decide +kernel : ∀ t : Fin grid0.N, _)
theorem ix_9 : ∀ t : Fin cfg0.N, win0_9.index t = ![t.val, 0] := (by decide +kernel : ∀ t : Fin grid0.N, _)
theorem ix_10 : ∀ t : Fin cfg0.N, win0_10.index t = ![t.val, 0] := (by decide +kernel : ∀ t : Fin grid0.N, _)
theorem ix_11 : ∀ t : Fin cfg0.N, win0_11.index t = ![t.val, 0] := (by decide +kernel : ∀ t : Fin grid0.N, _)
theorem ix_12 : ∀ t : Fin cfg0.N, win0_12.index t = ![t.val, 0] := (by decide +kernel : ∀ t : Fin grid0.N, _)
theorem ix_13 : ∀ t : Fin cfg0.N, win0_13.index t = ![t.val, 0] := (by decide +kernel : ∀ t : Fin grid0.N, _)
theorem ix_14 : ∀ t : Fin cfg0.N, win0_14.index t = ![t.val, 0] := (by decide +kernel : ∀ t : Fin grid0.N, _)
theorem ix_15 : ∀ t : Fin cfg0.N, win0_15.index t = ![t.val, 0] := (by decide +kernel : ∀ t : Fin grid0.N, _)

theorem points (t : Fin cfg0.N) : t.val < 64 := t.isLt

/-! ### A point's rows -/

theorem x_at (t : Fin cfg0.N) (r : Fin 256) (h : t.val * 256 + r.val < 16384) :
    (row (given (F := Ideal) m c t).x r : Fin 2048 → EReal)
      = fun l => argK m c main_arg0 (ix3 ⟨(t.val * 256 + r.val) / 2048, by omega⟩ ⟨(t.val * 256 + r.val) % 2048, by omega⟩ l) := by
  funext l
  refine Eq.trans ?_ (rows_at m c ⟨t.val * 256 + r.val, h⟩ l)
  show iblk m c 0 t _ = _
  blk_ext [iblk, ix_0]
theorem g_at (t : Fin cfg0.N) : (row (given (F := Ideal) m c t).g 0 : Fin 2048 → EReal) = row (argK m c main_arg1) 0 := by
  funext l
  refine Eq.trans ?_ (gain_at m c l)
  show iblk m c 1 t _ = _
  blk_ext [iblk, ix_1]
theorem at_proj (t : Fin cfg0.N) (r : Fin 256) (k : Fin 7168) (h : t.val * 256 + r.val < 16384) :
    at_ (given (F := Ideal) m c t) (weight m c) r k
      = proj (argK m c main_arg0) (argK m c main_arg1) (argK m c main_arg2) ⟨t.val * 256 + r.val, h⟩ k := by
  unfold at_ dotc proj
  rw [x_at m c t r h, g_at m c t]
  exact Finset.sum_congr rfl fun l _ => congrArg (fun y : EReal => _ * y) (weight_at m c l k)

theorem z_at (t : Fin cfg0.N) (r : Fin 256) (j : Fin 1024) (h : t.val * 256 + r.val < 16384) :
    zV (given (F := Ideal) m c t) (weight m c) (ix2 r j)
      = zR (argK m c main_arg0) (argK m c main_arg1) (argK m c main_arg2) (ix2 ⟨t.val * 256 + r.val, h⟩ j) := by
  rw [z_row, at_proj m c t r _ h]
  rfl
theorem a_at (t : Fin cfg0.N) (r : Fin 256) (j : Fin 1024) (h : t.val * 256 + r.val < 16384) :
    aV (given (F := Ideal) m c t) (weight m c) (ix2 r j)
      = aR (argK m c main_arg0) (argK m c main_arg1) (argK m c main_arg2) (ix2 ⟨t.val * 256 + r.val, h⟩ j) := by
  rw [a_row, at_proj m c t r _ h, at_proj m c t r _ h]
  rfl
theorem s_at (t : Fin cfg0.N) (r : Fin 256) (j : Fin 2048) (h : t.val * 256 + r.val < 16384) :
    sV (given (F := Ideal) m c t) (weight m c) (ix2 r j)
      = sR (argK m c main_arg0) (argK m c main_arg1) (argK m c main_arg2) (ix2 ⟨t.val * 256 + r.val, h⟩ j) := by
  rw [s_row, at_proj m c t r _ h]
  rfl
theorem r_at (t : Fin cfg0.N) (r : Fin 256) (j : Fin 2048) (h : t.val * 256 + r.val < 16384) :
    rV (given (F := Ideal) m c t) (weight m c) (ix2 r j)
      = rR (argK m c main_arg0) (argK m c main_arg1) (argK m c main_arg2) (ix2 ⟨t.val * 256 + r.val, h⟩ j) := by
  rw [r_row, at_proj m c t r _ h]
  rfl

/-! ### The arrays at the end -/

theorem final_z : (dats (F := Ideal) m 0 c).arrAt 7 cfg0.N = zR (argK m c main_arg0) (argK m c main_arg1) (argK m c main_arg2) := by
  refine (dats m 0 c).arrAt_eq_of_covers 7 _ (by decide +kernel) fun t hf y => ?_
  blk_simp
  have ht := points t
  idx_vars y
  have h : t.val * 256 + y0.val < 16384 := by omega
  have e : (win0_7.blk t).view.emb (ix2 y0 y1) = (ix2 ⟨t.val * 256 + y0.val, h⟩ y1 : S16384x1024.Idx) := by blk_ext [ix_7]
  exact (z_at m c t y0 y1 h).trans (congrArg (zR _ _ _) e.symm)
theorem final_a : (dats (F := Ideal) m 0 c).arrAt 8 cfg0.N = aR (argK m c main_arg0) (argK m c main_arg1) (argK m c main_arg2) := by
  refine (dats m 0 c).arrAt_eq_of_covers 8 _ (by decide +kernel) fun t hf y => ?_
  blk_simp
  have ht := points t
  idx_vars y
  have h : t.val * 256 + y0.val < 16384 := by omega
  have e : (win0_8.blk t).view.emb (ix2 y0 y1) = (ix2 ⟨t.val * 256 + y0.val, h⟩ y1 : S16384x1024.Idx) := by blk_ext [ix_8]
  exact (a_at m c t y0 y1 h).trans (congrArg (aR _ _ _) e.symm)
theorem final_s : (dats (F := Ideal) m 0 c).arrAt 9 cfg0.N = sR (argK m c main_arg0) (argK m c main_arg1) (argK m c main_arg2) := by
  refine (dats m 0 c).arrAt_eq_of_covers 9 _ (by decide +kernel) fun t hf y => ?_
  blk_simp
  have ht := points t
  idx_vars y
  have h : t.val * 256 + y0.val < 16384 := by omega
  have e : (win0_9.blk t).view.emb (ix2 y0 y1) = (ix2 ⟨t.val * 256 + y0.val, h⟩ y1 : S16384x2048.Idx) := by blk_ext [ix_9]
  exact (s_at m c t y0 y1 h).trans (congrArg (sR _ _ _) e.symm)
theorem final_r : (dats (F := Ideal) m 0 c).arrAt 10 cfg0.N = rR (argK m c main_arg0) (argK m c main_arg1) (argK m c main_arg2) := by
  refine (dats m 0 c).arrAt_eq_of_covers 10 _ (by decide +kernel) fun t hf y => ?_
  blk_simp
  have ht := points t
  idx_vars y
  have h : t.val * 256 + y0.val < 16384 := by omega
  have e : (win0_10.blk t).view.emb (ix2 y0 y1) = (ix2 ⟨t.val * 256 + y0.val, h⟩ y1 : S16384x2048.Idx) := by blk_ext [ix_10]
  exact (r_at m c t y0 y1 h).trans (congrArg (rR _ _ _) e.symm)
theorem final_p : (dats (F := Ideal) m 0 c).arrAt 11 cfg0.N = flat (a := 1024) (b := 2048) (argK m c main_arg3) := by
  refine (dats m 0 c).arrAt_eq_of_covers 11 _ (by decide +kernel) fun t hf y => ?_
  blk_simp
  have ht := points t
  idx_vars y
  have h : t.val * 16 + y0.val < 1024 := by omega
  have e : (win0_11.blk t).view.emb (ix2 y0 y1) = (ix2 ⟨t.val * 16 + y0.val, h⟩ y1 : S1024x2048.Idx) := by blk_ext [ix_11]
  have hv : iblk (F := Ideal) m c 2 t (ix2 y0 y1) = argK m c main_arg3 (ix3 0 ⟨t.val * 16 + y0.val, h⟩ y1) := by
    refine Eq.trans ?_ (p_at m c ⟨t.val * 16 + y0.val, h⟩ y1)
    blk_ext [iblk, ix_2]
  have hp : k0_pay13 (F := Ideal) (iblk m c 2 t) (ix2 y0 y1) = iblk m c 2 t (ix2 y0 y1) := by
    pointwise [k0_pay13]
  exact (hp.trans hv).trans (congrArg (flat (a := 1024) (b := 2048) _) e.symm)
theorem final_q : (dats (F := Ideal) m 0 c).arrAt 12 cfg0.N = flat (a := 1024) (b := 2048) (argK m c main_arg4) := by
  refine (dats m 0 c).arrAt_eq_of_covers 12 _ (by decide +kernel) fun t hf y => ?_
  blk_simp
  have ht := points t
  idx_vars y
  have h : t.val * 16 + y0.val < 1024 := by omega
  have e : (win0_12.blk t).view.emb (ix2 y0 y1) = (ix2 ⟨t.val * 16 + y0.val, h⟩ y1 : S1024x2048.Idx) := by blk_ext [ix_12]
  have hv : iblk (F := Ideal) m c 3 t (ix2 y0 y1) = argK m c main_arg4 (ix3 0 ⟨t.val * 16 + y0.val, h⟩ y1) := by
    refine Eq.trans ?_ (q_at m c ⟨t.val * 16 + y0.val, h⟩ y1)
    blk_ext [iblk, ix_3]
  have hp : k0_pay14 (F := Ideal) (iblk m c 3 t) (ix2 y0 y1) = iblk m c 3 t (ix2 y0 y1) := by
    pointwise [k0_pay14]
  exact (hp.trans hv).trans (congrArg (flat (a := 1024) (b := 2048) _) e.symm)
theorem final_o : (dats (F := Ideal) m 0 c).arrAt 13 cfg0.N = flat (a := 2048) (b := 2048) (argK m c main_arg5) := by
  refine (dats m 0 c).arrAt_eq_of_covers 13 _ (by decide +kernel) fun t hf y => ?_
  blk_simp
  have ht := points t
  idx_vars y
  have h : t.val * 32 + y0.val < 2048 := by omega
  have e : (win0_13.blk t).view.emb (ix2 y0 y1) = (ix2 ⟨t.val * 32 + y0.val, h⟩ y1 : S2048x2048.Idx) := by blk_ext [ix_13]
  have hv : iblk (F := Ideal) m c 4 t (ix2 y0 y1) = argK m c main_arg5 (ix3 0 ⟨t.val * 32 + y0.val, h⟩ y1) := by
    refine Eq.trans ?_ (o_at m c ⟨t.val * 32 + y0.val, h⟩ y1)
    blk_ext [iblk, ix_4]
  have hp : k0_pay15 (F := Ideal) (iblk m c 4 t) (ix2 y0 y1) = iblk m c 4 t (ix2 y0 y1) := by
    pointwise [k0_pay15]
  exact (hp.trans hv).trans (congrArg (flat (a := 2048) (b := 2048) _) e.symm)
theorem final_u : (dats (F := Ideal) m 0 c).arrAt 14 cfg0.N = flat (a := 2048) (b := 8192) (argK m c main_arg6) := by
  refine (dats m 0 c).arrAt_eq_of_covers 14 _ (by decide +kernel) fun t hf y => ?_
  blk_simp
  have ht := points t
  idx_vars y
  have h : t.val * 32 + y0.val < 2048 := by omega
  have e : (win0_14.blk t).view.emb (ix2 y0 y1) = (ix2 ⟨t.val * 32 + y0.val, h⟩ y1 : S2048x8192.Idx) := by blk_ext [ix_14]
  have hv : iblk (F := Ideal) m c 5 t (ix2 y0 y1) = argK m c main_arg6 (ix3 0 ⟨t.val * 32 + y0.val, h⟩ y1) := by
    refine Eq.trans ?_ (u_at m c ⟨t.val * 32 + y0.val, h⟩ y1)
    blk_ext [iblk, ix_5]
  have hp : k0_pay16 (F := Ideal) (iblk m c 5 t) (ix2 y0 y1) = iblk m c 5 t (ix2 y0 y1) := by
    pointwise [k0_pay16]
  exact (hp.trans hv).trans (congrArg (flat (a := 2048) (b := 8192) _) e.symm)
theorem final_d : (dats (F := Ideal) m 0 c).arrAt 15 cfg0.N = flat (a := 8192) (b := 2048) (argK m c main_arg7) := by
  refine (dats m 0 c).arrAt_eq_of_covers 15 _ (by decide +kernel) fun t hf y => ?_
  blk_simp
  have ht := points t
  idx_vars y
  have h : t.val * 128 + y0.val < 8192 := by omega
  have e : (win0_15.blk t).view.emb (ix2 y0 y1) = (ix2 ⟨t.val * 128 + y0.val, h⟩ y1 : S8192x2048.Idx) := by blk_ext [ix_15]
  have hv : iblk (F := Ideal) m c 6 t (ix2 y0 y1) = argK m c main_arg7 (ix3 0 ⟨t.val * 128 + y0.val, h⟩ y1) := by
    refine Eq.trans ?_ (d_at m c ⟨t.val * 128 + y0.val, h⟩ y1)
    blk_ext [iblk, ix_6]
  have hp : k0_pay1 (F := Ideal) (iblk m c 6 t) (ix2 y0 y1) = iblk m c 6 t (ix2 y0 y1) := by
    pointwise [k0_pay1]
  exact (hp.trans hv).trans (congrArg (flat (a := 8192) (b := 2048) _) e.symm)

end Cert.InProj
-- ==== Proof.In.Word.lean ====
/- The projection's program over machine words: it is the one read over the extended reals, at other values. -/
module

public import proofs.«01_k».proof.Proof.In.Run
public import proofs.«01_k».proof.Proof.Gen.Kernel2

@[expose] public section

set_option maxRecDepth 16384

noncomputable section

namespace Cert.InProj

open Idealize.ShloMosaic Idealize.ShloMosaic.TcCoe Idealize.SL.Sem

set_option maxHeartbeats 4000000 in
/-- The two programs' kernels are one. -/
theorem bodies_eq : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l, a with
  | 0, (t, s) => rfl

set_option maxHeartbeats 4000000 in
theorem defs_eq : Cert.Kernel2.defs (F := Bits) = Cert.Kernel2Ideal.defs (F := Bits) :=
  congrArg (Pipeline.defs Cert.Kernel2Ideal.pcfgs) bodies_eq

set_option maxHeartbeats 4000000 in
/-- The run over machine words. -/
theorem run_word (m : (ℓ : Loc Cert.Kernel2.nD Cert.Kernel2.τ Cert.Kernel2.sig) → Buf (Elt Bits) ℓ) (ρ : Dev Cert.Kernel2.nD → PrngReg) :
    θ_run (Cert.Kernel2.defs (F := Bits)) (onTc (τ := Cert.Kernel2.τ) (Cert.Kernel2.main (F := Bits))) ⟨m, fun _ => 0, ρ⟩
      (fun r => (∀ c, Kept (F := Bits) m c r.2) ∧ r.2.sem = fun _ => 0) := by
  have h : θ_run (Cert.Kernel2Ideal.defs (F := Bits)) (onTc (τ := Cert.Kernel2Ideal.τ) (Cert.Kernel2Ideal.main (F := Bits))) ⟨m, fun _ => 0, ρ⟩
      (fun r => (∀ c, Kept (F := Bits) m c r.2) ∧ r.2.sem = fun _ => 0) :=
    (θ_run Cert.Kernel2Ideal.defs _ _).mono (fun _ h => ⟨fun c => (h.1 c).2, h.2⟩) (run_main (F := Bits) m ρ)
  exact (congrArg (fun d => θ_run d (onTc (τ := Cert.Kernel2Ideal.τ) (Cert.Kernel2Ideal.main (F := Bits))) ⟨m, fun _ => 0, ρ⟩
      (fun r => (∀ c, Kept (F := Bits) m c r.2) ∧ r.2.sem = fun _ => 0)) defs_eq).mpr h

end Cert.InProj
-- ==== Proof.lean ====
/- The proof of the certificate, of two calls of the layer: the programs run and leave their arguments and every counter as they
   were, and over the extended reals each kernel's results are its reference's. The MLP's run is `Cert.Mlp.run_main`
   (Proof/Run.lean), the projection's `Cert.InProj.run_main` (Proof/In/Run.lean), for any float values; the results are met
   element by element in Proof/Tie.lean and in Proof/In/Reference.lean and Proof/In/Tie.lean. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Word.Run
public import proofs.«01_k».proof.Proof.Tie
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.In.Tie
public import proofs.«01_k».proof.Proof.In.Word

@[expose] public section

set_option maxRecDepth 16384

noncomputable section

namespace Cert.Proof

open Idealize.ShloMosaic Idealize.ShloMosaic.TcCoe Idealize.SL.Sem

theorem frame_kernel : Cert.quiescent_Kernel := fun m ρ _ =>
  (θ_run Cert.Kernel.defs _ _).mono (fun _ h => ⟨fun c => (h.1 c).2, h.2⟩) (Cert.Mlp.Word.run_main (F := Bits) m ρ)

theorem frame_kernel_ideal : Cert.quiescent_KernelIdeal := fun m ρ _ =>
  (θ_run Cert.KernelIdeal.defs _ _).mono (fun _ h => ⟨fun c => (h.1 c).2, h.2⟩) (Cert.Mlp.run_main (F := Ideal) m ρ)

theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- Both results are the MLP of each token. -/
theorem algebraic : Cert.algebraic_KernelIdeal_ReferenceIdeal := by
  intro m ρ m' ρ' _ hag
  refine ⟨fun c => Cert.Mlp.glue (Cert.Mlp.D (F := Ideal) m c).out,
    (θ_run Cert.KernelIdeal.defs _ _).mono (fun _ h c => h.1 c) (Cert.Mlp.run_main (F := Ideal) m ρ),
    (θ_run Cert.ReferenceIdeal.defs _ _).mono (fun _ h c => ⟨(h c).1.trans ?_, (h c).2⟩) (Cert.ReferenceIdeal.Value.run (F := Ideal) m' ρ')⟩
  obtain ⟨e0, e1, e2, e3, e4⟩ := hag c
  funext i
  idx_vars i
  refine (Cert.Mlp.ref_token m' c _ _).trans (Eq.trans ?_ (Cert.Mlp.kernel_token m c _ _).symm)
  rw [e0, e1, e2, e3, e4]

theorem frame_kernel2 : Cert.quiescent_Kernel2 := fun m ρ _ => Cert.InProj.run_word m ρ

theorem frame_kernel2_ideal : Cert.quiescent_Kernel2Ideal := fun m ρ _ =>
  (θ_run Cert.Kernel2Ideal.defs _ _).mono (fun _ h => ⟨fun c => (h.1 c).2, h.2⟩) (Cert.InProj.run_main (F := Ideal) m ρ)

theorem frame_reference2 : Cert.quiescent_Reference2Ideal := by
  intro m ρ _
  refine (θ_run Cert.Reference2Ideal.defs _ _).mono (fun r h => ⟨fun c => ?_, sem_eq_zero_of_no_sems (by decide) r.2⟩)
    (Cert.InProj.run_reference m ρ)
  obtain ⟨-, -, -, -, -, -, -, -, -, hk⟩ := h c
  exact hk

open Cert.InProj in
/-- Both programs' results are the projections of each token, and the weights. -/
theorem algebraic2 : Cert.algebraic_Kernel2Ideal_Reference2Ideal := by
  intro m ρ m' ρ' _ hag
  refine ⟨fun c => zR (argK m c Cert.Kernel2Ideal.main_arg0) (argK m c Cert.Kernel2Ideal.main_arg1) (argK m c Cert.Kernel2Ideal.main_arg2),
    fun c => aR (argK m c Cert.Kernel2Ideal.main_arg0) (argK m c Cert.Kernel2Ideal.main_arg1) (argK m c Cert.Kernel2Ideal.main_arg2),
    fun c => sR (argK m c Cert.Kernel2Ideal.main_arg0) (argK m c Cert.Kernel2Ideal.main_arg1) (argK m c Cert.Kernel2Ideal.main_arg2),
    fun c => rR (argK m c Cert.Kernel2Ideal.main_arg0) (argK m c Cert.Kernel2Ideal.main_arg1) (argK m c Cert.Kernel2Ideal.main_arg2),
    fun c => flat (a := 1024) (b := 2048) (argK m c Cert.Kernel2Ideal.main_arg3),
    fun c => flat (a := 1024) (b := 2048) (argK m c Cert.Kernel2Ideal.main_arg4),
    fun c => flat (a := 2048) (b := 2048) (argK m c Cert.Kernel2Ideal.main_arg5),
    fun c => flat (a := 2048) (b := 8192) (argK m c Cert.Kernel2Ideal.main_arg6),
    fun c => flat (a := 8192) (b := 2048) (argK m c Cert.Kernel2Ideal.main_arg7), ?_, ?_⟩
  · exact (θ_run Cert.Kernel2Ideal.defs _ _).mono (fun r h c =>
      ⟨((h.1 c).1 7).trans (final_z m c), ((h.1 c).1 8).trans (final_a m c), ((h.1 c).1 9).trans (final_s m c),
        ((h.1 c).1 10).trans (final_r m c), ((h.1 c).1 11).trans (final_p m c), ((h.1 c).1 12).trans (final_q m c),
        ((h.1 c).1 13).trans (final_o m c), ((h.1 c).1 14).trans (final_u m c), ((h.1 c).1 15).trans (final_d m c), (h.1 c).2⟩)
      (run_main (F := Ideal) m ρ)
  · refine (θ_run Cert.Reference2Ideal.defs _ _).mono (fun r h c => ?_) (run_reference m' ρ')
    obtain ⟨h0, h1, h2, h3, h4, h5, h6, h7, h8, hk⟩ := h c
    obtain ⟨e0, e1, e2, e3, e4, e5, e6, e7⟩ := hag c
    unfold argR at h0 h1 h2 h3 h4 h5 h6 h7 h8
    rw [e0, e1, e2] at h0 h1 h2 h3
    rw [e3] at h4
    rw [e4] at h5
    rw [e5] at h6
    rw [e6] at h7
    rw [e7] at h8
    exact ⟨h0, h1, h2, h3, h4, h5, h6, h7, h8, hk⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    frame_kernel, frame_kernel_ideal, frame_reference, frame_kernel2, frame_kernel2_ideal, frame_reference2,
    trivial, algebraic, trivial, algebraic2⟩

end Cert.Proof

end
